-- ==== Defs.lean ====
def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_finite_scores [hPre_finite_scores : Cert.Pre_finite_scores.Facts] (m : (ℓ : Loc Cert.FlashIdeal.nD Cert.FlashIdeal.τ Cert.FlashIdeal.sig) → Buf (Elt Ideal) ℓ) : Prop :=
  ∀ c : Dev Cert.FlashIdeal.nD,
    (Cert.Pre_finite_scores.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))) = (fun _ => 1#1)

def Pre_FlashRefIdeal (m : (ℓ : Loc Cert.FlashRefIdeal.nD Cert.FlashRefIdeal.τ Cert.FlashRefIdeal.sig) → Buf (Elt Ideal) ℓ) : Prop :=
  True

def Pre_FlashRefIdeal_finite_scores [hPre_finite_scores : Cert.Pre_finite_scores.Facts] (m : (ℓ : Loc Cert.FlashRefIdeal.nD Cert.FlashRefIdeal.τ Cert.FlashRefIdeal.sig) → Buf (Elt Ideal) ℓ) : Prop :=
  ∀ c : Dev Cert.FlashRefIdeal.nD,
    (Cert.Pre_finite_scores.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_GdnIn (m : (ℓ : Loc Cert.GdnIn.nD Cert.GdnIn.τ Cert.GdnIn.sig) → Buf (Elt Bits) ℓ) : Prop :=
  True

def Pre_GdnInIdeal (m : (ℓ : Loc Cert.GdnInIdeal.nD Cert.GdnInIdeal.τ Cert.GdnInIdeal.sig) → Buf (Elt Ideal) ℓ) : Prop :=
  True

def Pre_GdnInRefIdeal (m : (ℓ : Loc Cert.GdnInRefIdeal.nD Cert.GdnInRefIdeal.τ Cert.GdnInRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnIdeal_finite_memory [hPre_finite_memory : Cert.Pre_finite_memory.Facts] (m : (ℓ : Loc Cert.MemAttnIdeal.nD Cert.MemAttnIdeal.τ Cert.MemAttnIdeal.sig) → Buf (Elt Ideal) ℓ) : Prop :=
  ∀ c : Dev Cert.MemAttnIdeal.nD,
    (Cert.Pre_finite_memory.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1))) = (fun _ => 1#1)

def Pre_MemAttnRefIdeal (m : (ℓ : Loc Cert.MemAttnRefIdeal.nD Cert.MemAttnRefIdeal.τ Cert.MemAttnRefIdeal.sig) → Buf (Elt Ideal) ℓ) : Prop :=
  True

def Pre_MemAttnRefIdeal_finite_memory [hPre_finite_memory : Cert.Pre_finite_memory.Facts] (m : (ℓ : Loc Cert.MemAttnRefIdeal.nD Cert.MemAttnRefIdeal.τ Cert.MemAttnRefIdeal.sig) → Buf (Elt Ideal) ℓ) : Prop :=
  ∀ c : Dev Cert.MemAttnRefIdeal.nD,
    (Cert.Pre_finite_memory.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1))) = (fun _ => 1#1)

def Pre_MlaIn (m : (ℓ : Loc Cert.MlaIn.nD Cert.MlaIn.τ Cert.MlaIn.sig) → Buf (Elt Bits) ℓ) : Prop :=
  True

def Pre_MlaInIdeal (m : (ℓ : Loc Cert.MlaInIdeal.nD Cert.MlaInIdeal.τ Cert.MlaInIdeal.sig) → Buf (Elt Ideal) ℓ) : Prop :=
  True

def Pre_MlaInIdeal_finite_mla_in [hPre_finite_mla_in : Cert.Pre_finite_mla_in.Facts] (m : (ℓ : Loc Cert.MlaInIdeal.nD Cert.MlaInIdeal.τ Cert.MlaInIdeal.sig) → Buf (Elt Ideal) ℓ) : Prop :=
  ∀ c : Dev Cert.MlaInIdeal.nD,
    (Cert.Pre_finite_mla_in.fn (F := Ideal) (m ((c.tc : Thread Cert.MlaInIdeal.nD Cert.MlaInIdeal.τ).loc Cert.MlaInIdeal.main_arg0)) (m ((c.tc : Thread Cert.MlaInIdeal.nD Cert.MlaInIdeal.τ).loc Cert.MlaInIdeal.main_arg1))) = (fun _ => 1#1)

def Pre_MlaInRefIdeal (m : (ℓ : Loc Cert.MlaInRefIdeal.nD Cert.MlaInRefIdeal.τ Cert.MlaInRefIdeal.sig) → Buf (Elt Ideal) ℓ) : Prop :=
  True

def Pre_MlaInRefIdeal_finite_mla_in [hPre_finite_mla_in : Cert.Pre_finite_mla_in.Facts] (m : (ℓ : Loc Cert.MlaInRefIdeal.nD Cert.MlaInRefIdeal.τ Cert.MlaInRefIdeal.sig) → Buf (Elt Ideal) ℓ) : Prop :=
  ∀ c : Dev Cert.MlaInRefIdeal.nD,
    (Cert.Pre_finite_mla_in.fn (F := Ideal) (m ((c.tc : Thread Cert.MlaInRefIdeal.nD Cert.MlaInRefIdeal.τ).loc Cert.MlaInRefIdeal.main_arg0)) (m ((c.tc : Thread Cert.MlaInRefIdeal.nD Cert.MlaInRefIdeal.τ).loc Cert.MlaInRefIdeal.main_arg1))) = (fun _ => 1#1)

def Pre_KvUp (m : (ℓ : Loc Cert.KvUp.nD Cert.KvUp.τ Cert.KvUp.sig) → Buf (Elt Bits) ℓ) : Prop :=
  True

def Pre_KvUpIdeal (m : (ℓ : Loc Cert.KvUpIdeal.nD Cert.KvUpIdeal.τ Cert.KvUpIdeal.sig) → Buf (Elt Ideal) ℓ) : Prop :=
  True

def Pre_KvUpRefIdeal (m : (ℓ : Loc Cert.KvUpRefIdeal.nD Cert.KvUpRefIdeal.τ Cert.KvUpRefIdeal.sig) → Buf (Elt Ideal) ℓ) : Prop :=
  True

def Pre_QUp (m : (ℓ : Loc Cert.QUp.nD Cert.QUp.τ Cert.QUp.sig) → Buf (Elt Bits) ℓ) : Prop :=
  True

def Pre_QUpIdeal (m : (ℓ : Loc Cert.QUpIdeal.nD Cert.QUpIdeal.τ Cert.QUpIdeal.sig) → Buf (Elt Ideal) ℓ) : Prop :=
  True

def Pre_QUpIdeal_finite_q_up [hPre_finite_q_up : Cert.Pre_finite_q_up.Facts] (m : (ℓ : Loc Cert.QUpIdeal.nD Cert.QUpIdeal.τ Cert.QUpIdeal.sig) → Buf (Elt Ideal) ℓ) : Prop :=
  ∀ c : Dev Cert.QUpIdeal.nD,
    (Cert.Pre_finite_q_up.fn (F := Ideal) (m ((c.tc : Thread Cert.QUpIdeal.nD Cert.QUpIdeal.τ).loc Cert.QUpIdeal.main_arg0)) (m ((c.tc : Thread Cert.QUpIdeal.nD Cert.QUpIdeal.τ).loc Cert.QUpIdeal.main_arg1)) (m ((c.tc : Thread Cert.QUpIdeal.nD Cert.QUpIdeal.τ).loc Cert.QUpIdeal.main_arg2)) (m ((c.tc : Thread Cert.QUpIdeal.nD Cert.QUpIdeal.τ).loc Cert.QUpIdeal.main_arg3)) (m ((c.tc : Thread Cert.QUpIdeal.nD Cert.QUpIdeal.τ).loc Cert.QUpIdeal.main_arg4))) = (fun _ => 1#1)

def Pre_QUpRefIdeal (m : (ℓ : Loc Cert.QUpRefIdeal.nD Cert.QUpRefIdeal.τ Cert.QUpRefIdeal.sig) → Buf (Elt Ideal) ℓ) : Prop :=
  True

def Pre_QUpRefIdeal_finite_q_up [hPre_finite_q_up : Cert.Pre_finite_q_up.Facts] (m : (ℓ : Loc Cert.QUpRefIdeal.nD Cert.QUpRefIdeal.τ Cert.QUpRefIdeal.sig) → Buf (Elt Ideal) ℓ) : Prop :=
  ∀ c : Dev Cert.QUpRefIdeal.nD,
    (Cert.Pre_finite_q_up.fn (F := Ideal) (m ((c.tc : Thread Cert.QUpRefIdeal.nD Cert.QUpRefIdeal.τ).loc Cert.QUpRefIdeal.main_arg0)) (m ((c.tc : Thread Cert.QUpRefIdeal.nD Cert.QUpRefIdeal.τ).loc Cert.QUpRefIdeal.main_arg1)) (m ((c.tc : Thread Cert.QUpRefIdeal.nD Cert.QUpRefIdeal.τ).loc Cert.QUpRefIdeal.main_arg2)) (m ((c.tc : Thread Cert.QUpRefIdeal.nD Cert.QUpRefIdeal.τ).loc Cert.QUpRefIdeal.main_arg3)) (m ((c.tc : Thread Cert.QUpRefIdeal.nD Cert.QUpRefIdeal.τ).loc Cert.QUpRefIdeal.main_arg4))) = (fun _ => 1#1)

def Pre_RopeTables (m : (ℓ : Loc Cert.RopeTables.nD Cert.RopeTables.τ Cert.RopeTables.sig) → Buf (Elt Bits) ℓ) : Prop :=
  True

def Pre_RopeTablesIdeal (m : (ℓ : Loc Cert.RopeTablesIdeal.nD Cert.RopeTablesIdeal.τ Cert.RopeTablesIdeal.sig) → Buf (Elt Ideal) ℓ) : Prop :=
  True

def Pre_RopeTablesRefIdeal (m : (ℓ : Loc Cert.RopeTablesRefIdeal.nD Cert.RopeTablesRefIdeal.τ Cert.RopeTablesRefIdeal.sig) → Buf (Elt Ideal) ℓ) : Prop :=
  True

def Pre_GdnGates (m : (ℓ : Loc Cert.GdnGates.nD Cert.GdnGates.τ Cert.GdnGates.sig) → Buf (Elt Bits) ℓ) : Prop :=
  True

def Pre_GdnGatesIdeal (m : (ℓ : Loc Cert.GdnGatesIdeal.nD Cert.GdnGatesIdeal.τ Cert.GdnGatesIdeal.sig) → Buf (Elt Ideal) ℓ) : Prop :=
  True

def Pre_GdnGatesRefIdeal (m : (ℓ : Loc Cert.GdnGatesRefIdeal.nD Cert.GdnGatesRefIdeal.τ Cert.GdnGatesRefIdeal.sig) → Buf (Elt Ideal) ℓ) : Prop :=
  True

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2)
      ∧ r.2.mem ((c.tc : Thread Cert.Flash.nD Cert.Flash.τ).loc Cert.Flash.main_arg3) = m ((c.tc : Thread Cert.Flash.nD Cert.Flash.τ).loc Cert.Flash.main_arg3))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashIdeal_pre_finite_scores [hFlashIdeal : Cert.FlashIdeal.Facts] [hPre_finite_scores : Cert.Pre_finite_scores.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_finite_scores m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashRefIdeal [hFlashRefIdeal : Cert.FlashRefIdeal.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_FlashRefIdeal_pre_finite_scores [hFlashRefIdeal : Cert.FlashRefIdeal.Facts] [hPre_finite_scores : Cert.Pre_finite_scores.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal_finite_scores m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_GdnIn [hGdnIn : Cert.GdnIn.Facts] : Prop :=
  ∀ (m : (ℓ : Loc Cert.GdnIn.nD Cert.GdnIn.τ Cert.GdnIn.sig) → Buf (Elt Bits) ℓ) (g : Dev Cert.GdnIn.nD → PrngReg), Pre_GdnIn m →
    θ_run (Cert.GdnIn.defs (F := Bits)) (onTc (τ := Cert.GdnIn.τ) (Cert.GdnIn.main (F := Bits))) ⟨m, fun _ => 0, g⟩ (fun r => (∀ c : Dev Cert.GdnIn.nD,
      r.2.mem ((c.tc : Thread Cert.GdnIn.nD Cert.GdnIn.τ).loc Cert.GdnIn.main_arg0) = m ((c.tc : Thread Cert.GdnIn.nD Cert.GdnIn.τ).loc Cert.GdnIn.main_arg0)
      ∧ r.2.mem ((c.tc : Thread Cert.GdnIn.nD Cert.GdnIn.τ).loc Cert.GdnIn.main_arg1) = m ((c.tc : Thread Cert.GdnIn.nD Cert.GdnIn.τ).loc Cert.GdnIn.main_arg1))
      ∧ r.2.sem = fun _ => 0)

def quiescent_GdnInIdeal [hGdnInIdeal : Cert.GdnInIdeal.Facts] : Prop :=
  ∀ (m : (ℓ : Loc Cert.GdnInIdeal.nD Cert.GdnInIdeal.τ Cert.GdnInIdeal.sig) → Buf (Elt Ideal) ℓ) (g : Dev Cert.GdnInIdeal.nD → PrngReg), Pre_GdnInIdeal m →
    θ_run (Cert.GdnInIdeal.defs (F := Ideal)) (onTc (τ := Cert.GdnInIdeal.τ) (Cert.GdnInIdeal.main (F := Ideal))) ⟨m, fun _ => 0, g⟩ (fun r => (∀ c : Dev Cert.GdnInIdeal.nD,
      r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
      ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1))
      ∧ r.2.sem = fun _ => 0)

def quiescent_GdnInRefIdeal [hGdnInRefIdeal : Cert.GdnInRefIdeal.Facts] : Prop :=
  ∀ (m : (ℓ : Loc Cert.GdnInRefIdeal.nD Cert.GdnInRefIdeal.τ Cert.GdnInRefIdeal.sig) → Buf (Elt Ideal) ℓ) (g : Dev Cert.GdnInRefIdeal.nD → PrngReg), Pre_GdnInRefIdeal m →
    θ_run (Cert.GdnInRefIdeal.defs (F := Ideal)) (onTc (τ := Cert.GdnInRefIdeal.τ) (Cert.GdnInRefIdeal.main (F := Ideal))) ⟨m, fun _ => 0, g⟩ (fun r => (∀ c : Dev Cert.GdnInRefIdeal.nD,
      r.2.mem ((c.tc : Thread Cert.GdnInRefIdeal.nD Cert.GdnInRefIdeal.τ).loc Cert.GdnInRefIdeal.main_arg0) = m ((c.tc : Thread Cert.GdnInRefIdeal.nD Cert.GdnInRefIdeal.τ).loc Cert.GdnInRefIdeal.main_arg0)
      ∧ r.2.mem ((c.tc : Thread Cert.GdnInRefIdeal.nD Cert.GdnInRefIdeal.τ).loc Cert.GdnInRefIdeal.main_arg1) = m ((c.tc : Thread Cert.GdnInRefIdeal.nD Cert.GdnInRefIdeal.τ).loc Cert.GdnInRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ r.2.sem = fun _ => 0)

def quiescent_MemAttnIdeal_pre_finite_memory [hMemAttnIdeal : Cert.MemAttnIdeal.Facts] [hPre_finite_memory : Cert.Pre_finite_memory.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal_finite_memory m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1))
      ∧ r.2.sem = fun _ => 0)

def quiescent_MemAttnRefIdeal_pre_finite_memory [hMemAttnRefIdeal : Cert.MemAttnRefIdeal.Facts] [hPre_finite_memory : Cert.Pre_finite_memory.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal_finite_memory m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1))
      ∧ r.2.sem = fun _ => 0)

def quiescent_MlaIn [hMlaIn : Cert.MlaIn.Facts] : Prop :=
  ∀ (m : (ℓ : Loc Cert.MlaIn.nD Cert.MlaIn.τ Cert.MlaIn.sig) → Buf (Elt Bits) ℓ) (g : Dev Cert.MlaIn.nD → PrngReg), Pre_MlaIn m →
    θ_run (Cert.MlaIn.defs (F := Bits)) (onTc (τ := Cert.MlaIn.τ) (Cert.MlaIn.main (F := Bits))) ⟨m, fun _ => 0, g⟩ (fun r => (∀ c : Dev Cert.MlaIn.nD,
      r.2.mem ((c.tc : Thread Cert.MlaIn.nD Cert.MlaIn.τ).loc Cert.MlaIn.main_arg0) = m ((c.tc : Thread Cert.MlaIn.nD Cert.MlaIn.τ).loc Cert.MlaIn.main_arg0)
      ∧ r.2.mem ((c.tc : Thread Cert.MlaIn.nD Cert.MlaIn.τ).loc Cert.MlaIn.main_arg1) = m ((c.tc : Thread Cert.MlaIn.nD Cert.MlaIn.τ).loc Cert.MlaIn.main_arg1))
      ∧ r.2.sem = fun _ => 0)

def quiescent_MlaInIdeal [hMlaInIdeal : Cert.MlaInIdeal.Facts] : Prop :=
  ∀ (m : (ℓ : Loc Cert.MlaInIdeal.nD Cert.MlaInIdeal.τ Cert.MlaInIdeal.sig) → Buf (Elt Ideal) ℓ) (g : Dev Cert.MlaInIdeal.nD → PrngReg), Pre_MlaInIdeal m →
    θ_run (Cert.MlaInIdeal.defs (F := Ideal)) (onTc (τ := Cert.MlaInIdeal.τ) (Cert.MlaInIdeal.main (F := Ideal))) ⟨m, fun _ => 0, g⟩ (fun r => (∀ c : Dev Cert.MlaInIdeal.nD,
      r.2.mem ((c.tc : Thread Cert.MlaInIdeal.nD Cert.MlaInIdeal.τ).loc Cert.MlaInIdeal.main_arg0) = m ((c.tc : Thread Cert.MlaInIdeal.nD Cert.MlaInIdeal.τ).loc Cert.MlaInIdeal.main_arg0)
      ∧ r.2.mem ((c.tc : Thread Cert.MlaInIdeal.nD Cert.MlaInIdeal.τ).loc Cert.MlaInIdeal.main_arg1) = m ((c.tc : Thread Cert.MlaInIdeal.nD Cert.MlaInIdeal.τ).loc Cert.MlaInIdeal.main_arg1))
      ∧ r.2.sem = fun _ => 0)

def quiescent_MlaInIdeal_pre_finite_mla_in [hMlaInIdeal : Cert.MlaInIdeal.Facts] [hPre_finite_mla_in : Cert.Pre_finite_mla_in.Facts] : Prop :=
  ∀ (m : (ℓ : Loc Cert.MlaInIdeal.nD Cert.MlaInIdeal.τ Cert.MlaInIdeal.sig) → Buf (Elt Ideal) ℓ) (g : Dev Cert.MlaInIdeal.nD → PrngReg), Pre_MlaInIdeal_finite_mla_in m →
    θ_run (Cert.MlaInIdeal.defs (F := Ideal)) (onTc (τ := Cert.MlaInIdeal.τ) (Cert.MlaInIdeal.main (F := Ideal))) ⟨m, fun _ => 0, g⟩ (fun r => (∀ c : Dev Cert.MlaInIdeal.nD,
      r.2.mem ((c.tc : Thread Cert.MlaInIdeal.nD Cert.MlaInIdeal.τ).loc Cert.MlaInIdeal.main_arg0) = m ((c.tc : Thread Cert.MlaInIdeal.nD Cert.MlaInIdeal.τ).loc Cert.MlaInIdeal.main_arg0)
      ∧ r.2.mem ((c.tc : Thread Cert.MlaInIdeal.nD Cert.MlaInIdeal.τ).loc Cert.MlaInIdeal.main_arg1) = m ((c.tc : Thread Cert.MlaInIdeal.nD Cert.MlaInIdeal.τ).loc Cert.MlaInIdeal.main_arg1))
      ∧ r.2.sem = fun _ => 0)

def quiescent_MlaInRefIdeal [hMlaInRefIdeal : Cert.MlaInRefIdeal.Facts] : Prop :=
  ∀ (m : (ℓ : Loc Cert.MlaInRefIdeal.nD Cert.MlaInRefIdeal.τ Cert.MlaInRefIdeal.sig) → Buf (Elt Ideal) ℓ) (g : Dev Cert.MlaInRefIdeal.nD → PrngReg), Pre_MlaInRefIdeal m →
    θ_run (Cert.MlaInRefIdeal.defs (F := Ideal)) (onTc (τ := Cert.MlaInRefIdeal.τ) (Cert.MlaInRefIdeal.main (F := Ideal))) ⟨m, fun _ => 0, g⟩ (fun r => (∀ c : Dev Cert.MlaInRefIdeal.nD,
      r.2.mem ((c.tc : Thread Cert.MlaInRefIdeal.nD Cert.MlaInRefIdeal.τ).loc Cert.MlaInRefIdeal.main_arg0) = m ((c.tc : Thread Cert.MlaInRefIdeal.nD Cert.MlaInRefIdeal.τ).loc Cert.MlaInRefIdeal.main_arg0)
      ∧ r.2.mem ((c.tc : Thread Cert.MlaInRefIdeal.nD Cert.MlaInRefIdeal.τ).loc Cert.MlaInRefIdeal.main_arg1) = m ((c.tc : Thread Cert.MlaInRefIdeal.nD Cert.MlaInRefIdeal.τ).loc Cert.MlaInRefIdeal.main_arg1))
      ∧ r.2.sem = fun _ => 0)

def quiescent_MlaInRefIdeal_pre_finite_mla_in [hMlaInRefIdeal : Cert.MlaInRefIdeal.Facts] [hPre_finite_mla_in : Cert.Pre_finite_mla_in.Facts] : Prop :=
  ∀ (m : (ℓ : Loc Cert.MlaInRefIdeal.nD Cert.MlaInRefIdeal.τ Cert.MlaInRefIdeal.sig) → Buf (Elt Ideal) ℓ) (g : Dev Cert.MlaInRefIdeal.nD → PrngReg), Pre_MlaInRefIdeal_finite_mla_in m →
    θ_run (Cert.MlaInRefIdeal.defs (F := Ideal)) (onTc (τ := Cert.MlaInRefIdeal.τ) (Cert.MlaInRefIdeal.main (F := Ideal))) ⟨m, fun _ => 0, g⟩ (fun r => (∀ c : Dev Cert.MlaInRefIdeal.nD,
      r.2.mem ((c.tc : Thread Cert.MlaInRefIdeal.nD Cert.MlaInRefIdeal.τ).loc Cert.MlaInRefIdeal.main_arg0) = m ((c.tc : Thread Cert.MlaInRefIdeal.nD Cert.MlaInRefIdeal.τ).loc Cert.MlaInRefIdeal.main_arg0)
      ∧ r.2.mem ((c.tc : Thread Cert.MlaInRefIdeal.nD Cert.MlaInRefIdeal.τ).loc Cert.MlaInRefIdeal.main_arg1) = m ((c.tc : Thread Cert.MlaInRefIdeal.nD Cert.MlaInRefIdeal.τ).loc Cert.MlaInRefIdeal.main_arg1))
      ∧ r.2.sem = fun _ => 0)

def quiescent_KvUp [hKvUp : Cert.KvUp.Facts] : Prop :=
  ∀ (m : (ℓ : Loc Cert.KvUp.nD Cert.KvUp.τ Cert.KvUp.sig) → Buf (Elt Bits) ℓ) (g : Dev Cert.KvUp.nD → PrngReg), Pre_KvUp m →
    θ_run (Cert.KvUp.defs (F := Bits)) (onTc (τ := Cert.KvUp.τ) (Cert.KvUp.main (F := Bits))) ⟨m, fun _ => 0, g⟩ (fun r => (∀ c : Dev Cert.KvUp.nD,
      r.2.mem ((c.tc : Thread Cert.KvUp.nD Cert.KvUp.τ).loc Cert.KvUp.main_arg0) = m ((c.tc : Thread Cert.KvUp.nD Cert.KvUp.τ).loc Cert.KvUp.main_arg0)
      ∧ r.2.mem ((c.tc : Thread Cert.KvUp.nD Cert.KvUp.τ).loc Cert.KvUp.main_arg1) = m ((c.tc : Thread Cert.KvUp.nD Cert.KvUp.τ).loc Cert.KvUp.main_arg1)
      ∧ r.2.mem ((c.tc : Thread Cert.KvUp.nD Cert.KvUp.τ).loc Cert.KvUp.main_arg2) = m ((c.tc : Thread Cert.KvUp.nD Cert.KvUp.τ).loc Cert.KvUp.main_arg2)
      ∧ r.2.mem ((c.tc : Thread Cert.KvUp.nD Cert.KvUp.τ).loc Cert.KvUp.main_arg3) = m ((c.tc : Thread Cert.KvUp.nD Cert.KvUp.τ).loc Cert.KvUp.main_arg3)
      ∧ r.2.mem ((c.tc : Thread Cert.KvUp.nD Cert.KvUp.τ).loc Cert.KvUp.main_arg4) = m ((c.tc : Thread Cert.KvUp.nD Cert.KvUp.τ).loc Cert.KvUp.main_arg4))
      ∧ r.2.sem = fun _ => 0)

def quiescent_KvUpIdeal [hKvUpIdeal : Cert.KvUpIdeal.Facts] : Prop :=
  ∀ (m : (ℓ : Loc Cert.KvUpIdeal.nD Cert.KvUpIdeal.τ Cert.KvUpIdeal.sig) → Buf (Elt Ideal) ℓ) (g : Dev Cert.KvUpIdeal.nD → PrngReg), Pre_KvUpIdeal m →
    θ_run (Cert.KvUpIdeal.defs (F := Ideal)) (onTc (τ := Cert.KvUpIdeal.τ) (Cert.KvUpIdeal.main (F := Ideal))) ⟨m, fun _ => 0, g⟩ (fun r => (∀ c : Dev Cert.KvUpIdeal.nD,
      r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
      ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1)
      ∧ r.2.mem ((c.tc : Thread Cert.KvUpIdeal.nD Cert.KvUpIdeal.τ).loc Cert.KvUpIdeal.main_arg2) = m ((c.tc : Thread Cert.KvUpIdeal.nD Cert.KvUpIdeal.τ).loc Cert.KvUpIdeal.main_arg2)
      ∧ r.2.mem ((c.tc : Thread Cert.KvUpIdeal.nD Cert.KvUpIdeal.τ).loc Cert.KvUpIdeal.main_arg3) = m ((c.tc : Thread Cert.KvUpIdeal.nD Cert.KvUpIdeal.τ).loc Cert.KvUpIdeal.main_arg3)
      ∧ r.2.mem ((c.tc : Thread Cert.KvUpIdeal.nD Cert.KvUpIdeal.τ).loc Cert.KvUpIdeal.main_arg4) = m ((c.tc : Thread Cert.KvUpIdeal.nD Cert.KvUpIdeal.τ).loc Cert.KvUpIdeal.main_arg4))
      ∧ r.2.sem = fun _ => 0)

def quiescent_KvUpRefIdeal [hKvUpRefIdeal : Cert.KvUpRefIdeal.Facts] : Prop :=
  ∀ (m : (ℓ : Loc Cert.KvUpRefIdeal.nD Cert.KvUpRefIdeal.τ Cert.KvUpRefIdeal.sig) → Buf (Elt Ideal) ℓ) (g : Dev Cert.KvUpRefIdeal.nD → PrngReg), Pre_KvUpRefIdeal m →
    θ_run (Cert.KvUpRefIdeal.defs (F := Ideal)) (onTc (τ := Cert.KvUpRefIdeal.τ) (Cert.KvUpRefIdeal.main (F := Ideal))) ⟨m, fun _ => 0, g⟩ (fun r => (∀ c : Dev Cert.KvUpRefIdeal.nD,
      r.2.mem ((c.tc : Thread Cert.KvUpRefIdeal.nD Cert.KvUpRefIdeal.τ).loc Cert.KvUpRefIdeal.main_arg0) = m ((c.tc : Thread Cert.KvUpRefIdeal.nD Cert.KvUpRefIdeal.τ).loc Cert.KvUpRefIdeal.main_arg0)
      ∧ r.2.mem ((c.tc : Thread Cert.KvUpRefIdeal.nD Cert.KvUpRefIdeal.τ).loc Cert.KvUpRefIdeal.main_arg1) = m ((c.tc : Thread Cert.KvUpRefIdeal.nD Cert.KvUpRefIdeal.τ).loc Cert.KvUpRefIdeal.main_arg1)
      ∧ r.2.mem ((c.tc : Thread Cert.KvUpRefIdeal.nD Cert.KvUpRefIdeal.τ).loc Cert.KvUpRefIdeal.main_arg2) = m ((c.tc : Thread Cert.KvUpRefIdeal.nD Cert.KvUpRefIdeal.τ).loc Cert.KvUpRefIdeal.main_arg2)
      ∧ r.2.mem ((c.tc : Thread Cert.KvUpRefIdeal.nD Cert.KvUpRefIdeal.τ).loc Cert.KvUpRefIdeal.main_arg3) = m ((c.tc : Thread Cert.KvUpRefIdeal.nD Cert.KvUpRefIdeal.τ).loc Cert.KvUpRefIdeal.main_arg3)
      ∧ r.2.mem ((c.tc : Thread Cert.KvUpRefIdeal.nD Cert.KvUpRefIdeal.τ).loc Cert.KvUpRefIdeal.main_arg4) = m ((c.tc : Thread Cert.KvUpRefIdeal.nD Cert.KvUpRefIdeal.τ).loc Cert.KvUpRefIdeal.main_arg4))
      ∧ r.2.sem = fun _ => 0)

def quiescent_QUp [hQUp : Cert.QUp.Facts] : Prop :=
  ∀ (m : (ℓ : Loc Cert.QUp.nD Cert.QUp.τ Cert.QUp.sig) → Buf (Elt Bits) ℓ) (g : Dev Cert.QUp.nD → PrngReg), Pre_QUp m →
    θ_run (Cert.QUp.defs (F := Bits)) (onTc (τ := Cert.QUp.τ) (Cert.QUp.main (F := Bits))) ⟨m, fun _ => 0, g⟩ (fun r => (∀ c : Dev Cert.QUp.nD,
      r.2.mem ((c.tc : Thread Cert.QUp.nD Cert.QUp.τ).loc Cert.QUp.main_arg0) = m ((c.tc : Thread Cert.QUp.nD Cert.QUp.τ).loc Cert.QUp.main_arg0)
      ∧ r.2.mem ((c.tc : Thread Cert.QUp.nD Cert.QUp.τ).loc Cert.QUp.main_arg1) = m ((c.tc : Thread Cert.QUp.nD Cert.QUp.τ).loc Cert.QUp.main_arg1)
      ∧ r.2.mem ((c.tc : Thread Cert.QUp.nD Cert.QUp.τ).loc Cert.QUp.main_arg2) = m ((c.tc : Thread Cert.QUp.nD Cert.QUp.τ).loc Cert.QUp.main_arg2)
      ∧ r.2.mem ((c.tc : Thread Cert.QUp.nD Cert.QUp.τ).loc Cert.QUp.main_arg3) = m ((c.tc : Thread Cert.QUp.nD Cert.QUp.τ).loc Cert.QUp.main_arg3)
      ∧ r.2.mem ((c.tc : Thread Cert.QUp.nD Cert.QUp.τ).loc Cert.QUp.main_arg4) = m ((c.tc : Thread Cert.QUp.nD Cert.QUp.τ).loc Cert.QUp.main_arg4))
      ∧ r.2.sem = fun _ => 0)

def quiescent_QUpIdeal [hQUpIdeal : Cert.QUpIdeal.Facts] : Prop :=
  ∀ (m : (ℓ : Loc Cert.QUpIdeal.nD Cert.QUpIdeal.τ Cert.QUpIdeal.sig) → Buf (Elt Ideal) ℓ) (g : Dev Cert.QUpIdeal.nD → PrngReg), Pre_QUpIdeal m →
    θ_run (Cert.QUpIdeal.defs (F := Ideal)) (onTc (τ := Cert.QUpIdeal.τ) (Cert.QUpIdeal.main (F := Ideal))) ⟨m, fun _ => 0, g⟩ (fun r => (∀ c : Dev Cert.QUpIdeal.nD,
      r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
      ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1)
      ∧ r.2.mem ((c.tc : Thread Cert.QUpIdeal.nD Cert.QUpIdeal.τ).loc Cert.QUpIdeal.main_arg2) = m ((c.tc : Thread Cert.QUpIdeal.nD Cert.QUpIdeal.τ).loc Cert.QUpIdeal.main_arg2)
      ∧ r.2.mem ((c.tc : Thread Cert.QUpIdeal.nD Cert.QUpIdeal.τ).loc Cert.QUpIdeal.main_arg3) = m ((c.tc : Thread Cert.QUpIdeal.nD Cert.QUpIdeal.τ).loc Cert.QUpIdeal.main_arg3)
      ∧ r.2.mem ((c.tc : Thread Cert.QUpIdeal.nD Cert.QUpIdeal.τ).loc Cert.QUpIdeal.main_arg4) = m ((c.tc : Thread Cert.QUpIdeal.nD Cert.QUpIdeal.τ).loc Cert.QUpIdeal.main_arg4))
      ∧ r.2.sem = fun _ => 0)

def quiescent_QUpIdeal_pre_finite_q_up [hQUpIdeal : Cert.QUpIdeal.Facts] [hPre_finite_q_up : Cert.Pre_finite_q_up.Facts] : Prop :=
  ∀ (m : (ℓ : Loc Cert.QUpIdeal.nD Cert.QUpIdeal.τ Cert.QUpIdeal.sig) → Buf (Elt Ideal) ℓ) (g : Dev Cert.QUpIdeal.nD → PrngReg), Pre_QUpIdeal_finite_q_up m →
    θ_run (Cert.QUpIdeal.defs (F := Ideal)) (onTc (τ := Cert.QUpIdeal.τ) (Cert.QUpIdeal.main (F := Ideal))) ⟨m, fun _ => 0, g⟩ (fun r => (∀ c : Dev Cert.QUpIdeal.nD,
      r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
      ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1)
      ∧ r.2.mem ((c.tc : Thread Cert.QUpIdeal.nD Cert.QUpIdeal.τ).loc Cert.QUpIdeal.main_arg2) = m ((c.tc : Thread Cert.QUpIdeal.nD Cert.QUpIdeal.τ).loc Cert.QUpIdeal.main_arg2)
      ∧ r.2.mem ((c.tc : Thread Cert.QUpIdeal.nD Cert.QUpIdeal.τ).loc Cert.QUpIdeal.main_arg3) = m ((c.tc : Thread Cert.QUpIdeal.nD Cert.QUpIdeal.τ).loc Cert.QUpIdeal.main_arg3)
      ∧ r.2.mem ((c.tc : Thread Cert.QUpIdeal.nD Cert.QUpIdeal.τ).loc Cert.QUpIdeal.main_arg4) = m ((c.tc : Thread Cert.QUpIdeal.nD Cert.QUpIdeal.τ).loc Cert.QUpIdeal.main_arg4))
      ∧ r.2.sem = fun _ => 0)

def quiescent_QUpRefIdeal [hQUpRefIdeal : Cert.QUpRefIdeal.Facts] : Prop :=
  ∀ (m : (ℓ : Loc Cert.QUpRefIdeal.nD Cert.QUpRefIdeal.τ Cert.QUpRefIdeal.sig) → Buf (Elt Ideal) ℓ) (g : Dev Cert.QUpRefIdeal.nD → PrngReg), Pre_QUpRefIdeal m →
    θ_run (Cert.QUpRefIdeal.defs (F := Ideal)) (onTc (τ := Cert.QUpRefIdeal.τ) (Cert.QUpRefIdeal.main (F := Ideal))) ⟨m, fun _ => 0, g⟩ (fun r => (∀ c : Dev Cert.QUpRefIdeal.nD,
      r.2.mem ((c.tc : Thread Cert.QUpRefIdeal.nD Cert.QUpRefIdeal.τ).loc Cert.QUpRefIdeal.main_arg0) = m ((c.tc : Thread Cert.QUpRefIdeal.nD Cert.QUpRefIdeal.τ).loc Cert.QUpRefIdeal.main_arg0)
      ∧ r.2.mem ((c.tc : Thread Cert.QUpRefIdeal.nD Cert.QUpRefIdeal.τ).loc Cert.QUpRefIdeal.main_arg1) = m ((c.tc : Thread Cert.QUpRefIdeal.nD Cert.QUpRefIdeal.τ).loc Cert.QUpRefIdeal.main_arg1)
      ∧ r.2.mem ((c.tc : Thread Cert.QUpRefIdeal.nD Cert.QUpRefIdeal.τ).loc Cert.QUpRefIdeal.main_arg2) = m ((c.tc : Thread Cert.QUpRefIdeal.nD Cert.QUpRefIdeal.τ).loc Cert.QUpRefIdeal.main_arg2)
      ∧ r.2.mem ((c.tc : Thread Cert.QUpRefIdeal.nD Cert.QUpRefIdeal.τ).loc Cert.QUpRefIdeal.main_arg3) = m ((c.tc : Thread Cert.QUpRefIdeal.nD Cert.QUpRefIdeal.τ).loc Cert.QUpRefIdeal.main_arg3)
      ∧ r.2.mem ((c.tc : Thread Cert.QUpRefIdeal.nD Cert.QUpRefIdeal.τ).loc Cert.QUpRefIdeal.main_arg4) = m ((c.tc : Thread Cert.QUpRefIdeal.nD Cert.QUpRefIdeal.τ).loc Cert.QUpRefIdeal.main_arg4))
      ∧ r.2.sem = fun _ => 0)

def quiescent_QUpRefIdeal_pre_finite_q_up [hQUpRefIdeal : Cert.QUpRefIdeal.Facts] [hPre_finite_q_up : Cert.Pre_finite_q_up.Facts] : Prop :=
  ∀ (m : (ℓ : Loc Cert.QUpRefIdeal.nD Cert.QUpRefIdeal.τ Cert.QUpRefIdeal.sig) → Buf (Elt Ideal) ℓ) (g : Dev Cert.QUpRefIdeal.nD → PrngReg), Pre_QUpRefIdeal_finite_q_up m →
    θ_run (Cert.QUpRefIdeal.defs (F := Ideal)) (onTc (τ := Cert.QUpRefIdeal.τ) (Cert.QUpRefIdeal.main (F := Ideal))) ⟨m, fun _ => 0, g⟩ (fun r => (∀ c : Dev Cert.QUpRefIdeal.nD,
      r.2.mem ((c.tc : Thread Cert.QUpRefIdeal.nD Cert.QUpRefIdeal.τ).loc Cert.QUpRefIdeal.main_arg0) = m ((c.tc : Thread Cert.QUpRefIdeal.nD Cert.QUpRefIdeal.τ).loc Cert.QUpRefIdeal.main_arg0)
      ∧ r.2.mem ((c.tc : Thread Cert.QUpRefIdeal.nD Cert.QUpRefIdeal.τ).loc Cert.QUpRefIdeal.main_arg1) = m ((c.tc : Thread Cert.QUpRefIdeal.nD Cert.QUpRefIdeal.τ).loc Cert.QUpRefIdeal.main_arg1)
      ∧ r.2.mem ((c.tc : Thread Cert.QUpRefIdeal.nD Cert.QUpRefIdeal.τ).loc Cert.QUpRefIdeal.main_arg2) = m ((c.tc : Thread Cert.QUpRefIdeal.nD Cert.QUpRefIdeal.τ).loc Cert.QUpRefIdeal.main_arg2)
      ∧ r.2.mem ((c.tc : Thread Cert.QUpRefIdeal.nD Cert.QUpRefIdeal.τ).loc Cert.QUpRefIdeal.main_arg3) = m ((c.tc : Thread Cert.QUpRefIdeal.nD Cert.QUpRefIdeal.τ).loc Cert.QUpRefIdeal.main_arg3)
      ∧ r.2.mem ((c.tc : Thread Cert.QUpRefIdeal.nD Cert.QUpRefIdeal.τ).loc Cert.QUpRefIdeal.main_arg4) = m ((c.tc : Thread Cert.QUpRefIdeal.nD Cert.QUpRefIdeal.τ).loc Cert.QUpRefIdeal.main_arg4))
      ∧ r.2.sem = fun _ => 0)

def quiescent_RopeTables [hRopeTables : Cert.RopeTables.Facts] : Prop :=
  ∀ (m : (ℓ : Loc Cert.RopeTables.nD Cert.RopeTables.τ Cert.RopeTables.sig) → Buf (Elt Bits) ℓ) (g : Dev Cert.RopeTables.nD → PrngReg), Pre_RopeTables m →
    θ_run (Cert.RopeTables.defs (F := Bits)) (onTc (τ := Cert.RopeTables.τ) (Cert.RopeTables.main (F := Bits))) ⟨m, fun _ => 0, g⟩ (fun r => (∀ c : Dev Cert.RopeTables.nD,
      r.2.mem ((c.tc : Thread Cert.RopeTables.nD Cert.RopeTables.τ).loc Cert.RopeTables.main_arg0) = m ((c.tc : Thread Cert.RopeTables.nD Cert.RopeTables.τ).loc Cert.RopeTables.main_arg0))
      ∧ r.2.sem = fun _ => 0)

def quiescent_RopeTablesIdeal [hRopeTablesIdeal : Cert.RopeTablesIdeal.Facts] : Prop :=
  ∀ (m : (ℓ : Loc Cert.RopeTablesIdeal.nD Cert.RopeTablesIdeal.τ Cert.RopeTablesIdeal.sig) → Buf (Elt Ideal) ℓ) (g : Dev Cert.RopeTablesIdeal.nD → PrngReg), Pre_RopeTablesIdeal m →
    θ_run (Cert.RopeTablesIdeal.defs (F := Ideal)) (onTc (τ := Cert.RopeTablesIdeal.τ) (Cert.RopeTablesIdeal.main (F := Ideal))) ⟨m, fun _ => 0, g⟩ (fun r => (∀ c : Dev Cert.RopeTablesIdeal.nD,
      r.2.mem ((c.tc : Thread Cert.RopeTablesIdeal.nD Cert.RopeTablesIdeal.τ).loc Cert.RopeTablesIdeal.main_arg0) = m ((c.tc : Thread Cert.RopeTablesIdeal.nD Cert.RopeTablesIdeal.τ).loc Cert.RopeTablesIdeal.main_arg0))
      ∧ r.2.sem = fun _ => 0)

def quiescent_RopeTablesRefIdeal [hRopeTablesRefIdeal : Cert.RopeTablesRefIdeal.Facts] : Prop :=
  ∀ (m : (ℓ : Loc Cert.RopeTablesRefIdeal.nD Cert.RopeTablesRefIdeal.τ Cert.RopeTablesRefIdeal.sig) → Buf (Elt Ideal) ℓ) (g : Dev Cert.RopeTablesRefIdeal.nD → PrngReg), Pre_RopeTablesRefIdeal m →
    θ_run (Cert.RopeTablesRefIdeal.defs (F := Ideal)) (onTc (τ := Cert.RopeTablesRefIdeal.τ) (Cert.RopeTablesRefIdeal.main (F := Ideal))) ⟨m, fun _ => 0, g⟩ (fun r => (∀ c : Dev Cert.RopeTablesRefIdeal.nD,
      r.2.mem ((c.tc : Thread Cert.RopeTablesRefIdeal.nD Cert.RopeTablesRefIdeal.τ).loc Cert.RopeTablesRefIdeal.main_arg0) = m ((c.tc : Thread Cert.RopeTablesRefIdeal.nD Cert.RopeTablesRefIdeal.τ).loc Cert.RopeTablesRefIdeal.main_arg0))
      ∧ r.2.sem = fun _ => 0)

def quiescent_GdnGates [hGdnGates : Cert.GdnGates.Facts] : Prop :=
  ∀ (m : (ℓ : Loc Cert.GdnGates.nD Cert.GdnGates.τ Cert.GdnGates.sig) → Buf (Elt Bits) ℓ) (g : Dev Cert.GdnGates.nD → PrngReg), Pre_GdnGates m →
    θ_run (Cert.GdnGates.defs (F := Bits)) (onTc (τ := Cert.GdnGates.τ) (Cert.GdnGates.main (F := Bits))) ⟨m, fun _ => 0, g⟩ (fun r => (∀ c : Dev Cert.GdnGates.nD,
      r.2.mem ((c.tc : Thread Cert.GdnGates.nD Cert.GdnGates.τ).loc Cert.GdnGates.main_arg0) = m ((c.tc : Thread Cert.GdnGates.nD Cert.GdnGates.τ).loc Cert.GdnGates.main_arg0)
      ∧ r.2.mem ((c.tc : Thread Cert.GdnGates.nD Cert.GdnGates.τ).loc Cert.GdnGates.main_arg1) = m ((c.tc : Thread Cert.GdnGates.nD Cert.GdnGates.τ).loc Cert.GdnGates.main_arg1)
      ∧ r.2.mem ((c.tc : Thread Cert.GdnGates.nD Cert.GdnGates.τ).loc Cert.GdnGates.main_arg2) = m ((c.tc : Thread Cert.GdnGates.nD Cert.GdnGates.τ).loc Cert.GdnGates.main_arg2))
      ∧ r.2.sem = fun _ => 0)

def quiescent_GdnGatesIdeal [hGdnGatesIdeal : Cert.GdnGatesIdeal.Facts] : Prop :=
  ∀ (m : (ℓ : Loc Cert.GdnGatesIdeal.nD Cert.GdnGatesIdeal.τ Cert.GdnGatesIdeal.sig) → Buf (Elt Ideal) ℓ) (g : Dev Cert.GdnGatesIdeal.nD → PrngReg), Pre_GdnGatesIdeal m →
    θ_run (Cert.GdnGatesIdeal.defs (F := Ideal)) (onTc (τ := Cert.GdnGatesIdeal.τ) (Cert.GdnGatesIdeal.main (F := Ideal))) ⟨m, fun _ => 0, g⟩ (fun r => (∀ c : Dev Cert.GdnGatesIdeal.nD,
      r.2.mem ((c.tc : Thread Cert.GdnGatesIdeal.nD Cert.GdnGatesIdeal.τ).loc Cert.GdnGatesIdeal.main_arg0) = m ((c.tc : Thread Cert.GdnGatesIdeal.nD Cert.GdnGatesIdeal.τ).loc Cert.GdnGatesIdeal.main_arg0)
      ∧ r.2.mem ((c.tc : Thread Cert.GdnGatesIdeal.nD Cert.GdnGatesIdeal.τ).loc Cert.GdnGatesIdeal.main_arg1) = m ((c.tc : Thread Cert.GdnGatesIdeal.nD Cert.GdnGatesIdeal.τ).loc Cert.GdnGatesIdeal.main_arg1)
      ∧ r.2.mem ((c.tc : Thread Cert.GdnGatesIdeal.nD Cert.GdnGatesIdeal.τ).loc Cert.GdnGatesIdeal.main_arg2) = m ((c.tc : Thread Cert.GdnGatesIdeal.nD Cert.GdnGatesIdeal.τ).loc Cert.GdnGatesIdeal.main_arg2))
      ∧ r.2.sem = fun _ => 0)

def quiescent_GdnGatesRefIdeal [hGdnGatesRefIdeal : Cert.GdnGatesRefIdeal.Facts] : Prop :=
  ∀ (m : (ℓ : Loc Cert.GdnGatesRefIdeal.nD Cert.GdnGatesRefIdeal.τ Cert.GdnGatesRefIdeal.sig) → Buf (Elt Ideal) ℓ) (g : Dev Cert.GdnGatesRefIdeal.nD → PrngReg), Pre_GdnGatesRefIdeal m →
    θ_run (Cert.GdnGatesRefIdeal.defs (F := Ideal)) (onTc (τ := Cert.GdnGatesRefIdeal.τ) (Cert.GdnGatesRefIdeal.main (F := Ideal))) ⟨m, fun _ => 0, g⟩ (fun r => (∀ c : Dev Cert.GdnGatesRefIdeal.nD,
      r.2.mem ((c.tc : Thread Cert.GdnGatesRefIdeal.nD Cert.GdnGatesRefIdeal.τ).loc Cert.GdnGatesRefIdeal.main_arg0) = m ((c.tc : Thread Cert.GdnGatesRefIdeal.nD Cert.GdnGatesRefIdeal.τ).loc Cert.GdnGatesRefIdeal.main_arg0)
      ∧ r.2.mem ((c.tc : Thread Cert.GdnGatesRefIdeal.nD Cert.GdnGatesRefIdeal.τ).loc Cert.GdnGatesRefIdeal.main_arg1) = m ((c.tc : Thread Cert.GdnGatesRefIdeal.nD Cert.GdnGatesRefIdeal.τ).loc Cert.GdnGatesRefIdeal.main_arg1)
      ∧ r.2.mem ((c.tc : Thread Cert.GdnGatesRefIdeal.nD Cert.GdnGatesRefIdeal.τ).loc Cert.GdnGatesRefIdeal.main_arg2) = m ((c.tc : Thread Cert.GdnGatesRefIdeal.nD Cert.GdnGatesRefIdeal.τ).loc Cert.GdnGatesRefIdeal.main_arg2))
      ∧ r.2.sem = fun _ => 0)

def preserves_Flash_FlashIdeal : Prop :=
  True

def algebraic_FlashIdeal_FlashRefIdeal_pre_finite_scores [hFlashIdeal : Cert.FlashIdeal.Facts] [hFlashRefIdeal : Cert.FlashRefIdeal.Facts] [hPre_finite_scores : Cert.Pre_finite_scores.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashRefIdeal.nD Cert.FlashRefIdeal.τ Cert.FlashRefIdeal.sig) → Buf (Elt Ideal) ℓ) (g' : Dev Cert.FlashRefIdeal.nD → PrngReg), Pre_FlashIdeal_finite_scores m →
    (∀ c : Dev Cert.FlashIdeal.nD,
      m' ((c.tc : Thread Cert.FlashRefIdeal.nD Cert.FlashRefIdeal.τ).loc Cert.FlashRefIdeal.main_arg0) = m ((c.tc : Thread Cert.FlashIdeal.nD Cert.FlashIdeal.τ).loc Cert.FlashIdeal.main_arg0)
      ∧ m' ((c.tc : Thread Cert.FlashRefIdeal.nD Cert.FlashRefIdeal.τ).loc Cert.FlashRefIdeal.main_arg1) = m ((c.tc : Thread Cert.FlashIdeal.nD Cert.FlashIdeal.τ).loc Cert.FlashIdeal.main_arg1)
      ∧ m' ((c.tc : Thread Cert.FlashRefIdeal.nD Cert.FlashRefIdeal.τ).loc Cert.FlashRefIdeal.main_arg2) = m ((c.tc : Thread Cert.FlashIdeal.nD Cert.FlashIdeal.τ).loc Cert.FlashIdeal.main_arg2)
      ∧ m' ((c.tc : Thread Cert.FlashRefIdeal.nD Cert.FlashRefIdeal.τ).loc Cert.FlashRefIdeal.main_arg3) = m ((c.tc : Thread Cert.FlashIdeal.nD Cert.FlashIdeal.τ).loc Cert.FlashIdeal.main_arg3)) →
    ∃ (v0 : (c : Dev Cert.FlashIdeal.nD) → Buf (Elt Ideal) ((c.tc : Thread Cert.FlashIdeal.nD Cert.FlashIdeal.τ).loc Cert.FlashIdeal.main_v0)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v0) = v0 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
          ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ θ_run (Cert.FlashRefIdeal.defs (F := Ideal)) (onTc (τ := Cert.FlashRefIdeal.τ) (Cert.FlashRefIdeal.main (F := Ideal))) ⟨m', fun _ => 0, g'⟩ (fun r => ∀ c : Dev Cert.FlashRefIdeal.nD,
          r.2.mem ((c.tc : Thread Cert.FlashRefIdeal.nD Cert.FlashRefIdeal.τ).loc Cert.FlashRefIdeal.main_v32) = v0 c
          ∧ r.2.mem ((c.tc : Thread Cert.FlashRefIdeal.nD Cert.FlashRefIdeal.τ).loc Cert.FlashRefIdeal.main_arg0) = m' ((c.tc : Thread Cert.FlashRefIdeal.nD Cert.FlashRefIdeal.τ).loc Cert.FlashRefIdeal.main_arg0)
          ∧ r.2.mem ((c.tc : Thread Cert.FlashRefIdeal.nD Cert.FlashRefIdeal.τ).loc Cert.FlashRefIdeal.main_arg1) = m' ((c.tc : Thread Cert.FlashRefIdeal.nD Cert.FlashRefIdeal.τ).loc Cert.FlashRefIdeal.main_arg1)
          ∧ r.2.mem ((c.tc : Thread Cert.FlashRefIdeal.nD Cert.FlashRefIdeal.τ).loc Cert.FlashRefIdeal.main_arg2) = m' ((c.tc : Thread Cert.FlashRefIdeal.nD Cert.FlashRefIdeal.τ).loc Cert.FlashRefIdeal.main_arg2)
          ∧ r.2.mem ((c.tc : Thread Cert.FlashRefIdeal.nD Cert.FlashRefIdeal.τ).loc Cert.FlashRefIdeal.main_arg3) = m' ((c.tc : Thread Cert.FlashRefIdeal.nD Cert.FlashRefIdeal.τ).loc Cert.FlashRefIdeal.main_arg3))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v0)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v30) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_GdnIn_GdnInIdeal : Prop :=
  True

def algebraic_GdnInIdeal_GdnInRefIdeal [hGdnInIdeal : Cert.GdnInIdeal.Facts] [hGdnInRefIdeal : Cert.GdnInRefIdeal.Facts] : Prop :=
  ∀ (m : (ℓ : Loc Cert.GdnInIdeal.nD Cert.GdnInIdeal.τ Cert.GdnInIdeal.sig) → Buf (Elt Ideal) ℓ) (g : Dev Cert.GdnInIdeal.nD → PrngReg)
    (m' : (ℓ : Loc Cert.GdnInRefIdeal.nD Cert.GdnInRefIdeal.τ Cert.GdnInRefIdeal.sig) → Buf (Elt Ideal) ℓ) (g' : Dev Cert.GdnInRefIdeal.nD → PrngReg), Pre_GdnInIdeal m →
    (∀ c : Dev Cert.GdnInIdeal.nD,
      m' ((c.tc : Thread Cert.GdnInRefIdeal.nD Cert.GdnInRefIdeal.τ).loc Cert.GdnInRefIdeal.main_arg0) = m ((c.tc : Thread Cert.GdnInIdeal.nD Cert.GdnInIdeal.τ).loc Cert.GdnInIdeal.main_arg0)
      ∧ m' ((c.tc : Thread Cert.GdnInRefIdeal.nD Cert.GdnInRefIdeal.τ).loc Cert.GdnInRefIdeal.main_arg1) = m ((c.tc : Thread Cert.GdnInIdeal.nD Cert.GdnInIdeal.τ).loc Cert.GdnInIdeal.main_arg1)) →
    ∃ (v0 : (c : Dev Cert.GdnInIdeal.nD) → Buf (Elt Ideal) ((c.tc : Thread Cert.GdnInIdeal.nD Cert.GdnInIdeal.τ).loc Cert.GdnInIdeal.main_v6)),
      θ_run (Cert.GdnInIdeal.defs (F := Ideal)) (onTc (τ := Cert.GdnInIdeal.τ) (Cert.GdnInIdeal.main (F := Ideal))) ⟨m, fun _ => 0, g⟩ (fun r => ∀ c : Dev Cert.GdnInIdeal.nD,
          r.2.mem ((c.tc : Thread Cert.GdnInIdeal.nD Cert.GdnInIdeal.τ).loc Cert.GdnInIdeal.main_v6) = v0 c
          ∧ r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
          ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1))
      ∧ θ_run (Cert.GdnInRefIdeal.defs (F := Ideal)) (onTc (τ := Cert.GdnInRefIdeal.τ) (Cert.GdnInRefIdeal.main (F := Ideal))) ⟨m', fun _ => 0, g'⟩ (fun r => ∀ c : Dev Cert.GdnInRefIdeal.nD,
          r.2.mem ((c.tc : Thread Cert.GdnInRefIdeal.nD Cert.GdnInRefIdeal.τ).loc Cert.GdnInRefIdeal.main_v5) = v0 c
          ∧ r.2.mem ((c.tc : Thread Cert.GdnInRefIdeal.nD Cert.GdnInRefIdeal.τ).loc Cert.GdnInRefIdeal.main_arg0) = m' ((c.tc : Thread Cert.GdnInRefIdeal.nD Cert.GdnInRefIdeal.τ).loc Cert.GdnInRefIdeal.main_arg0)
          ∧ r.2.mem ((c.tc : Thread Cert.GdnInRefIdeal.nD Cert.GdnInRefIdeal.τ).loc Cert.GdnInRefIdeal.main_arg1) = m' ((c.tc : Thread Cert.GdnInRefIdeal.nD Cert.GdnInRefIdeal.τ).loc Cert.GdnInRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v27) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v1) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v0) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_MemAttn_MemAttnIdeal : Prop :=
  True

def algebraic_MemAttnIdeal_MemAttnRefIdeal_pre_finite_memory [hMemAttnIdeal : Cert.MemAttnIdeal.Facts] [hMemAttnRefIdeal : Cert.MemAttnRefIdeal.Facts] [hPre_finite_memory : Cert.Pre_finite_memory.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal_finite_memory m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)) →
    ∃ (v0 : (c : Dev Cert.MemAttnIdeal.nD) → Buf (Elt Ideal) ((c.tc : Thread Cert.MemAttnIdeal.nD Cert.MemAttnIdeal.τ).loc Cert.MemAttnIdeal.main_v0)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v0) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v23) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1))

def preserves_MlaIn_MlaInIdeal : Prop :=
  True

def algebraic_MlaInIdeal_MlaInRefIdeal_pre_finite_mla_in [hMlaInIdeal : Cert.MlaInIdeal.Facts] [hMlaInRefIdeal : Cert.MlaInRefIdeal.Facts] [hPre_finite_mla_in : Cert.Pre_finite_mla_in.Facts] : Prop :=
  ∀ (m : (ℓ : Loc Cert.MlaInIdeal.nD Cert.MlaInIdeal.τ Cert.MlaInIdeal.sig) → Buf (Elt Ideal) ℓ) (g : Dev Cert.MlaInIdeal.nD → PrngReg)
    (m' : (ℓ : Loc Cert.MlaInRefIdeal.nD Cert.MlaInRefIdeal.τ Cert.MlaInRefIdeal.sig) → Buf (Elt Ideal) ℓ) (g' : Dev Cert.MlaInRefIdeal.nD → PrngReg), Pre_MlaInIdeal_finite_mla_in m →
    (∀ c : Dev Cert.MlaInIdeal.nD,
      m' ((c.tc : Thread Cert.MlaInRefIdeal.nD Cert.MlaInRefIdeal.τ).loc Cert.MlaInRefIdeal.main_arg0) = m ((c.tc : Thread Cert.MlaInIdeal.nD Cert.MlaInIdeal.τ).loc Cert.MlaInIdeal.main_arg0)
      ∧ m' ((c.tc : Thread Cert.MlaInRefIdeal.nD Cert.MlaInRefIdeal.τ).loc Cert.MlaInRefIdeal.main_arg1) = m ((c.tc : Thread Cert.MlaInIdeal.nD Cert.MlaInIdeal.τ).loc Cert.MlaInIdeal.main_arg1)) →
    ∃ (v0 : (c : Dev Cert.MlaInIdeal.nD) → Buf (Elt Ideal) ((c.tc : Thread Cert.MlaInIdeal.nD Cert.MlaInIdeal.τ).loc Cert.MlaInIdeal.main_v32)),
      θ_run (Cert.MlaInIdeal.defs (F := Ideal)) (onTc (τ := Cert.MlaInIdeal.τ) (Cert.MlaInIdeal.main (F := Ideal))) ⟨m, fun _ => 0, g⟩ (fun r => ∀ c : Dev Cert.MlaInIdeal.nD,
          r.2.mem ((c.tc : Thread Cert.MlaInIdeal.nD Cert.MlaInIdeal.τ).loc Cert.MlaInIdeal.main_v32) = v0 c
          ∧ r.2.mem ((c.tc : Thread Cert.MlaInIdeal.nD Cert.MlaInIdeal.τ).loc Cert.MlaInIdeal.main_arg0) = m ((c.tc : Thread Cert.MlaInIdeal.nD Cert.MlaInIdeal.τ).loc Cert.MlaInIdeal.main_arg0)
          ∧ r.2.mem ((c.tc : Thread Cert.MlaInIdeal.nD Cert.MlaInIdeal.τ).loc Cert.MlaInIdeal.main_arg1) = m ((c.tc : Thread Cert.MlaInIdeal.nD Cert.MlaInIdeal.τ).loc Cert.MlaInIdeal.main_arg1))
      ∧ θ_run (Cert.MlaInRefIdeal.defs (F := Ideal)) (onTc (τ := Cert.MlaInRefIdeal.τ) (Cert.MlaInRefIdeal.main (F := Ideal))) ⟨m', fun _ => 0, g'⟩ (fun r => ∀ c : Dev Cert.MlaInRefIdeal.nD,
          r.2.mem ((c.tc : Thread Cert.MlaInRefIdeal.nD Cert.MlaInRefIdeal.τ).loc Cert.MlaInRefIdeal.main_v7) = v0 c
          ∧ r.2.mem ((c.tc : Thread Cert.MlaInRefIdeal.nD Cert.MlaInRefIdeal.τ).loc Cert.MlaInRefIdeal.main_arg0) = m' ((c.tc : Thread Cert.MlaInRefIdeal.nD Cert.MlaInRefIdeal.τ).loc Cert.MlaInRefIdeal.main_arg0)
          ∧ r.2.mem ((c.tc : Thread Cert.MlaInRefIdeal.nD Cert.MlaInRefIdeal.τ).loc Cert.MlaInRefIdeal.main_arg1) = m' ((c.tc : Thread Cert.MlaInRefIdeal.nD Cert.MlaInRefIdeal.τ).loc Cert.MlaInRefIdeal.main_arg1))

def preserves_KvUp_KvUpIdeal : Prop :=
  True

def algebraic_KvUpIdeal_KvUpRefIdeal [hKvUpIdeal : Cert.KvUpIdeal.Facts] [hKvUpRefIdeal : Cert.KvUpRefIdeal.Facts] : Prop :=
  ∀ (m : (ℓ : Loc Cert.KvUpIdeal.nD Cert.KvUpIdeal.τ Cert.KvUpIdeal.sig) → Buf (Elt Ideal) ℓ) (g : Dev Cert.KvUpIdeal.nD → PrngReg)
    (m' : (ℓ : Loc Cert.KvUpRefIdeal.nD Cert.KvUpRefIdeal.τ Cert.KvUpRefIdeal.sig) → Buf (Elt Ideal) ℓ) (g' : Dev Cert.KvUpRefIdeal.nD → PrngReg), Pre_KvUpIdeal m →
    (∀ c : Dev Cert.KvUpIdeal.nD,
      m' ((c.tc : Thread Cert.KvUpRefIdeal.nD Cert.KvUpRefIdeal.τ).loc Cert.KvUpRefIdeal.main_arg0) = m ((c.tc : Thread Cert.KvUpIdeal.nD Cert.KvUpIdeal.τ).loc Cert.KvUpIdeal.main_arg0)
      ∧ m' ((c.tc : Thread Cert.KvUpRefIdeal.nD Cert.KvUpRefIdeal.τ).loc Cert.KvUpRefIdeal.main_arg1) = m ((c.tc : Thread Cert.KvUpIdeal.nD Cert.KvUpIdeal.τ).loc Cert.KvUpIdeal.main_arg1)
      ∧ m' ((c.tc : Thread Cert.KvUpRefIdeal.nD Cert.KvUpRefIdeal.τ).loc Cert.KvUpRefIdeal.main_arg2) = m ((c.tc : Thread Cert.KvUpIdeal.nD Cert.KvUpIdeal.τ).loc Cert.KvUpIdeal.main_arg2)
      ∧ m' ((c.tc : Thread Cert.KvUpRefIdeal.nD Cert.KvUpRefIdeal.τ).loc Cert.KvUpRefIdeal.main_arg3) = m ((c.tc : Thread Cert.KvUpIdeal.nD Cert.KvUpIdeal.τ).loc Cert.KvUpIdeal.main_arg3)
      ∧ m' ((c.tc : Thread Cert.KvUpRefIdeal.nD Cert.KvUpRefIdeal.τ).loc Cert.KvUpRefIdeal.main_arg4) = m ((c.tc : Thread Cert.KvUpIdeal.nD Cert.KvUpIdeal.τ).loc Cert.KvUpIdeal.main_arg4)) →
    ∃ (v0 : (c : Dev Cert.KvUpIdeal.nD) → Buf (Elt Ideal) ((c.tc : Thread Cert.KvUpIdeal.nD Cert.KvUpIdeal.τ).loc Cert.KvUpIdeal.main_v36_0)) (v1 : (c : Dev Cert.KvUpIdeal.nD) → Buf (Elt Ideal) ((c.tc : Thread Cert.KvUpIdeal.nD Cert.KvUpIdeal.τ).loc Cert.KvUpIdeal.main_v36_1)) (v2 : (c : Dev Cert.KvUpIdeal.nD) → Buf (Elt Ideal) ((c.tc : Thread Cert.KvUpIdeal.nD Cert.KvUpIdeal.τ).loc Cert.KvUpIdeal.main_v36_2)),
      θ_run (Cert.KvUpIdeal.defs (F := Ideal)) (onTc (τ := Cert.KvUpIdeal.τ) (Cert.KvUpIdeal.main (F := Ideal))) ⟨m, fun _ => 0, g⟩ (fun r => ∀ c : Dev Cert.KvUpIdeal.nD,
          r.2.mem ((c.tc : Thread Cert.KvUpIdeal.nD Cert.KvUpIdeal.τ).loc Cert.KvUpIdeal.main_v36_0) = v0 c
          ∧ r.2.mem ((c.tc : Thread Cert.KvUpIdeal.nD Cert.KvUpIdeal.τ).loc Cert.KvUpIdeal.main_v36_1) = v1 c
          ∧ r.2.mem ((c.tc : Thread Cert.KvUpIdeal.nD Cert.KvUpIdeal.τ).loc Cert.KvUpIdeal.main_v36_2) = v2 c
          ∧ r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
          ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1)
          ∧ r.2.mem ((c.tc : Thread Cert.KvUpIdeal.nD Cert.KvUpIdeal.τ).loc Cert.KvUpIdeal.main_arg2) = m ((c.tc : Thread Cert.KvUpIdeal.nD Cert.KvUpIdeal.τ).loc Cert.KvUpIdeal.main_arg2)
          ∧ r.2.mem ((c.tc : Thread Cert.KvUpIdeal.nD Cert.KvUpIdeal.τ).loc Cert.KvUpIdeal.main_arg3) = m ((c.tc : Thread Cert.KvUpIdeal.nD Cert.KvUpIdeal.τ).loc Cert.KvUpIdeal.main_arg3)
          ∧ r.2.mem ((c.tc : Thread Cert.KvUpIdeal.nD Cert.KvUpIdeal.τ).loc Cert.KvUpIdeal.main_arg4) = m ((c.tc : Thread Cert.KvUpIdeal.nD Cert.KvUpIdeal.τ).loc Cert.KvUpIdeal.main_arg4))
      ∧ θ_run (Cert.KvUpRefIdeal.defs (F := Ideal)) (onTc (τ := Cert.KvUpRefIdeal.τ) (Cert.KvUpRefIdeal.main (F := Ideal))) ⟨m', fun _ => 0, g'⟩ (fun r => ∀ c : Dev Cert.KvUpRefIdeal.nD,
          r.2.mem ((c.tc : Thread Cert.KvUpRefIdeal.nD Cert.KvUpRefIdeal.τ).loc Cert.KvUpRefIdeal.main_v28) = v0 c
          ∧ r.2.mem ((c.tc : Thread Cert.KvUpRefIdeal.nD Cert.KvUpRefIdeal.τ).loc Cert.KvUpRefIdeal.main_v29) = v1 c
          ∧ r.2.mem ((c.tc : Thread Cert.KvUpRefIdeal.nD Cert.KvUpRefIdeal.τ).loc Cert.KvUpRefIdeal.main_v30) = v2 c
          ∧ r.2.mem ((c.tc : Thread Cert.KvUpRefIdeal.nD Cert.KvUpRefIdeal.τ).loc Cert.KvUpRefIdeal.main_arg0) = m' ((c.tc : Thread Cert.KvUpRefIdeal.nD Cert.KvUpRefIdeal.τ).loc Cert.KvUpRefIdeal.main_arg0)
          ∧ r.2.mem ((c.tc : Thread Cert.KvUpRefIdeal.nD Cert.KvUpRefIdeal.τ).loc Cert.KvUpRefIdeal.main_arg1) = m' ((c.tc : Thread Cert.KvUpRefIdeal.nD Cert.KvUpRefIdeal.τ).loc Cert.KvUpRefIdeal.main_arg1)
          ∧ r.2.mem ((c.tc : Thread Cert.KvUpRefIdeal.nD Cert.KvUpRefIdeal.τ).loc Cert.KvUpRefIdeal.main_arg2) = m' ((c.tc : Thread Cert.KvUpRefIdeal.nD Cert.KvUpRefIdeal.τ).loc Cert.KvUpRefIdeal.main_arg2)
          ∧ r.2.mem ((c.tc : Thread Cert.KvUpRefIdeal.nD Cert.KvUpRefIdeal.τ).loc Cert.KvUpRefIdeal.main_arg3) = m' ((c.tc : Thread Cert.KvUpRefIdeal.nD Cert.KvUpRefIdeal.τ).loc Cert.KvUpRefIdeal.main_arg3)
          ∧ r.2.mem ((c.tc : Thread Cert.KvUpRefIdeal.nD Cert.KvUpRefIdeal.τ).loc Cert.KvUpRefIdeal.main_arg4) = m' ((c.tc : Thread Cert.KvUpRefIdeal.nD Cert.KvUpRefIdeal.τ).loc Cert.KvUpRefIdeal.main_arg4))

def preserves_QUp_QUpIdeal : Prop :=
  True

def algebraic_QUpIdeal_QUpRefIdeal_pre_finite_q_up [hQUpIdeal : Cert.QUpIdeal.Facts] [hQUpRefIdeal : Cert.QUpRefIdeal.Facts] [hPre_finite_q_up : Cert.Pre_finite_q_up.Facts] : Prop :=
  ∀ (m : (ℓ : Loc Cert.QUpIdeal.nD Cert.QUpIdeal.τ Cert.QUpIdeal.sig) → Buf (Elt Ideal) ℓ) (g : Dev Cert.QUpIdeal.nD → PrngReg)
    (m' : (ℓ : Loc Cert.QUpRefIdeal.nD Cert.QUpRefIdeal.τ Cert.QUpRefIdeal.sig) → Buf (Elt Ideal) ℓ) (g' : Dev Cert.QUpRefIdeal.nD → PrngReg), Pre_QUpIdeal_finite_q_up m →
    (∀ c : Dev Cert.QUpIdeal.nD,
      m' ((c.tc : Thread Cert.QUpRefIdeal.nD Cert.QUpRefIdeal.τ).loc Cert.QUpRefIdeal.main_arg0) = m ((c.tc : Thread Cert.QUpIdeal.nD Cert.QUpIdeal.τ).loc Cert.QUpIdeal.main_arg0)
      ∧ m' ((c.tc : Thread Cert.QUpRefIdeal.nD Cert.QUpRefIdeal.τ).loc Cert.QUpRefIdeal.main_arg1) = m ((c.tc : Thread Cert.QUpIdeal.nD Cert.QUpIdeal.τ).loc Cert.QUpIdeal.main_arg1)
      ∧ m' ((c.tc : Thread Cert.QUpRefIdeal.nD Cert.QUpRefIdeal.τ).loc Cert.QUpRefIdeal.main_arg2) = m ((c.tc : Thread Cert.QUpIdeal.nD Cert.QUpIdeal.τ).loc Cert.QUpIdeal.main_arg2)
      ∧ m' ((c.tc : Thread Cert.QUpRefIdeal.nD Cert.QUpRefIdeal.τ).loc Cert.QUpRefIdeal.main_arg3) = m ((c.tc : Thread Cert.QUpIdeal.nD Cert.QUpIdeal.τ).loc Cert.QUpIdeal.main_arg3)
      ∧ m' ((c.tc : Thread Cert.QUpRefIdeal.nD Cert.QUpRefIdeal.τ).loc Cert.QUpRefIdeal.main_arg4) = m ((c.tc : Thread Cert.QUpIdeal.nD Cert.QUpIdeal.τ).loc Cert.QUpIdeal.main_arg4)) →
    ∃ (v0 : (c : Dev Cert.QUpIdeal.nD) → Buf (Elt Ideal) ((c.tc : Thread Cert.QUpIdeal.nD Cert.QUpIdeal.τ).loc Cert.QUpIdeal.main_v36)),
      θ_run (Cert.QUpIdeal.defs (F := Ideal)) (onTc (τ := Cert.QUpIdeal.τ) (Cert.QUpIdeal.main (F := Ideal))) ⟨m, fun _ => 0, g⟩ (fun r => ∀ c : Dev Cert.QUpIdeal.nD,
          r.2.mem ((c.tc : Thread Cert.QUpIdeal.nD Cert.QUpIdeal.τ).loc Cert.QUpIdeal.main_v36) = v0 c
          ∧ r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
          ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1)
          ∧ r.2.mem ((c.tc : Thread Cert.QUpIdeal.nD Cert.QUpIdeal.τ).loc Cert.QUpIdeal.main_arg2) = m ((c.tc : Thread Cert.QUpIdeal.nD Cert.QUpIdeal.τ).loc Cert.QUpIdeal.main_arg2)
          ∧ r.2.mem ((c.tc : Thread Cert.QUpIdeal.nD Cert.QUpIdeal.τ).loc Cert.QUpIdeal.main_arg3) = m ((c.tc : Thread Cert.QUpIdeal.nD Cert.QUpIdeal.τ).loc Cert.QUpIdeal.main_arg3)
          ∧ r.2.mem ((c.tc : Thread Cert.QUpIdeal.nD Cert.QUpIdeal.τ).loc Cert.QUpIdeal.main_arg4) = m ((c.tc : Thread Cert.QUpIdeal.nD Cert.QUpIdeal.τ).loc Cert.QUpIdeal.main_arg4))
      ∧ θ_run (Cert.QUpRefIdeal.defs (F := Ideal)) (onTc (τ := Cert.QUpRefIdeal.τ) (Cert.QUpRefIdeal.main (F := Ideal))) ⟨m', fun _ => 0, g'⟩ (fun r => ∀ c : Dev Cert.QUpRefIdeal.nD,
          r.2.mem ((c.tc : Thread Cert.QUpRefIdeal.nD Cert.QUpRefIdeal.τ).loc Cert.QUpRefIdeal.main_v36) = v0 c
          ∧ r.2.mem ((c.tc : Thread Cert.QUpRefIdeal.nD Cert.QUpRefIdeal.τ).loc Cert.QUpRefIdeal.main_arg0) = m' ((c.tc : Thread Cert.QUpRefIdeal.nD Cert.QUpRefIdeal.τ).loc Cert.QUpRefIdeal.main_arg0)
          ∧ r.2.mem ((c.tc : Thread Cert.QUpRefIdeal.nD Cert.QUpRefIdeal.τ).loc Cert.QUpRefIdeal.main_arg1) = m' ((c.tc : Thread Cert.QUpRefIdeal.nD Cert.QUpRefIdeal.τ).loc Cert.QUpRefIdeal.main_arg1)
          ∧ r.2.mem ((c.tc : Thread Cert.QUpRefIdeal.nD Cert.QUpRefIdeal.τ).loc Cert.QUpRefIdeal.main_arg2) = m' ((c.tc : Thread Cert.QUpRefIdeal.nD Cert.QUpRefIdeal.τ).loc Cert.QUpRefIdeal.main_arg2)
          ∧ r.2.mem ((c.tc : Thread Cert.QUpRefIdeal.nD Cert.QUpRefIdeal.τ).loc Cert.QUpRefIdeal.main_arg3) = m' ((c.tc : Thread Cert.QUpRefIdeal.nD Cert.QUpRefIdeal.τ).loc Cert.QUpRefIdeal.main_arg3)
          ∧ r.2.mem ((c.tc : Thread Cert.QUpRefIdeal.nD Cert.QUpRefIdeal.τ).loc Cert.QUpRefIdeal.main_arg4) = m' ((c.tc : Thread Cert.QUpRefIdeal.nD Cert.QUpRefIdeal.τ).loc Cert.QUpRefIdeal.main_arg4))

def preserves_RopeTables_RopeTablesIdeal : Prop :=
  True

def algebraic_RopeTablesIdeal_RopeTablesRefIdeal [hRopeTablesIdeal : Cert.RopeTablesIdeal.Facts] [hRopeTablesRefIdeal : Cert.RopeTablesRefIdeal.Facts] : Prop :=
  ∀ (m : (ℓ : Loc Cert.RopeTablesIdeal.nD Cert.RopeTablesIdeal.τ Cert.RopeTablesIdeal.sig) → Buf (Elt Ideal) ℓ) (g : Dev Cert.RopeTablesIdeal.nD → PrngReg)
    (m' : (ℓ : Loc Cert.RopeTablesRefIdeal.nD Cert.RopeTablesRefIdeal.τ Cert.RopeTablesRefIdeal.sig) → Buf (Elt Ideal) ℓ) (g' : Dev Cert.RopeTablesRefIdeal.nD → PrngReg), Pre_RopeTablesIdeal m →
    (∀ c : Dev Cert.RopeTablesIdeal.nD,
      m' ((c.tc : Thread Cert.RopeTablesRefIdeal.nD Cert.RopeTablesRefIdeal.τ).loc Cert.RopeTablesRefIdeal.main_arg0) = m ((c.tc : Thread Cert.RopeTablesIdeal.nD Cert.RopeTablesIdeal.τ).loc Cert.RopeTablesIdeal.main_arg0)) →
    ∃ (v0 : (c : Dev Cert.RopeTablesIdeal.nD) → Buf (Elt Ideal) ((c.tc : Thread Cert.RopeTablesIdeal.nD Cert.RopeTablesIdeal.τ).loc Cert.RopeTablesIdeal.main_v15_0)) (v1 : (c : Dev Cert.RopeTablesIdeal.nD) → Buf (Elt Ideal) ((c.tc : Thread Cert.RopeTablesIdeal.nD Cert.RopeTablesIdeal.τ).loc Cert.RopeTablesIdeal.main_v15_1)),
      θ_run (Cert.RopeTablesIdeal.defs (F := Ideal)) (onTc (τ := Cert.RopeTablesIdeal.τ) (Cert.RopeTablesIdeal.main (F := Ideal))) ⟨m, fun _ => 0, g⟩ (fun r => ∀ c : Dev Cert.RopeTablesIdeal.nD,
          r.2.mem ((c.tc : Thread Cert.RopeTablesIdeal.nD Cert.RopeTablesIdeal.τ).loc Cert.RopeTablesIdeal.main_v15_0) = v0 c
          ∧ r.2.mem ((c.tc : Thread Cert.RopeTablesIdeal.nD Cert.RopeTablesIdeal.τ).loc Cert.RopeTablesIdeal.main_v15_1) = v1 c
          ∧ r.2.mem ((c.tc : Thread Cert.RopeTablesIdeal.nD Cert.RopeTablesIdeal.τ).loc Cert.RopeTablesIdeal.main_arg0) = m ((c.tc : Thread Cert.RopeTablesIdeal.nD Cert.RopeTablesIdeal.τ).loc Cert.RopeTablesIdeal.main_arg0))
      ∧ θ_run (Cert.RopeTablesRefIdeal.defs (F := Ideal)) (onTc (τ := Cert.RopeTablesRefIdeal.τ) (Cert.RopeTablesRefIdeal.main (F := Ideal))) ⟨m', fun _ => 0, g'⟩ (fun r => ∀ c : Dev Cert.RopeTablesRefIdeal.nD,
          r.2.mem ((c.tc : Thread Cert.RopeTablesRefIdeal.nD Cert.RopeTablesRefIdeal.τ).loc Cert.RopeTablesRefIdeal.main_v20) = v0 c
          ∧ r.2.mem ((c.tc : Thread Cert.RopeTablesRefIdeal.nD Cert.RopeTablesRefIdeal.τ).loc Cert.RopeTablesRefIdeal.main_v21) = v1 c
          ∧ r.2.mem ((c.tc : Thread Cert.RopeTablesRefIdeal.nD Cert.RopeTablesRefIdeal.τ).loc Cert.RopeTablesRefIdeal.main_arg0) = m' ((c.tc : Thread Cert.RopeTablesRefIdeal.nD Cert.RopeTablesRefIdeal.τ).loc Cert.RopeTablesRefIdeal.main_arg0))

def preserves_GdnGates_GdnGatesIdeal : Prop :=
  True

def algebraic_GdnGatesIdeal_GdnGatesRefIdeal [hGdnGatesIdeal : Cert.GdnGatesIdeal.Facts] [hGdnGatesRefIdeal : Cert.GdnGatesRefIdeal.Facts] : Prop :=
  ∀ (m : (ℓ : Loc Cert.GdnGatesIdeal.nD Cert.GdnGatesIdeal.τ Cert.GdnGatesIdeal.sig) → Buf (Elt Ideal) ℓ) (g : Dev Cert.GdnGatesIdeal.nD → PrngReg)
    (m' : (ℓ : Loc Cert.GdnGatesRefIdeal.nD Cert.GdnGatesRefIdeal.τ Cert.GdnGatesRefIdeal.sig) → Buf (Elt Ideal) ℓ) (g' : Dev Cert.GdnGatesRefIdeal.nD → PrngReg), Pre_GdnGatesIdeal m →
    (∀ c : Dev Cert.GdnGatesIdeal.nD,
      m' ((c.tc : Thread Cert.GdnGatesRefIdeal.nD Cert.GdnGatesRefIdeal.τ).loc Cert.GdnGatesRefIdeal.main_arg0) = m ((c.tc : Thread Cert.GdnGatesIdeal.nD Cert.GdnGatesIdeal.τ).loc Cert.GdnGatesIdeal.main_arg0)
      ∧ m' ((c.tc : Thread Cert.GdnGatesRefIdeal.nD Cert.GdnGatesRefIdeal.τ).loc Cert.GdnGatesRefIdeal.main_arg1) = m ((c.tc : Thread Cert.GdnGatesIdeal.nD Cert.GdnGatesIdeal.τ).loc Cert.GdnGatesIdeal.main_arg1)
      ∧ m' ((c.tc : Thread Cert.GdnGatesRefIdeal.nD Cert.GdnGatesRefIdeal.τ).loc Cert.GdnGatesRefIdeal.main_arg2) = m ((c.tc : Thread Cert.GdnGatesIdeal.nD Cert.GdnGatesIdeal.τ).loc Cert.GdnGatesIdeal.main_arg2)) →
    ∃ (v0 : (c : Dev Cert.GdnGatesIdeal.nD) → Buf (Elt Ideal) ((c.tc : Thread Cert.GdnGatesIdeal.nD Cert.GdnGatesIdeal.τ).loc Cert.GdnGatesIdeal.main_v5)) (v1 : (c : Dev Cert.GdnGatesIdeal.nD) → Buf (Elt Ideal) ((c.tc : Thread Cert.GdnGatesIdeal.nD Cert.GdnGatesIdeal.τ).loc Cert.GdnGatesIdeal.main_v6)),
      θ_run (Cert.GdnGatesIdeal.defs (F := Ideal)) (onTc (τ := Cert.GdnGatesIdeal.τ) (Cert.GdnGatesIdeal.main (F := Ideal))) ⟨m, fun _ => 0, g⟩ (fun r => ∀ c : Dev Cert.GdnGatesIdeal.nD,
          r.2.mem ((c.tc : Thread Cert.GdnGatesIdeal.nD Cert.GdnGatesIdeal.τ).loc Cert.GdnGatesIdeal.main_v5) = v0 c
          ∧ r.2.mem ((c.tc : Thread Cert.GdnGatesIdeal.nD Cert.GdnGatesIdeal.τ).loc Cert.GdnGatesIdeal.main_v6) = v1 c
          ∧ r.2.mem ((c.tc : Thread Cert.GdnGatesIdeal.nD Cert.GdnGatesIdeal.τ).loc Cert.GdnGatesIdeal.main_arg0) = m ((c.tc : Thread Cert.GdnGatesIdeal.nD Cert.GdnGatesIdeal.τ).loc Cert.GdnGatesIdeal.main_arg0)
          ∧ r.2.mem ((c.tc : Thread Cert.GdnGatesIdeal.nD Cert.GdnGatesIdeal.τ).loc Cert.GdnGatesIdeal.main_arg1) = m ((c.tc : Thread Cert.GdnGatesIdeal.nD Cert.GdnGatesIdeal.τ).loc Cert.GdnGatesIdeal.main_arg1)
          ∧ r.2.mem ((c.tc : Thread Cert.GdnGatesIdeal.nD Cert.GdnGatesIdeal.τ).loc Cert.GdnGatesIdeal.main_arg2) = m ((c.tc : Thread Cert.GdnGatesIdeal.nD Cert.GdnGatesIdeal.τ).loc Cert.GdnGatesIdeal.main_arg2))
      ∧ θ_run (Cert.GdnGatesRefIdeal.defs (F := Ideal)) (onTc (τ := Cert.GdnGatesRefIdeal.τ) (Cert.GdnGatesRefIdeal.main (F := Ideal))) ⟨m', fun _ => 0, g'⟩ (fun r => ∀ c : Dev Cert.GdnGatesRefIdeal.nD,
          r.2.mem ((c.tc : Thread Cert.GdnGatesRefIdeal.nD Cert.GdnGatesRefIdeal.τ).loc Cert.GdnGatesRefIdeal.main_v10) = v0 c
          ∧ r.2.mem ((c.tc : Thread Cert.GdnGatesRefIdeal.nD Cert.GdnGatesRefIdeal.τ).loc Cert.GdnGatesRefIdeal.main_v16) = v1 c
          ∧ r.2.mem ((c.tc : Thread Cert.GdnGatesRefIdeal.nD Cert.GdnGatesRefIdeal.τ).loc Cert.GdnGatesRefIdeal.main_arg0) = m' ((c.tc : Thread Cert.GdnGatesRefIdeal.nD Cert.GdnGatesRefIdeal.τ).loc Cert.GdnGatesRefIdeal.main_arg0)
          ∧ r.2.mem ((c.tc : Thread Cert.GdnGatesRefIdeal.nD Cert.GdnGatesRefIdeal.τ).loc Cert.GdnGatesRefIdeal.main_arg1) = m' ((c.tc : Thread Cert.GdnGatesRefIdeal.nD Cert.GdnGatesRefIdeal.τ).loc Cert.GdnGatesRefIdeal.main_arg1)
          ∧ r.2.mem ((c.tc : Thread Cert.GdnGatesRefIdeal.nD Cert.GdnGatesRefIdeal.τ).loc Cert.GdnGatesRefIdeal.main_arg2) = m' ((c.tc : Thread Cert.GdnGatesRefIdeal.nD Cert.GdnGatesRefIdeal.τ).loc Cert.GdnGatesRefIdeal.main_arg2))

def Claim : Prop :=
  ∃ (hFlash : Cert.Flash.Facts) (hFlashIdeal : Cert.FlashIdeal.Facts) (hFlashRefIdeal : Cert.FlashRefIdeal.Facts) (hMlp : Cert.Mlp.Facts) (hMlpIdeal : Cert.MlpIdeal.Facts) (hMlpRefIdeal : Cert.MlpRefIdeal.Facts) (hGdnIn : Cert.GdnIn.Facts) (hGdnInIdeal : Cert.GdnInIdeal.Facts) (hGdnInRefIdeal : Cert.GdnInRefIdeal.Facts) (hOutProj : Cert.OutProj.Facts) (hOutProjIdeal : Cert.OutProjIdeal.Facts) (hOutProjRefIdeal : Cert.OutProjRefIdeal.Facts) (hMemKv : Cert.MemKv.Facts) (hMemKvIdeal : Cert.MemKvIdeal.Facts) (hMemKvRefIdeal : Cert.MemKvRefIdeal.Facts) (hMemAttn : Cert.MemAttn.Facts) (hMemAttnIdeal : Cert.MemAttnIdeal.Facts) (hMemAttnRefIdeal : Cert.MemAttnRefIdeal.Facts) (hMlaIn : Cert.MlaIn.Facts) (hMlaInIdeal : Cert.MlaInIdeal.Facts) (hMlaInRefIdeal : Cert.MlaInRefIdeal.Facts) (hKvUp : Cert.KvUp.Facts) (hKvUpIdeal : Cert.KvUpIdeal.Facts) (hKvUpRefIdeal : Cert.KvUpRefIdeal.Facts) (hQUp : Cert.QUp.Facts) (hQUpIdeal : Cert.QUpIdeal.Facts) (hQUpRefIdeal : Cert.QUpRefIdeal.Facts) (hRopeTables : Cert.RopeTables.Facts) (hRopeTablesIdeal : Cert.RopeTablesIdeal.Facts) (hRopeTablesRefIdeal : Cert.RopeTablesRefIdeal.Facts) (hGdnGates : Cert.GdnGates.Facts) (hGdnGatesIdeal : Cert.GdnGatesIdeal.Facts) (hGdnGatesRefIdeal : Cert.GdnGatesRefIdeal.Facts) (hPre_finite_scores : Cert.Pre_finite_scores.Facts) (hPre_finite_memory : Cert.Pre_finite_memory.Facts) (hPre_finite_mla_in : Cert.Pre_finite_mla_in.Facts) (hPre_finite_q_up : Cert.Pre_finite_q_up.Facts),
    quiescent_Flash (hFlash := hFlash)
    ∧ quiescent_FlashIdeal (hFlashIdeal := hFlashIdeal)
    ∧ quiescent_FlashIdeal_pre_finite_scores (hFlashIdeal := hFlashIdeal) (hPre_finite_scores := hPre_finite_scores)
    ∧ quiescent_FlashRefIdeal (hFlashRefIdeal := hFlashRefIdeal)
    ∧ quiescent_FlashRefIdeal_pre_finite_scores (hFlashRefIdeal := hFlashRefIdeal) (hPre_finite_scores := hPre_finite_scores)
    ∧ quiescent_Mlp (hMlp := hMlp)
    ∧ quiescent_MlpIdeal (hMlpIdeal := hMlpIdeal)
    ∧ quiescent_MlpRefIdeal (hMlpRefIdeal := hMlpRefIdeal)
    ∧ quiescent_GdnIn (hGdnIn := hGdnIn)
    ∧ quiescent_GdnInIdeal (hGdnInIdeal := hGdnInIdeal)
    ∧ quiescent_GdnInRefIdeal (hGdnInRefIdeal := hGdnInRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_MemAttn (hMemAttn := hMemAttn)
    ∧ quiescent_MemAttnIdeal (hMemAttnIdeal := hMemAttnIdeal)
    ∧ quiescent_MemAttnIdeal_pre_finite_memory (hMemAttnIdeal := hMemAttnIdeal) (hPre_finite_memory := hPre_finite_memory)
    ∧ quiescent_MemAttnRefIdeal (hMemAttnRefIdeal := hMemAttnRefIdeal)
    ∧ quiescent_MemAttnRefIdeal_pre_finite_memory (hMemAttnRefIdeal := hMemAttnRefIdeal) (hPre_finite_memory := hPre_finite_memory)
    ∧ quiescent_MlaIn (hMlaIn := hMlaIn)
    ∧ quiescent_MlaInIdeal (hMlaInIdeal := hMlaInIdeal)
    ∧ quiescent_MlaInIdeal_pre_finite_mla_in (hMlaInIdeal := hMlaInIdeal) (hPre_finite_mla_in := hPre_finite_mla_in)
    ∧ quiescent_MlaInRefIdeal (hMlaInRefIdeal := hMlaInRefIdeal)
    ∧ quiescent_MlaInRefIdeal_pre_finite_mla_in (hMlaInRefIdeal := hMlaInRefIdeal) (hPre_finite_mla_in := hPre_finite_mla_in)
    ∧ quiescent_KvUp (hKvUp := hKvUp)
    ∧ quiescent_KvUpIdeal (hKvUpIdeal := hKvUpIdeal)
    ∧ quiescent_KvUpRefIdeal (hKvUpRefIdeal := hKvUpRefIdeal)
    ∧ quiescent_QUp (hQUp := hQUp)
    ∧ quiescent_QUpIdeal (hQUpIdeal := hQUpIdeal)
    ∧ quiescent_QUpIdeal_pre_finite_q_up (hQUpIdeal := hQUpIdeal) (hPre_finite_q_up := hPre_finite_q_up)
    ∧ quiescent_QUpRefIdeal (hQUpRefIdeal := hQUpRefIdeal)
    ∧ quiescent_QUpRefIdeal_pre_finite_q_up (hQUpRefIdeal := hQUpRefIdeal) (hPre_finite_q_up := hPre_finite_q_up)
    ∧ quiescent_RopeTables (hRopeTables := hRopeTables)
    ∧ quiescent_RopeTablesIdeal (hRopeTablesIdeal := hRopeTablesIdeal)
    ∧ quiescent_RopeTablesRefIdeal (hRopeTablesRefIdeal := hRopeTablesRefIdeal)
    ∧ quiescent_GdnGates (hGdnGates := hGdnGates)
    ∧ quiescent_GdnGatesIdeal (hGdnGatesIdeal := hGdnGatesIdeal)
    ∧ quiescent_GdnGatesRefIdeal (hGdnGatesRefIdeal := hGdnGatesRefIdeal)
    ∧ preserves_Flash_FlashIdeal
    ∧ algebraic_FlashIdeal_FlashRefIdeal_pre_finite_scores (hFlashIdeal := hFlashIdeal) (hFlashRefIdeal := hFlashRefIdeal) (hPre_finite_scores := hPre_finite_scores)
    ∧ preserves_Mlp_MlpIdeal
    ∧ algebraic_MlpIdeal_MlpRefIdeal (hMlpIdeal := hMlpIdeal) (hMlpRefIdeal := hMlpRefIdeal)
    ∧ preserves_GdnIn_GdnInIdeal
    ∧ algebraic_GdnInIdeal_GdnInRefIdeal (hGdnInIdeal := hGdnInIdeal) (hGdnInRefIdeal := hGdnInRefIdeal)
    ∧ preserves_OutProj_OutProjIdeal
    ∧ algebraic_OutProjIdeal_OutProjRefIdeal (hOutProjIdeal := hOutProjIdeal) (hOutProjRefIdeal := hOutProjRefIdeal)
    ∧ preserves_MemKv_MemKvIdeal
    ∧ algebraic_MemKvIdeal_MemKvRefIdeal (hMemKvIdeal := hMemKvIdeal) (hMemKvRefIdeal := hMemKvRefIdeal)
    ∧ preserves_MemAttn_MemAttnIdeal
    ∧ algebraic_MemAttnIdeal_MemAttnRefIdeal_pre_finite_memory (hMemAttnIdeal := hMemAttnIdeal) (hMemAttnRefIdeal := hMemAttnRefIdeal) (hPre_finite_memory := hPre_finite_memory)
    ∧ preserves_MlaIn_MlaInIdeal
    ∧ algebraic_MlaInIdeal_MlaInRefIdeal_pre_finite_mla_in (hMlaInIdeal := hMlaInIdeal) (hMlaInRefIdeal := hMlaInRefIdeal) (hPre_finite_mla_in := hPre_finite_mla_in)
    ∧ preserves_KvUp_KvUpIdeal
    ∧ algebraic_KvUpIdeal_KvUpRefIdeal (hKvUpIdeal := hKvUpIdeal) (hKvUpRefIdeal := hKvUpRefIdeal)
    ∧ preserves_QUp_QUpIdeal
    ∧ algebraic_QUpIdeal_QUpRefIdeal_pre_finite_q_up (hQUpIdeal := hQUpIdeal) (hQUpRefIdeal := hQUpRefIdeal) (hPre_finite_q_up := hPre_finite_q_up)
    ∧ preserves_RopeTables_RopeTablesIdeal
    ∧ algebraic_RopeTablesIdeal_RopeTablesRefIdeal (hRopeTablesIdeal := hRopeTablesIdeal) (hRopeTablesRefIdeal := hRopeTablesRefIdeal)
    ∧ preserves_GdnGates_GdnGatesIdeal
    ∧ algebraic_GdnGatesIdeal_GdnGatesRefIdeal (hGdnGatesIdeal := hGdnGatesIdeal) (hGdnGatesRefIdeal := hGdnGatesRefIdeal)
-- ==== Pre_finite_memory.lean ====
abbrev S2x8192x1664 : Shape := ⟨3, ![2, 8192, 1664]⟩
abbrev S2x256x1024 : Shape := ⟨3, ![2, 256, 1024]⟩
abbrev S2x8192x512 : Shape := ⟨3, ![2, 8192, 512]⟩
abbrev S2x256x512 : Shape := ⟨3, ![2, 256, 512]⟩
abbrev S_ : Shape := ⟨0, ![]⟩
abbrev S8388608 : Shape := ⟨1, ![8388608]⟩
abbrev S262144 : Shape := ⟨1, ![262144]⟩
abbrev S8650752 : Shape := ⟨1, ![8650752]⟩

class Facts : Prop where
  slices_S2x8192x1664_S2x8192x512_0_0_1024 : S2x8192x1664.Slices ![0, 0, 1024] S2x8192x512
  slices_S2x256x1024_S2x256x512_0_0_0 : S2x256x1024.Slices ![0, 0, 0] S2x256x512
  bcast_S_S2x8192x512 : S_.BroadcastsInDim S2x8192x512 (![] : Fin 0 → Fin S2x8192x512.rank)
  shapeCasts_S2x8192x512_S8388608 : S2x8192x512.ShapeCasts S8388608
  bcast_S_S2x256x512 : S_.BroadcastsInDim S2x256x512 (![] : Fin 0 → Fin S2x256x512.rank)
  shapeCasts_S2x256x512_S262144 : S2x256x512.ShapeCasts S262144
  concatenates_S8388608_S262144_S8650752_d0 : Shape.Concatenates [S8388608, S262144] S8650752 0

variable [Facts]

def fn {F : FTy → Type} [FloatOps F] (main_arg0 : FVec F S2x8192x1664 .f32) (main_arg1 : FVec F S2x256x1024 .f32) : IVec S8650752 1 :=
  let main_v0 : FVec F S2x8192x512 .f32 := (extractStridedSlice S2x8192x512 ![0, 0, 1024] · slices_S2x8192x1664_S2x8192x512_0_0_1024) main_arg0
  let main_v1 : FVec F S2x256x512 .f32 := (extractStridedSlice S2x256x512 ![0, 0, 0] · slices_S2x256x1024_S2x256x512_0_0_0) main_arg1
  let main_v2 : FVec F S2x8192x512 .f32 := Host.absf main_v0
  let main_cst : FVec F S_ .f32 := constant S_ .f32 0x7F800000#32
  let main_v3 : FVec F S2x8192x512 .f32 := broadcastInDim S2x8192x512 ![] bcast_S_S2x8192x512 main_cst
  let main_v4 : IVec S2x8192x512 1 := cmpf .olt main_v2 main_v3
  let main_v5 : IVec S8388608 1 := shapeCast S8388608 main_v4 shapeCasts_S2x8192x512_S8388608
  let main_v6 : FVec F S2x256x512 .f32 := Host.absf main_v1
  let main_cst_0 : FVec F S_ .f32 := constant S_ .f32 0x7F800000#32
  let main_v7 : FVec F S2x256x512 .f32 := broadcastInDim S2x256x512 ![] bcast_S_S2x256x512 main_cst_0
  let main_v8 : IVec S2x256x512 1 := cmpf .olt main_v6 main_v7
  let main_v9 : IVec S262144 1 := shapeCast S262144 main_v8 shapeCasts_S2x256x512_S262144
  let main_v10 : IVec S8650752 1 := (fun a b => concatenate S8650752 0 [⟨S8388608, a⟩, ⟨S262144, b⟩] concatenates_S8388608_S262144_S8650752_d0) main_v5 main_v9
  main_v10
-- ==== Pre_finite_mla_in.lean ====
abbrev S16384x2048 : Shape := ⟨2, ![16384, 2048]⟩
abbrev S2048x1600 : Shape := ⟨2, ![2048, 1600]⟩
abbrev S_ : Shape := ⟨0, ![]⟩
abbrev S33554432 : Shape := ⟨1, ![33554432]⟩
abbrev S3276800 : Shape := ⟨1, ![3276800]⟩
abbrev S36831232 : Shape := ⟨1, ![36831232]⟩

class Facts : Prop where
  bcast_S_S16384x2048 : S_.BroadcastsInDim S16384x2048 (![] : Fin 0 → Fin S16384x2048.rank)
  shapeCasts_S16384x2048_S33554432 : S16384x2048.ShapeCasts S33554432
  bcast_S_S2048x1600 : S_.BroadcastsInDim S2048x1600 (![] : Fin 0 → Fin S2048x1600.rank)
  shapeCasts_S2048x1600_S3276800 : S2048x1600.ShapeCasts S3276800
  concatenates_S33554432_S3276800_S36831232_d0 : Shape.Concatenates [S33554432, S3276800] S36831232 0

variable [Facts]

def fn {F : FTy → Type} [FloatOps F] (main_arg0 : FVec F S16384x2048 .f32) (main_arg1 : FVec F S2048x1600 .f32) : IVec S36831232 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_v3 : IVec S33554432 1 := shapeCast S33554432 main_v2 shapeCasts_S16384x2048_S33554432
  let main_v4 : FVec F S2048x1600 .f32 := Host.absf main_arg1
  let main_cst_0 : FVec F S_ .f32 := constant S_ .f32 0x7F800000#32
  let main_v5 : FVec F S2048x1600 .f32 := broadcastInDim S2048x1600 ![] bcast_S_S2048x1600 main_cst_0
  let main_v6 : IVec S2048x1600 1 := cmpf .olt main_v4 main_v5
  let main_v7 : IVec S3276800 1 := shapeCast S3276800 main_v6 shapeCasts_S2048x1600_S3276800
  let main_v8 : IVec S36831232 1 := (fun a b => concatenate S36831232 0 [⟨S33554432, a⟩, ⟨S3276800, b⟩] concatenates_S33554432_S3276800_S36831232_d0) main_v3 main_v7
  main_v8
-- ==== Pre_finite_q_up.lean ====
abbrev S16384x1664 : Shape := ⟨2, ![16384, 1664]⟩
abbrev S1x512 : Shape := ⟨2, ![1, 512]⟩
abbrev S512x2304 : Shape := ⟨2, ![512, 2304]⟩
abbrev S16384x32 : Shape := ⟨2, ![16384, 32]⟩
abbrev S16384x512 : Shape := ⟨2, ![16384, 512]⟩
abbrev S_ : Shape := ⟨0, ![]⟩
abbrev S8388608 : Shape := ⟨1, ![8388608]⟩
abbrev S512 : Shape := ⟨1, ![512]⟩
abbrev S1179648 : Shape := ⟨1, ![1179648]⟩
abbrev S9568768 : Shape := ⟨1, ![9568768]⟩

class Facts : Prop where
  slices_S16384x1664_S16384x512_0_0 : S16384x1664.Slices ![0, 0] S16384x512
  bcast_S_S16384x512 : S_.BroadcastsInDim S16384x512 (![] : Fin 0 → Fin S16384x512.rank)
  shapeCasts_S16384x512_S8388608 : S16384x512.ShapeCasts S8388608
  bcast_S_S1x512 : S_.BroadcastsInDim S1x512 (![] : Fin 0 → Fin S1x512.rank)
  shapeCasts_S1x512_S512 : S1x512.ShapeCasts S512
  bcast_S_S512x2304 : S_.BroadcastsInDim S512x2304 (![] : Fin 0 → Fin S512x2304.rank)
  shapeCasts_S512x2304_S1179648 : S512x2304.ShapeCasts S1179648
  concatenates_S8388608_S512_S1179648_S9568768_d0 : Shape.Concatenates [S8388608, S512, S1179648] S9568768 0

variable [Facts]

def fn {F : FTy → Type} [FloatOps F] (main_arg0 : FVec F S16384x1664 .f32) (main_arg1 : FVec F S1x512 .f32) (main_arg2 : FVec F S512x2304 .f32) (main_arg3 : FVec F S16384x32 .f32) (main_arg4 : FVec F S16384x32 .f32) : IVec S9568768 1 :=
  let main_v0 : FVec F S16384x512 .f32 := (extractStridedSlice S16384x512 ![0, 0] · slices_S16384x1664_S16384x512_0_0) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_v4 : IVec S8388608 1 := shapeCast S8388608 main_v3 shapeCasts_S16384x512_S8388608
  let main_v5 : FVec F S1x512 .f32 := Host.absf main_arg1
  let main_cst_0 : FVec F S_ .f32 := constant S_ .f32 0x7F800000#32
  let main_v6 : FVec F S1x512 .f32 := broadcastInDim S1x512 ![] bcast_S_S1x512 main_cst_0
  let main_v7 : IVec S1x512 1 := cmpf .olt main_v5 main_v6
  let main_v8 : IVec S512 1 := shapeCast S512 main_v7 shapeCasts_S1x512_S512
  let main_v9 : FVec F S512x2304 .f32 := Host.absf main_arg2
  let main_cst_1 : FVec F S_ .f32 := constant S_ .f32 0x7F800000#32
  let main_v10 : FVec F S512x2304 .f32 := broadcastInDim S512x2304 ![] bcast_S_S512x2304 main_cst_1
  let main_v11 : IVec S512x2304 1 := cmpf .olt main_v9 main_v10
  let main_v12 : IVec S1179648 1 := shapeCast S1179648 main_v11 shapeCasts_S512x2304_S1179648
  let main_v13 : IVec S9568768 1 := concatenate S9568768 0 [⟨S8388608, main_v4⟩, ⟨S512, main_v8⟩, ⟨S1179648, main_v12⟩] concatenates_S8388608_S512_S1179648_S9568768_d0
  main_v13
-- ==== Pre_finite_scores.lean ====
abbrev S2x8192x3072 : Shape := ⟨3, ![2, 8192, 3072]⟩
abbrev S2x8192x1536 : Shape := ⟨3, ![2, 8192, 1536]⟩
abbrev S2x8192x128 : Shape := ⟨3, ![2, 8192, 128]⟩
abbrev S_ : Shape := ⟨0, ![]⟩
abbrev S50331648 : Shape := ⟨1, ![50331648]⟩
abbrev S25165824 : Shape := ⟨1, ![25165824]⟩
abbrev S2097152 : Shape := ⟨1, ![2097152]⟩
abbrev S77594624 : Shape := ⟨1, ![77594624]⟩

class Facts : Prop where
  bitsLt_bf16_f32 : FTy.bits .bf16 < FTy.bits .f32
  bcast_S_S2x8192x3072 : S_.BroadcastsInDim S2x8192x3072 (![] : Fin 0 → Fin S2x8192x3072.rank)
  shapeCasts_S2x8192x3072_S50331648 : S2x8192x3072.ShapeCasts S50331648
  bcast_S_S2x8192x1536 : S_.BroadcastsInDim S2x8192x1536 (![] : Fin 0 → Fin S2x8192x1536.rank)
  shapeCasts_S2x8192x1536_S25165824 : S2x8192x1536.ShapeCasts S25165824
  bcast_S_S2x8192x128 : S_.BroadcastsInDim S2x8192x128 (![] : Fin 0 → Fin S2x8192x128.rank)
  shapeCasts_S2x8192x128_S2097152 : S2x8192x128.ShapeCasts S2097152
  concatenates_S50331648_S25165824_S2097152_S77594624_d0 : Shape.Concatenates [S50331648, S25165824, S2097152] S77594624 0

variable [Facts]

def fn {F : FTy → Type} [FloatOps F] (main_arg0 : FVec F S2x8192x3072 .bf16) (main_arg1 : FVec F S2x8192x1536 .bf16) (main_arg2 : FVec F S2x8192x128 .bf16) (main_arg3 : FVec F S2x8192x1536 .bf16) : IVec S77594624 1 :=
  let main_v0 : FVec F S2x8192x3072 .f32 := (extf .f32 · bitsLt_bf16_f32) main_arg0
  let main_v1 : FVec F S2x8192x3072 .f32 := Host.absf main_v0
  let main_cst : FVec F S_ .f32 := constant S_ .f32 0x7F800000#32
  let main_v2 : FVec F S2x8192x3072 .f32 := broadcastInDim S2x8192x3072 ![] bcast_S_S2x8192x3072 main_cst
  let main_v3 : IVec S2x8192x3072 1 := cmpf .olt main_v1 main_v2
  let main_v4 : IVec S50331648 1 := shapeCast S50331648 main_v3 shapeCasts_S2x8192x3072_S50331648
  let main_v5 : FVec F S2x8192x1536 .f32 := (extf .f32 · bitsLt_bf16_f32) main_arg1
  let main_v6 : FVec F S2x8192x1536 .f32 := Host.absf main_v5
  let main_cst_0 : FVec F S_ .f32 := constant S_ .f32 0x7F800000#32
  let main_v7 : FVec F S2x8192x1536 .f32 := broadcastInDim S2x8192x1536 ![] bcast_S_S2x8192x1536 main_cst_0
  let main_v8 : IVec S2x8192x1536 1 := cmpf .olt main_v6 main_v7
  let main_v9 : IVec S25165824 1 := shapeCast S25165824 main_v8 shapeCasts_S2x8192x1536_S25165824
  let main_v10 : FVec F S2x8192x128 .f32 := (extf .f32 · bitsLt_bf16_f32) main_arg2
  let main_v11 : FVec F S2x8192x128 .f32 := Host.absf main_v10
  let main_cst_1 : FVec F S_ .f32 := constant S_ .f32 0x7F800000#32
  let main_v12 : FVec F S2x8192x128 .f32 := broadcastInDim S2x8192x128 ![] bcast_S_S2x8192x128 main_cst_1
  let main_v13 : IVec S2x8192x128 1 := cmpf .olt main_v11 main_v12
  let main_v14 : IVec S2097152 1 := shapeCast S2097152 main_v13 shapeCasts_S2x8192x128_S2097152
  let main_v15 : IVec S77594624 1 := concatenate S77594624 0 [⟨S50331648, main_v4⟩, ⟨S25165824, main_v9⟩, ⟨S2097152, main_v14⟩] concatenates_S50331648_S25165824_S2097152_S77594624_d0
  main_v15
-- ==== Flash.lean ====
abbrev S2x8192x3072 : Shape := ⟨3, ![2, 8192, 3072]⟩
abbrev S2x8192x1536 : Shape := ⟨3, ![2, 8192, 1536]⟩
abbrev S2x8192x128 : Shape := ⟨3, ![2, 8192, 128]⟩
abbrev S1x256x256 : Shape := ⟨3, ![1, 256, 256]⟩
abbrev S1x8192x128 : Shape := ⟨3, ![1, 8192, 128]⟩
abbrev S1x256x128 : Shape := ⟨3, ![1, 256, 128]⟩
abbrev S256x256 : Shape := ⟨2, ![256, 256]⟩
abbrev S256x1 : Shape := ⟨2, ![256, 1]⟩
abbrev S256x128 : Shape := ⟨2, ![256, 128]⟩
abbrev S256 : Shape := ⟨1, ![256]⟩

abbrev nBuf : Space → Nat
  | .hbm => 5
  | .vmem => 10
  | .smem => 0
  | _ => 0

abbrev bufTy : (tb : Table) → Fin (tcTables nBuf tb) → BufTy
  | .hbm, ⟨0, _⟩ => ⟨S2x8192x3072, .bf16⟩
  | .hbm, ⟨1, _⟩ => ⟨S2x8192x1536, .bf16⟩
  | .hbm, ⟨2, _⟩ => ⟨S2x8192x128, .bf16⟩
  | .hbm, ⟨3, _⟩ => ⟨S2x8192x1536, .bf16⟩
  | .hbm, ⟨4, _⟩ => ⟨S2x8192x1536, .bf16⟩
  | .local _ .vmem, ⟨0, _⟩ => ⟨S1x256x256, .bf16⟩
  | .local _ .vmem, ⟨1, _⟩ => ⟨S1x256x256, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x8192x128, .bf16⟩
  | .local _ .vmem, ⟨7, _⟩ => ⟨S1x8192x128, .bf16⟩
  | .local _ .vmem, ⟨8, _⟩ => ⟨S1x256x128, .bf16⟩
  | .local _ .vmem, ⟨9, _⟩ => ⟨S1x256x128, .bf16⟩
  | _, _ => ⟨S2x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 12, 32], ![false, false, false]⟩

@[reducible] def k0_t1_loop (i : grid0.Coords) : Scf.Loop 32 :=
  let c0_i32 : BitVec 32 := 0#32
  let arg2 : BitVec 32 := BitVec.ofNat 32 (i 2).val
  let v5 : BitVec 32 := Scalar.subi arg2 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  ⟨c0_i32, v9, c1_i32_4⟩
def k0_mult1 (i : grid0.Coords) (k0_t1 : Fin (k0_t1_loop i).trips) : BitVec 32 :=
  let c0_i32 : BitVec 32 := 0#32
  let c1_i32_4 : BitVec 32 := 1#32
  let arg8 : BitVec 32 := Scf.iv c0_i32 c1_i32_4 k0_t1
  let c256_i32_20 : BitVec 32 := 256#32
  let v53 : BitVec 32 := Scalar.muli arg8 c256_i32_20
  v53
def k0_off1 (i : grid0.Coords) (k0_t1 : Fin (k0_t1_loop i).trips) : Fin 3 → Nat :=
  let c0_21 : Index := 0#32
  let c0_i32 : BitVec 32 := 0#32
  let c1_i32_4 : BitVec 32 := 1#32
  let arg8 : BitVec 32 := Scf.iv c0_i32 c1_i32_4 k0_t1
  let c256_i32_20 : BitVec 32 := 256#32
  let v53 : BitVec 32 := Scalar.muli arg8 c256_i32_20
  let v54 : BitVec 32 := v53
  let v55 : Index := Scalar.indexCast v54
  let c0_22 : Index := 0#32
  ![0, v55.toNat, 0]
@[reducible] def k0_t2_loop (i : grid0.Coords) : Scf.Loop 32 :=
  let c0_i32 : BitVec 32 := 0#32
  let arg2 : BitVec 32 := BitVec.ofNat 32 (i 2).val
  let v5 : BitVec 32 := Scalar.subi arg2 c0_i32
  let c1_i32 : BitVec 32 := 1#32
  let v7 : BitVec 32 := Scalar.divsi v5 c1_i32
  let v8 : BitVec 32 := Scalar.muli v7 c1_i32
  let v9 : BitVec 32 := Scalar.addi c0_i32 v8
  let v6 : BitVec 32 := Scalar.addi c0_i32 v5
  let c1_i32_5 : BitVec 32 := 1#32
  ⟨v9, v6, c1_i32_5⟩
def k0_mult2 (i : grid0.Coords) (k0_t2 : Fin (k0_t2_loop i).trips) : BitVec 32 :=
  let c0_i32 : BitVec 32 := 0#32
  let arg2 : BitVec 32 := BitVec.ofNat 32 (i 2).val
  let v5 : BitVec 32 := Scalar.subi arg2 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_5 : BitVec 32 := 1#32
  let arg8 : BitVec 32 := Scf.iv v9 c1_i32_5 k0_t2
  let c256_i32_20 : BitVec 32 := 256#32
  let v53 : BitVec 32 := Scalar.muli arg8 c256_i32_20
  v53
def k0_off2 (i : grid0.Coords) (k0_t2 : Fin (k0_t2_loop i).trips) : Fin 3 → Nat :=
  let c0_21 : Index := 0#32
  let c0_i32 : BitVec 32 := 0#32
  let arg2 : BitVec 32 := BitVec.ofNat 32 (i 2).val
  let v5 : BitVec 32 := Scalar.subi arg2 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_5 : BitVec 32 := 1#32
  let arg8 : BitVec 32 := Scf.iv v9 c1_i32_5 k0_t2
  let c256_i32_20 : BitVec 32 := 256#32
  let v53 : BitVec 32 := Scalar.muli arg8 c256_i32_20
  let v54 : BitVec 32 := v53
  let v55 : Index := Scalar.indexCast v54
  let c0_22 : Index := 0#32
  ![0, v55.toNat, 0]
def k0_mult3 (i : grid0.Coords) : BitVec 32 :=
  let arg2 : BitVec 32 := BitVec.ofNat 32 (i 2).val
  let c256_i32 : BitVec 32 := 256#32
  let v12 : BitVec 32 := Scalar.muli arg2 c256_i32
  v12
def k0_off3 (i : grid0.Coords) : Fin 3 → Nat :=
  let c0_6 : Index := 0#32
  let arg2 : BitVec 32 := BitVec.ofNat 32 (i 2).val
  let c256_i32 : BitVec 32 := 256#32
  let v12 : BitVec 32 := Scalar.muli arg2 c256_i32
  let v13 : BitVec 32 := v12
  let v14 : Index := Scalar.indexCast v13
  let c0_7 : Index := 0#32
  ![0, v14.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== FlashRefIdeal.lean ====
abbrev S2x8192x3072 : Shape := ⟨3, ![2, 8192, 3072]⟩
abbrev S2x8192x1536 : Shape := ⟨3, ![2, 8192, 1536]⟩
abbrev S2x8192x128 : Shape := ⟨3, ![2, 8192, 128]⟩
abbrev S2x8192x12x256 : Shape := ⟨4, ![2, 8192, 12, 256]⟩
abbrev S2x8192x1x128 : Shape := ⟨4, ![2, 8192, 1, 128]⟩
abbrev S2x8192x12x128 : Shape := ⟨4, ![2, 8192, 12, 128]⟩
abbrev S2x12x8192x8192 : Shape := ⟨4, ![2, 12, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x12x8192 : Shape := ⟨3, ![2, 12, 8192]⟩
abbrev S2x12x8192x1 : Shape := ⟨4, ![2, 12, 8192, 1]⟩
abbrev S2x12x128x8192 : Shape := ⟨4, ![2, 12, 128, 8192]⟩

abbrev nBuf : Space → Nat
  | .hbm => 44
  | .vmem => 0
  | .smem => 0
  | _ => 0

abbrev bufTy : (tb : Table) → Fin (tcTables nBuf tb) → BufTy
  | .hbm, ⟨0, _⟩ => ⟨S2x8192x3072, .bf16⟩
  | .hbm, ⟨1, _⟩ => ⟨S2x8192x1536, .bf16⟩
  | .hbm, ⟨2, _⟩ => ⟨S2x8192x128, .bf16⟩
  | .hbm, ⟨3, _⟩ => ⟨S2x8192x1536, .bf16⟩
  | .hbm, ⟨4, _⟩ => ⟨S2x8192x3072, .f32⟩
  | .hbm, ⟨5, _⟩ => ⟨S2x8192x1536, .f32⟩
  | .hbm, ⟨6, _⟩ => ⟨S2x8192x128, .f32⟩
  | .hbm, ⟨7, _⟩ => ⟨S2x8192x1536, .f32⟩
  | .hbm, ⟨8, _⟩ => ⟨S2x8192x12x256, .f32⟩
  | .hbm, ⟨9, _⟩ => ⟨S2x8192x1x128, .f32⟩
  | .hbm, ⟨10, _⟩ => ⟨S2x8192x12x128, .f32⟩
  | .hbm, ⟨11, _⟩ => ⟨S2x8192x12x128, .f32⟩
  | .hbm, ⟨12, _⟩ => ⟨S2x8192x12x256, .f32⟩
  | .hbm, ⟨13, _⟩ => ⟨S2x8192x12x128, .f32⟩
  | .hbm, ⟨14, _⟩ => ⟨S2x12x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S2x12x8192x8192, .i1⟩
  | .hbm, ⟨24, _⟩ => ⟨S2x12x8192x8192, .f32⟩
  | .hbm, ⟨25, _⟩ => ⟨S2x12x8192x8192, .f32⟩
  | .hbm, ⟨26, _⟩ => ⟨S_, .f32⟩
  | .hbm, ⟨27, _⟩ => ⟨S2x12x8192, .f32⟩
  | .hbm, ⟨28, _⟩ => ⟨S_, .f32⟩
  | .hbm, ⟨29, _⟩ => ⟨S2x12x8192, .f32⟩
  | .hbm, ⟨30, _⟩ => ⟨S2x12x8192, .f32⟩
  | .hbm, ⟨31, _⟩ => ⟨S2x12x8192x1, .f32⟩
  | .hbm, ⟨32, _⟩ => ⟨S2x12x8192x8192, .f32⟩
  | .hbm, ⟨33, _⟩ => ⟨S2x12x8192x8192, .f32⟩
  | .hbm, ⟨34, _⟩ => ⟨S2x12x8192x8192, .f32⟩
  | .hbm, ⟨35, _⟩ => ⟨S_, .f32⟩
  | .hbm, ⟨36, _⟩ => ⟨S2x12x8192, .f32⟩
  | .hbm, ⟨37, _⟩ => ⟨S2x12x8192x1, .f32⟩
  | .hbm, ⟨38, _⟩ => ⟨S2x12x8192x8192, .f32⟩
  | .hbm, ⟨39, _⟩ => ⟨S2x12x8192x8192, .f32⟩
  | .hbm, ⟨40, _⟩ => ⟨S2x12x128x8192, .f32⟩
  | .hbm, ⟨41, _⟩ => ⟨S2x8192x12x128, .f32⟩
  | .hbm, ⟨42, _⟩ => ⟨S2x8192x1536, .f32⟩
  | .hbm, ⟨43, _⟩ => ⟨S2x8192x1536, .bf16⟩
  | _, _ => ⟨S2x8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Mlp.lean ====
abbrev S16384x2048 : Shape := ⟨2, ![16384, 2048]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048x8192, .bf16⟩
  | .hbm, ⟨2, _⟩ => ⟨S8192x2048, .bf16⟩
  | .hbm, ⟨3, _⟩ => ⟨S1x2048, .f32⟩
  | .hbm, ⟨4, _⟩ => ⟨S1x2048, .f32⟩
  | .hbm, ⟨5, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c15_i32 : BitVec 32 := 15#32
  let v17 : BitVec 1 := Scalar.cmpi .eq arg1 c15_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpRefIdeal.lean ====
abbrev S16384x2048 : Shape := ⟨2, ![16384, 2048]⟩
abbrev S2048x8192 : Shape := ⟨2, ![2048, 8192]⟩
abbrev S8192x2048 : Shape := ⟨2, ![8192, 2048]⟩
abbrev S1x2048 : Shape := ⟨2, ![1, 2048]⟩
abbrev S16384x8192 : Shape := ⟨2, ![16384, 8192]⟩
abbrev S_ : Shape := ⟨0, ![]⟩
abbrev S16384 : Shape := ⟨1, ![16384]⟩
abbrev S16384x1 : Shape := ⟨2, ![16384, 1]⟩

abbrev nBuf : Space → Nat
  | .hbm => 44
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x8192, .bf16⟩
  | .hbm, ⟨2, _⟩ => ⟨S8192x2048, .bf16⟩
  | .hbm, ⟨3, _⟩ => ⟨S1x2048, .f32⟩
  | .hbm, ⟨4, _⟩ => ⟨S1x2048, .f32⟩
  | .hbm, ⟨5, _⟩ => ⟨S2048x8192, .f32⟩
  | .hbm, ⟨6, _⟩ => ⟨S8192x2048, .f32⟩
  | .hbm, ⟨7, _⟩ => ⟨S16384x8192, .f32⟩
  | .hbm, ⟨8, _⟩ => ⟨S_, .f32⟩
  | .hbm, ⟨9, _⟩ => ⟨S16384x8192, .f32⟩
  | .hbm, ⟨10, _⟩ => ⟨S16384x8192, .f32⟩
  | .hbm, ⟨11, _⟩ => ⟨S16384x8192, .f32⟩
  | .hbm, ⟨12, _⟩ => ⟨S16384x2048, .f32⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x2048, .f32⟩
  | .hbm, ⟨33, _⟩ => ⟨S16384x2048, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== GdnIn.lean ====
abbrev S16384x2048 : Shape := ⟨2, ![16384, 2048]⟩
abbrev S2048x6680 : Shape := ⟨2, ![2048, 6680]⟩
abbrev S2048x6144 : Shape := ⟨2, ![2048, 6144]⟩
abbrev S2048x24 : Shape := ⟨2, ![2048, 24]⟩
abbrev S2048x512 : Shape := ⟨2, ![2048, 512]⟩
abbrev S_ : Shape := ⟨0, ![]⟩
abbrev S2048x232 : Shape := ⟨2, ![2048, 232]⟩
abbrev S2048x6912 : Shape := ⟨2, ![2048, 6912]⟩
abbrev S16384x6912 : Shape := ⟨2, ![16384, 6912]⟩
abbrev S512x2048 : Shape := ⟨2, ![512, 2048]⟩
abbrev S2048x768 : Shape := ⟨2, ![2048, 768]⟩
abbrev S512x768 : Shape := ⟨2, ![512, 768]⟩

abbrev nBuf : Space → Nat
  | .hbm => 10
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048x6680, .f32⟩
  | .hbm, ⟨2, _⟩ => ⟨S2048x6144, .f32⟩
  | .hbm, ⟨3, _⟩ => ⟨S2048x24, .f32⟩
  | .hbm, ⟨4, _⟩ => ⟨S2048x512, .f32⟩
  | .hbm, ⟨5, _⟩ => ⟨S_, .f32⟩
  | .hbm, ⟨6, _⟩ => ⟨S2048x232, .f32⟩
  | .hbm, ⟨7, _⟩ => ⟨S2048x6912, .f32⟩
  | .hbm, ⟨8, _⟩ => ⟨S2048x6912, .bf16⟩
  | .hbm, ⟨9, _⟩ => ⟨S16384x6912, .f32⟩
  | .local _ .vmem, ⟨0, _⟩ => ⟨S512x2048, .f32⟩
  | .local _ .vmem, ⟨1, _⟩ => ⟨S512x2048, .f32⟩
  | .local _ .vmem, ⟨2, _⟩ => ⟨S2048x768, .bf16⟩
  | .local _ .vmem, ⟨3, _⟩ => ⟨S2048x768, .bf16⟩
  | .local _ .vmem, ⟨4, _⟩ => ⟨S512x768, .f32⟩
  | .local _ .vmem, ⟨5, _⟩ => ⟨S512x768, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GdnInRefIdeal.lean ====
abbrev S16384x2048 : Shape := ⟨2, ![16384, 2048]⟩
abbrev S2048x6680 : Shape := ⟨2, ![2048, 6680]⟩
abbrev S16384x6680 : Shape := ⟨2, ![16384, 6680]⟩
abbrev S16384x6144 : Shape := ⟨2, ![16384, 6144]⟩
abbrev S16384x24 : Shape := ⟨2, ![16384, 24]⟩
abbrev S16384x512 : Shape := ⟨2, ![16384, 512]⟩
abbrev S_ : Shape := ⟨0, ![]⟩
abbrev S16384x232 : Shape := ⟨2, ![16384, 232]⟩
abbrev S16384x6912 : Shape := ⟨2, ![16384, 6912]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x6680, .f32⟩
  | .hbm, ⟨2, _⟩ => ⟨S16384x6680, .f32⟩
  | .hbm, ⟨3, _⟩ => ⟨S16384x6144, .f32⟩
  | .hbm, ⟨4, _⟩ => ⟨S16384x24, .f32⟩
  | .hbm, ⟨5, _⟩ => ⟨S16384x512, .f32⟩
  | .hbm, ⟨6, _⟩ => ⟨S_, .f32⟩
  | .hbm, ⟨7, _⟩ => ⟨S16384x232, .f32⟩
  | .hbm, ⟨8, _⟩ => ⟨S16384x6912, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutProj.lean ====
abbrev S16384x1536 : Shape := ⟨2, ![16384, 1536]⟩
abbrev S16384x512 : Shape := ⟨2, ![16384, 512]⟩
abbrev S2048x2048 : Shape := ⟨2, ![2048, 2048]⟩
abbrev S16384x2048 : Shape := ⟨2, ![16384, 2048]⟩
abbrev S1x2048 : Shape := ⟨2, ![1, 2048]⟩
abbrev S1536x2048 : Shape := ⟨2, ![1536, 2048]⟩
abbrev S512x2048 : Shape := ⟨2, ![512, 2048]⟩
abbrev S256x1536 : Shape := ⟨2, ![256, 1536]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S16384x1536, .bf16⟩
  | .hbm, ⟨1, _⟩ => ⟨S16384x512, .bf16⟩
  | .hbm, ⟨2, _⟩ => ⟨S2048x2048, .f32⟩
  | .hbm, ⟨3, _⟩ => ⟨S16384x2048, .f32⟩
  | .hbm, ⟨4, _⟩ => ⟨S1x2048, .f32⟩
  | .hbm, ⟨5, _⟩ => ⟨S1x2048, .f32⟩
  | .hbm, ⟨6, _⟩ => ⟨S2048x2048, .bf16⟩
  | .hbm, ⟨7, _⟩ => ⟨S1536x2048, .bf16⟩
  | .hbm, ⟨8, _⟩ => ⟨S512x2048, .bf16⟩
  | .hbm, ⟨9, _⟩ => ⟨S16384x2048, .f32⟩
  | .local _ .vmem, ⟨0, _⟩ => ⟨S256x1536, .bf16⟩
  | .local _ .vmem, ⟨1, _⟩ => ⟨S256x1536, .bf16⟩
  | .local _ .vmem, ⟨2, _⟩ => ⟨S256x512, .bf16⟩
  | .local _ .vmem, ⟨3, _⟩ => ⟨S256x512, .bf16⟩
  | .local _ .vmem, ⟨4, _⟩ => ⟨S1536x2048, .bf16⟩
  | .local _ .vmem, ⟨5, _⟩ => ⟨S512x2048, .bf16⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutProjRefIdeal.lean ====
abbrev S16384x1536 : Shape := ⟨2, ![16384, 1536]⟩
abbrev S16384x512 : Shape := ⟨2, ![16384, 512]⟩
abbrev S2048x2048 : Shape := ⟨2, ![2048, 2048]⟩
abbrev S16384x2048 : Shape := ⟨2, ![16384, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩

abbrev nBuf : Space → Nat
  | .hbm => 40
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S16384x512, .bf16⟩
  | .hbm, ⟨2, _⟩ => ⟨S2048x2048, .f32⟩
  | .hbm, ⟨3, _⟩ => ⟨S16384x2048, .f32⟩
  | .hbm, ⟨4, _⟩ => ⟨S1x2048, .f32⟩
  | .hbm, ⟨5, _⟩ => ⟨S1x2048, .f32⟩
  | .hbm, ⟨6, _⟩ => ⟨S16384x2048, .bf16⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== MemKv.lean ====
abbrev S512x2048 : Shape := ⟨2, ![512, 2048]⟩
abbrev S2048x1024 : Shape := ⟨2, ![2048, 1024]⟩
abbrev S512x1024 : Shape := ⟨2, ![512, 1024]⟩
abbrev S256x2048 : Shape := ⟨2, ![256, 2048]⟩
abbrev S2048x512 : Shape := ⟨2, ![2048, 512]⟩
abbrev S256x512 : Shape := ⟨2, ![256, 512]⟩

abbrev nBuf : Space → Nat
  | .hbm => 4
  | .vmem => 6
  | .smem => 0
  | _ => 0

abbrev bufTy : (tb : Table) → Fin (tcTables nBuf tb) → BufTy
  | .hbm, ⟨0, _⟩ => ⟨S512x2048, .f32⟩
  | .hbm, ⟨1, _⟩ => ⟨S2048x1024, .f32⟩
  | .hbm, ⟨2, _⟩ => ⟨S2048x1024, .bf16⟩
  | .hbm, ⟨3, _⟩ => ⟨S512x1024, .f32⟩
  | .local _ .vmem, ⟨0, _⟩ => ⟨S256x2048, .f32⟩
  | .local _ .vmem, ⟨1, _⟩ => ⟨S256x2048, .f32⟩
  | .local _ .vmem, ⟨2, _⟩ => ⟨S2048x512, .bf16⟩
  | .local _ .vmem, ⟨3, _⟩ => ⟨S2048x512, .bf16⟩
  | .local _ .vmem, ⟨4, _⟩ => ⟨S256x512, .f32⟩
  | .local _ .vmem, ⟨5, _⟩ => ⟨S256x512, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemKvRefIdeal.lean ====
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048x1024, .f32⟩
  | .hbm, ⟨2, _⟩ => ⟨S512x1024, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MemAttn.lean ====
abbrev S2x8192x1664 : Shape := ⟨3, ![2, 8192, 1664]⟩
abbrev S2x256x1024 : Shape := ⟨3, ![2, 256, 1024]⟩
abbrev S2x8192x512 : Shape := ⟨3, ![2, 8192, 512]⟩
abbrev S1x512x512 : Shape := ⟨3, ![1, 512, 512]⟩
abbrev S1x256x1024 : Shape := ⟨3, ![1, 256, 1024]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S2x8192x1664, .f32⟩
  | .hbm, ⟨1, _⟩ => ⟨S2x256x1024, .f32⟩
  | .hbm, ⟨2, _⟩ => ⟨S2x8192x512, .bf16⟩
  | .local _ .vmem, ⟨0, _⟩ => ⟨S1x512x512, .f32⟩
  | .local _ .vmem, ⟨1, _⟩ => ⟨S1x512x512, .f32⟩
  | .local _ .vmem, ⟨2, _⟩ => ⟨S1x256x1024, .f32⟩
  | .local _ .vmem, ⟨3, _⟩ => ⟨S1x256x1024, .f32⟩
  | .local _ .vmem, ⟨4, _⟩ => ⟨S1x512x512, .bf16⟩
  | .local _ .vmem, ⟨5, _⟩ => ⟨S1x512x512, .bf16⟩
  | _, _ => ⟨S2x8192x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemAttnRefIdeal.lean ====
abbrev S2x8192x1664 : Shape := ⟨3, ![2, 8192, 1664]⟩
abbrev S2x256x1024 : Shape := ⟨3, ![2, 256, 1024]⟩
abbrev S2x8192x512 : Shape := ⟨3, ![2, 8192, 512]⟩
abbrev S2x8192x4x128 : Shape := ⟨4, ![2, 8192, 4, 128]⟩
abbrev S2x256x512 : Shape := ⟨3, ![2, 256, 512]⟩
abbrev S2x256x4x128 : Shape := ⟨4, ![2, 256, 4, 128]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩

abbrev nBuf : Space → Nat
  | .hbm => 30
  | .vmem => 0
  | .smem => 0
  | _ => 0

abbrev bufTy : (tb : Table) → Fin (tcTables nBuf tb) → BufTy
  | .hbm, ⟨0, _⟩ => ⟨S2x8192x1664, .f32⟩
  | .hbm, ⟨1, _⟩ => ⟨S2x256x1024, .f32⟩
  | .hbm, ⟨2, _⟩ => ⟨S2x8192x512, .f32⟩
  | .hbm, ⟨3, _⟩ => ⟨S2x8192x4x128, .f32⟩
  | .hbm, ⟨4, _⟩ => ⟨S2x256x512, .f32⟩
  | .hbm, ⟨5, _⟩ => ⟨S2x256x4x128, .f32⟩
  | .hbm, ⟨6, _⟩ => ⟨S2x256x512, .f32⟩
  | .hbm, ⟨7, _⟩ => ⟨S2x256x4x128, .f32⟩
  | .hbm, ⟨8, _⟩ => ⟨S2x4x8192x256, .f32⟩
  | .hbm, ⟨9, _⟩ => ⟨S_, .f32⟩
  | .hbm, ⟨10, _⟩ => ⟨S2x4x8192x256, .f32⟩
  | .hbm, ⟨11, _⟩ => ⟨S2x4x8192x256, .f32⟩
  | .hbm, ⟨12, _⟩ => ⟨S_, .f32⟩
  | .hbm, ⟨13, _⟩ => ⟨S2x4x8192, .f32⟩
  | .hbm, ⟨14, _⟩ => ⟨S_, .f32⟩
  | .hbm, ⟨15, _⟩ => ⟨S2x4x8192, .f32⟩
  | .hbm, ⟨16, _⟩ => ⟨S2x4x8192, .f32⟩
  | .hbm, ⟨17, _⟩ => ⟨S2x4x8192x1, .f32⟩
  | .hbm, ⟨18, _⟩ => ⟨S2x4x8192x256, .f32⟩
  | .hbm, ⟨19, _⟩ => ⟨S2x4x8192x256, .f32⟩
  | .hbm, ⟨20, _⟩ => ⟨S2x4x8192x256, .f32⟩
  | .hbm, ⟨21, _⟩ => ⟨S_, .f32⟩
  | .hbm, ⟨22, _⟩ => ⟨S2x4x8192, .f32⟩
  | .hbm, ⟨23, _⟩ => ⟨S2x4x8192x1, .f32⟩
  | .hbm, ⟨24, _⟩ => ⟨S2x4x8192x256, .f32⟩
  | .hbm, ⟨25, _⟩ => ⟨S2x4x8192x256, .f32⟩
  | .hbm, ⟨26, _⟩ => ⟨S2x4x128x8192, .f32⟩
  | .hbm, ⟨27, _⟩ => ⟨S2x8192x4x128, .f32⟩
  | .hbm, ⟨28, _⟩ => ⟨S2x8192x512, .f32⟩
  | .hbm, ⟨29, _⟩ => ⟨S2x8192x512, .bf16⟩
  | _, _ => ⟨S2x8192x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== MlaIn.lean ====
abbrev S16384x2048 : Shape := ⟨2, ![16384, 2048]⟩
abbrev S2048x1600 : Shape := ⟨2, ![2048, 1600]⟩
abbrev S_ : Shape := ⟨0, ![]⟩
abbrev S512x2304 : Shape := ⟨2, ![512, 2304]⟩
abbrev S512x3072 : Shape := ⟨2, ![512, 3072]⟩
abbrev S2048x1024 : Shape := ⟨2, ![2048, 1024]⟩
abbrev S2048x64 : Shape := ⟨2, ![2048, 64]⟩
abbrev S2048x512 : Shape := ⟨2, ![2048, 512]⟩
abbrev S2048x32 : Shape := ⟨2, ![2048, 32]⟩
abbrev S2048x1664 : Shape := ⟨2, ![2048, 1664]⟩
abbrev S512x12x192 : Shape := ⟨3, ![512, 12, 192]⟩
abbrev S512x12x128 : Shape := ⟨3, ![512, 12, 128]⟩
abbrev S512x12x64 : Shape := ⟨3, ![512, 12, 64]⟩
abbrev S512x12x256 : Shape := ⟨3, ![512, 12, 256]⟩
abbrev S512x12x32 : Shape := ⟨3, ![512, 12, 32]⟩
abbrev S512x1536 : Shape := ⟨2, ![512, 1536]⟩
abbrev S512x4608 : Shape := ⟨2, ![512, 4608]⟩
abbrev S16384x1664 : Shape := ⟨2, ![16384, 1664]⟩
abbrev S512x2048 : Shape := ⟨2, ![512, 2048]⟩
abbrev S512x1664 : Shape := ⟨2, ![512, 1664]⟩

abbrev nBuf : Space → Nat
  | .hbm => 38
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048x1600, .f32⟩
  | .hbm, ⟨2, _⟩ => ⟨S_, .f32⟩
  | .hbm, ⟨3, _⟩ => ⟨S512x2304, .f32⟩
  | .hbm, ⟨4, _⟩ => ⟨S_, .f32⟩
  | .hbm, ⟨5, _⟩ => ⟨S512x3072, .f32⟩
  | .hbm, ⟨6, _⟩ => ⟨S2048x1024, .f32⟩
  | .hbm, ⟨7, _⟩ => ⟨S2048x64, .f32⟩
  | .hbm, ⟨8, _⟩ => ⟨S2048x512, .f32⟩
  | .hbm, ⟨9, _⟩ => ⟨S2048x32, .f32⟩
  | .hbm, ⟨10, _⟩ => ⟨S2048x32, .f32⟩
  | .hbm, ⟨11, _⟩ => ⟨S2048x32, .f32⟩
  | .hbm, ⟨12, _⟩ => ⟨S2048x64, .f32⟩
  | .hbm, ⟨13, _⟩ => ⟨S2048x1664, .f32⟩
  | .hbm, ⟨14, _⟩ => ⟨S2048x1664, .bf16⟩
  | .hbm, ⟨15, _⟩ => ⟨S512x12x192, .f32⟩
  | .hbm, ⟨16, _⟩ => ⟨S512x12x128, .f32⟩
  | .hbm, ⟨17, _⟩ => ⟨S512x12x64, .f32⟩
  | .hbm, ⟨18, _⟩ => ⟨S_, .f32⟩
  | .hbm, ⟨19, _⟩ => ⟨S512x12x64, .f32⟩
  | .hbm, ⟨20, _⟩ => ⟨S512x12x256, .f32⟩
  | .hbm, ⟨21, _⟩ => ⟨S512x3072, .f32⟩
  | .hbm, ⟨22, _⟩ => ⟨S512x12x32, .f32⟩
  | .hbm, ⟨23, _⟩ => ⟨S512x12x32, .f32⟩
  | .hbm, ⟨24, _⟩ => ⟨S512x12x32, .f32⟩
  | .hbm, ⟨25, _⟩ => ⟨S512x12x64, .f32⟩
  | .hbm, ⟨26, _⟩ => ⟨S512x12x128, .f32⟩
  | .hbm, ⟨27, _⟩ => ⟨S512x1536, .f32⟩
  | .hbm, ⟨28, _⟩ => ⟨S512x4608, .f32⟩
  | .hbm, ⟨29, _⟩ => ⟨S512x4608, .bf16⟩
  | .hbm, ⟨30, _⟩ => ⟨S512x12x256, .f32⟩
  | .hbm, ⟨31, _⟩ => ⟨S512x12x128, .f32⟩
  | .hbm, ⟨32, _⟩ => ⟨S512x1536, .f32⟩
  | .hbm, ⟨33, _⟩ => ⟨S512x12x128, .f32⟩
  | .hbm, ⟨34, _⟩ => ⟨S512x1536, .f32⟩
  | .hbm, ⟨35, _⟩ => ⟨S512x3072, .f32⟩
  | .hbm, ⟨36, _⟩ => ⟨S512x3072, .bf16⟩
  | .hbm, ⟨37, _⟩ => ⟨S16384x1664, .f32⟩
  | .local _ .vmem, ⟨0, _⟩ => ⟨S512x2048, .f32⟩
  | .local _ .vmem, ⟨1, _⟩ => ⟨S512x2048, .f32⟩
  | .local _ .vmem, ⟨2, _⟩ => ⟨S2048x1664, .bf16⟩
  | .local _ .vmem, ⟨3, _⟩ => ⟨S512x1664, .f32⟩
  | .local _ .vmem, ⟨4, _⟩ => ⟨S512x1664, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlaInRefIdeal.lean ====
abbrev S16384x2048 : Shape := ⟨2, ![16384, 2048]⟩
abbrev S2048x1600 : Shape := ⟨2, ![2048, 1600]⟩
abbrev S16384x1600 : Shape := ⟨2, ![16384, 1600]⟩
abbrev S16384x1024 : Shape := ⟨2, ![16384, 1024]⟩
abbrev S16384x64 : Shape := ⟨2, ![16384, 64]⟩
abbrev S16384x512 : Shape := ⟨2, ![16384, 512]⟩
abbrev S16384x32 : Shape := ⟨2, ![16384, 32]⟩
abbrev S16384x1664 : Shape := ⟨2, ![16384, 1664]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x1600, .f32⟩
  | .hbm, ⟨2, _⟩ => ⟨S16384x1600, .f32⟩
  | .hbm, ⟨3, _⟩ => ⟨S16384x1024, .f32⟩
  | .hbm, ⟨4, _⟩ => ⟨S16384x64, .f32⟩
  | .hbm, ⟨5, _⟩ => ⟨S16384x512, .f32⟩
  | .hbm, ⟨6, _⟩ => ⟨S16384x32, .f32⟩
  | .hbm, ⟨7, _⟩ => ⟨S16384x32, .f32⟩
  | .hbm, ⟨8, _⟩ => ⟨S16384x32, .f32⟩
  | .hbm, ⟨9, _⟩ => ⟨S16384x1664, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== KvUp.lean ====
abbrev S16384x1664 : Shape := ⟨2, ![16384, 1664]⟩
abbrev S1x512 : Shape := ⟨2, ![1, 512]⟩
abbrev S512x3072 : Shape := ⟨2, ![512, 3072]⟩
abbrev S16384x32 : Shape := ⟨2, ![16384, 32]⟩
abbrev S_ : Shape := ⟨0, ![]⟩
abbrev S2048x1600 : Shape := ⟨2, ![2048, 1600]⟩
abbrev S512x2304 : Shape := ⟨2, ![512, 2304]⟩
abbrev S2048x1024 : Shape := ⟨2, ![2048, 1024]⟩
abbrev S2048x64 : Shape := ⟨2, ![2048, 64]⟩
abbrev S2048x512 : Shape := ⟨2, ![2048, 512]⟩
abbrev S2048x32 : Shape := ⟨2, ![2048, 32]⟩
abbrev S2048x1664 : Shape := ⟨2, ![2048, 1664]⟩
abbrev S512x12x192 : Shape := ⟨3, ![512, 12, 192]⟩
abbrev S512x12x128 : Shape := ⟨3, ![512, 12, 128]⟩
abbrev S512x12x64 : Shape := ⟨3, ![512, 12, 64]⟩
abbrev S512x12x256 : Shape := ⟨3, ![512, 12, 256]⟩
abbrev S512x12x32 : Shape := ⟨3, ![512, 12, 32]⟩
abbrev S512x1536 : Shape := ⟨2, ![512, 1536]⟩
abbrev S512x4608 : Shape := ⟨2, ![512, 4608]⟩
abbrev S16384x64 : Shape := ⟨2, ![16384, 64]⟩
abbrev S16384x128 : Shape := ⟨2, ![16384, 128]⟩
abbrev S16384x1536 : Shape := ⟨2, ![16384, 1536]⟩
abbrev S256x512 : Shape := ⟨2, ![256, 512]⟩
abbrev S256x128 : Shape := ⟨2, ![256, 128]⟩
abbrev S256x1536 : Shape := ⟨2, ![256, 1536]⟩
abbrev S256 : Shape := ⟨1, ![256]⟩
abbrev S256x1 : Shape := ⟨2, ![256, 1]⟩
abbrev S256x3072 : Shape := ⟨2, ![256, 3072]⟩

abbrev nBuf : Space → Nat
  | .hbm => 51
  | .vmem => 16
  | .smem => 0
  | _ => 0

abbrev bufTy : (tb : Table) → Fin (tcTables nBuf tb) → BufTy
  | .hbm, ⟨0, _⟩ => ⟨S16384x1664, .f32⟩
  | .hbm, ⟨1, _⟩ => ⟨S1x512, .f32⟩
  | .hbm, ⟨2, _⟩ => ⟨S512x3072, .f32⟩
  | .hbm, ⟨3, _⟩ => ⟨S16384x32, .f32⟩
  | .hbm, ⟨4, _⟩ => ⟨S16384x32, .f32⟩
  | .hbm, ⟨5, _⟩ => ⟨S_, .f32⟩
  | .hbm, ⟨6, _⟩ => ⟨S2048x1600, .f32⟩
  | .hbm, ⟨7, _⟩ => ⟨S_, .f32⟩
  | .hbm, ⟨8, _⟩ => ⟨S512x2304, .f32⟩
  | .hbm, ⟨9, _⟩ => ⟨S2048x1024, .f32⟩
  | .hbm, ⟨10, _⟩ => ⟨S2048x64, .f32⟩
  | .hbm, ⟨11, _⟩ => ⟨S2048x512, .f32⟩
  | .hbm, ⟨12, _⟩ => ⟨S2048x32, .f32⟩
  | .hbm, ⟨13, _⟩ => ⟨S2048x32, .f32⟩
  | .hbm, ⟨14, _⟩ => ⟨S2048x32, .f32⟩
  | .hbm, ⟨15, _⟩ => ⟨S2048x64, .f32⟩
  | .hbm, ⟨16, _⟩ => ⟨S2048x1664, .f32⟩
  | .hbm, ⟨17, _⟩ => ⟨S2048x1664, .bf16⟩
  | .hbm, ⟨18, _⟩ => ⟨S512x12x192, .f32⟩
  | .hbm, ⟨19, _⟩ => ⟨S512x12x128, .f32⟩
  | .hbm, ⟨20, _⟩ => ⟨S512x12x64, .f32⟩
  | .hbm, ⟨21, _⟩ => ⟨S_, .f32⟩
  | .hbm, ⟨22, _⟩ => ⟨S512x12x64, .f32⟩
  | .hbm, ⟨23, _⟩ => ⟨S512x12x256, .f32⟩
  | .hbm, ⟨24, _⟩ => ⟨S512x3072, .f32⟩
  | .hbm, ⟨25, _⟩ => ⟨S512x12x32, .f32⟩
  | .hbm, ⟨26, _⟩ => ⟨S512x12x32, .f32⟩
  | .hbm, ⟨27, _⟩ => ⟨S512x12x32, .f32⟩
  | .hbm, ⟨28, _⟩ => ⟨S512x12x64, .f32⟩
  | .hbm, ⟨29, _⟩ => ⟨S512x12x128, .f32⟩
  | .hbm, ⟨30, _⟩ => ⟨S512x1536, .f32⟩
  | .hbm, ⟨31, _⟩ => ⟨S512x4608, .f32⟩
  | .hbm, ⟨32, _⟩ => ⟨S512x4608, .bf16⟩
  | .hbm, ⟨33, _⟩ => ⟨S512x12x256, .f32⟩
  | .hbm, ⟨34, _⟩ => ⟨S512x12x128, .f32⟩
  | .hbm, ⟨35, _⟩ => ⟨S512x1536, .f32⟩
  | .hbm, ⟨36, _⟩ => ⟨S512x12x128, .f32⟩
  | .hbm, ⟨37, _⟩ => ⟨S512x1536, .f32⟩
  | .hbm, ⟨38, _⟩ => ⟨S512x3072, .f32⟩
  | .hbm, ⟨39, _⟩ => ⟨S512x3072, .bf16⟩
  | .hbm, ⟨40, _⟩ => ⟨S16384x64, .f32⟩
  | .hbm, ⟨41, _⟩ => ⟨S_, .i32⟩
  | .hbm, ⟨42, _⟩ => ⟨S_, .f32⟩
  | .hbm, ⟨43, _⟩ => ⟨S16384x128, .f32⟩
  | .hbm, ⟨44, _⟩ => ⟨S16384x64, .f32⟩
  | .hbm, ⟨45, _⟩ => ⟨S_, .i32⟩
  | .hbm, ⟨46, _⟩ => ⟨S_, .f32⟩
  | .hbm, ⟨47, _⟩ => ⟨S16384x128, .f32⟩
  | .hbm, ⟨48, _⟩ => ⟨S16384x1536, .bf16⟩
  | .hbm, ⟨49, _⟩ => ⟨S16384x1536, .bf16⟩
  | .hbm, ⟨50, _⟩ => ⟨S16384x128, .bf16⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S1x512, .f32⟩
  | .local _ .vmem, ⟨5, _⟩ => ⟨S512x3072, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x1536, .bf16⟩
  | .local _ .vmem, ⟨11, _⟩ => ⟨S256x1536, .bf16⟩
  | .local _ .vmem, ⟨12, _⟩ => ⟨S256x1536, .bf16⟩
  | .local _ .vmem, ⟨13, _⟩ => ⟨S256x1536, .bf16⟩
  | .local _ .vmem, ⟨14, _⟩ => ⟨S256x128, .bf16⟩
  | .local _ .vmem, ⟨15, _⟩ => ⟨S256x128, .bf16⟩
  | _, _ => ⟨S16384x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c : Ref sig .tc := ⟨.hbm, 41, rfl⟩
abbrev main_call0_v0 : Ref sig .tc := ⟨.hbm, 42, rfl⟩
abbrev main_v33 : Ref sig .tc := ⟨.hbm, 43, rfl⟩
abbrev main_v34 : Ref sig .tc := ⟨.hbm, 44, rfl⟩
abbrev main_c_2 : Ref sig .tc := ⟨.hbm, 45, rfl⟩
abbrev main_call1_v0 : Ref sig .tc := ⟨.hbm, 46, rfl⟩
abbrev main_v35 : Ref sig .tc := ⟨.hbm, 47, rfl⟩
abbrev main_v36_0 : Ref sig .tc := ⟨.hbm, 48, rfl⟩
abbrev main_v36_1 : Ref sig .tc := ⟨.hbm, 49, rfl⟩
abbrev main_v36_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KvUpRefIdeal.lean ====
abbrev S16384x1664 : Shape := ⟨2, ![16384, 1664]⟩
abbrev S1x512 : Shape := ⟨2, ![1, 512]⟩
abbrev S512x3072 : Shape := ⟨2, ![512, 3072]⟩
abbrev S16384x32 : Shape := ⟨2, ![16384, 32]⟩
abbrev S16384x512 : Shape := ⟨2, ![16384, 512]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x3072 : Shape := ⟨2, ![16384, 3072]⟩
abbrev S16384x12x256 : Shape := ⟨3, ![16384, 12, 256]⟩
abbrev S16384x12x128 : Shape := ⟨3, ![16384, 12, 128]⟩
abbrev S16384x1536 : Shape := ⟨2, ![16384, 1536]⟩
abbrev S16384x128 : Shape := ⟨2, ![16384, 128]⟩

abbrev nBuf : Space → Nat
  | .hbm => 40
  | .vmem => 0
  | .smem => 0
  | _ => 0

abbrev bufTy : (tb : Table) → Fin (tcTables nBuf tb) → BufTy
  | .hbm, ⟨0, _⟩ => ⟨S16384x1664, .f32⟩
  | .hbm, ⟨1, _⟩ => ⟨S1x512, .f32⟩
  | .hbm, ⟨2, _⟩ => ⟨S512x3072, .f32⟩
  | .hbm, ⟨3, _⟩ => ⟨S16384x32, .f32⟩
  | .hbm, ⟨4, _⟩ => ⟨S16384x32, .f32⟩
  | .hbm, ⟨5, _⟩ => ⟨S16384x512, .f32⟩
  | .hbm, ⟨6, _⟩ => ⟨S16384x64, .f32⟩
  | .hbm, ⟨7, _⟩ => ⟨S16384x64, .f32⟩
  | .hbm, ⟨8, _⟩ => ⟨S16384x512, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x3072, .f32⟩
  | .hbm, ⟨24, _⟩ => ⟨S16384x12x256, .f32⟩
  | .hbm, ⟨25, _⟩ => ⟨S16384x12x128, .f32⟩
  | .hbm, ⟨26, _⟩ => ⟨S16384x1536, .f32⟩
  | .hbm, ⟨27, _⟩ => ⟨S16384x12x128, .f32⟩
  | .hbm, ⟨28, _⟩ => ⟨S16384x1536, .f32⟩
  | .hbm, ⟨29, _⟩ => ⟨S16384x64, .f32⟩
  | .hbm, ⟨30, _⟩ => ⟨S16384x64, .f32⟩
  | .hbm, ⟨31, _⟩ => ⟨S16384x64, .f32⟩
  | .hbm, ⟨32, _⟩ => ⟨S16384x64, .f32⟩
  | .hbm, ⟨33, _⟩ => ⟨S16384x64, .f32⟩
  | .hbm, ⟨34, _⟩ => ⟨S_, .f32⟩
  | .hbm, ⟨35, _⟩ => ⟨S16384x64, .f32⟩
  | .hbm, ⟨36, _⟩ => ⟨S16384x128, .f32⟩
  | .hbm, ⟨37, _⟩ => ⟨S16384x1536, .bf16⟩
  | .hbm, ⟨38, _⟩ => ⟨S16384x1536, .bf16⟩
  | .hbm, ⟨39, _⟩ => ⟨S16384x128, .bf16⟩
  | _, _ => ⟨S16384x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== QUp.lean ====
abbrev S16384x1664 : Shape := ⟨2, ![16384, 1664]⟩
abbrev S1x512 : Shape := ⟨2, ![1, 512]⟩
abbrev S512x2304 : Shape := ⟨2, ![512, 2304]⟩
abbrev S16384x32 : Shape := ⟨2, ![16384, 32]⟩
abbrev S_ : Shape := ⟨0, ![]⟩
abbrev S2048x1600 : Shape := ⟨2, ![2048, 1600]⟩
abbrev S512x3072 : Shape := ⟨2, ![512, 3072]⟩
abbrev S2048x1024 : Shape := ⟨2, ![2048, 1024]⟩
abbrev S2048x64 : Shape := ⟨2, ![2048, 64]⟩
abbrev S2048x512 : Shape := ⟨2, ![2048, 512]⟩
abbrev S2048x32 : Shape := ⟨2, ![2048, 32]⟩
abbrev S2048x1664 : Shape := ⟨2, ![2048, 1664]⟩
abbrev S512x12x192 : Shape := ⟨3, ![512, 12, 192]⟩
abbrev S512x12x128 : Shape := ⟨3, ![512, 12, 128]⟩
abbrev S512x12x64 : Shape := ⟨3, ![512, 12, 64]⟩
abbrev S512x12x256 : Shape := ⟨3, ![512, 12, 256]⟩
abbrev S512x12x32 : Shape := ⟨3, ![512, 12, 32]⟩
abbrev S512x1536 : Shape := ⟨2, ![512, 1536]⟩
abbrev S512x4608 : Shape := ⟨2, ![512, 4608]⟩
abbrev S16384x64 : Shape := ⟨2, ![16384, 64]⟩
abbrev S16384x128 : Shape := ⟨2, ![16384, 128]⟩
abbrev S16384x3072 : Shape := ⟨2, ![16384, 3072]⟩
abbrev S256x512 : Shape := ⟨2, ![256, 512]⟩
abbrev S256x128 : Shape := ⟨2, ![256, 128]⟩
abbrev S256x3072 : Shape := ⟨2, ![256, 3072]⟩
abbrev S256 : Shape := ⟨1, ![256]⟩
abbrev S256x1 : Shape := ⟨2, ![256, 1]⟩
abbrev S256x4608 : Shape := ⟨2, ![256, 4608]⟩

abbrev nBuf : Space → Nat
  | .hbm => 49
  | .vmem => 10
  | .smem => 0
  | _ => 0

abbrev bufTy : (tb : Table) → Fin (tcTables nBuf tb) → BufTy
  | .hbm, ⟨0, _⟩ => ⟨S16384x1664, .f32⟩
  | .hbm, ⟨1, _⟩ => ⟨S1x512, .f32⟩
  | .hbm, ⟨2, _⟩ => ⟨S512x2304, .f32⟩
  | .hbm, ⟨3, _⟩ => ⟨S16384x32, .f32⟩
  | .hbm, ⟨4, _⟩ => ⟨S16384x32, .f32⟩
  | .hbm, ⟨5, _⟩ => ⟨S_, .f32⟩
  | .hbm, ⟨6, _⟩ => ⟨S2048x1600, .f32⟩
  | .hbm, ⟨7, _⟩ => ⟨S_, .f32⟩
  | .hbm, ⟨8, _⟩ => ⟨S512x3072, .f32⟩
  | .hbm, ⟨9, _⟩ => ⟨S2048x1024, .f32⟩
  | .hbm, ⟨10, _⟩ => ⟨S2048x64, .f32⟩
  | .hbm, ⟨11, _⟩ => ⟨S2048x512, .f32⟩
  | .hbm, ⟨12, _⟩ => ⟨S2048x32, .f32⟩
  | .hbm, ⟨13, _⟩ => ⟨S2048x32, .f32⟩
  | .hbm, ⟨14, _⟩ => ⟨S2048x32, .f32⟩
  | .hbm, ⟨15, _⟩ => ⟨S2048x64, .f32⟩
  | .hbm, ⟨16, _⟩ => ⟨S2048x1664, .f32⟩
  | .hbm, ⟨17, _⟩ => ⟨S2048x1664, .bf16⟩
  | .hbm, ⟨18, _⟩ => ⟨S512x12x192, .f32⟩
  | .hbm, ⟨19, _⟩ => ⟨S512x12x128, .f32⟩
  | .hbm, ⟨20, _⟩ => ⟨S512x12x64, .f32⟩
  | .hbm, ⟨21, _⟩ => ⟨S_, .f32⟩
  | .hbm, ⟨22, _⟩ => ⟨S512x12x64, .f32⟩
  | .hbm, ⟨23, _⟩ => ⟨S512x12x256, .f32⟩
  | .hbm, ⟨24, _⟩ => ⟨S512x3072, .f32⟩
  | .hbm, ⟨25, _⟩ => ⟨S512x12x32, .f32⟩
  | .hbm, ⟨26, _⟩ => ⟨S512x12x32, .f32⟩
  | .hbm, ⟨27, _⟩ => ⟨S512x12x32, .f32⟩
  | .hbm, ⟨28, _⟩ => ⟨S512x12x64, .f32⟩
  | .hbm, ⟨29, _⟩ => ⟨S512x12x128, .f32⟩
  | .hbm, ⟨30, _⟩ => ⟨S512x1536, .f32⟩
  | .hbm, ⟨31, _⟩ => ⟨S512x4608, .f32⟩
  | .hbm, ⟨32, _⟩ => ⟨S512x4608, .bf16⟩
  | .hbm, ⟨33, _⟩ => ⟨S512x12x256, .f32⟩
  | .hbm, ⟨34, _⟩ => ⟨S512x12x128, .f32⟩
  | .hbm, ⟨35, _⟩ => ⟨S512x1536, .f32⟩
  | .hbm, ⟨36, _⟩ => ⟨S512x12x128, .f32⟩
  | .hbm, ⟨37, _⟩ => ⟨S512x1536, .f32⟩
  | .hbm, ⟨38, _⟩ => ⟨S512x3072, .f32⟩
  | .hbm, ⟨39, _⟩ => ⟨S512x3072, .bf16⟩
  | .hbm, ⟨40, _⟩ => ⟨S16384x64, .f32⟩
  | .hbm, ⟨41, _⟩ => ⟨S_, .i32⟩
  | .hbm, ⟨42, _⟩ => ⟨S_, .f32⟩
  | .hbm, ⟨43, _⟩ => ⟨S16384x128, .f32⟩
  | .hbm, ⟨44, _⟩ => ⟨S16384x64, .f32⟩
  | .hbm, ⟨45, _⟩ => ⟨S_, .i32⟩
  | .hbm, ⟨46, _⟩ => ⟨S_, .f32⟩
  | .hbm, ⟨47, _⟩ => ⟨S16384x128, .f32⟩
  | .hbm, ⟨48, _⟩ => ⟨S16384x3072, .bf16⟩
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S512x4608, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x3072, .bf16⟩
  | .local _ .vmem, ⟨9, _⟩ => ⟨S256x3072, .bf16⟩
  | _, _ => ⟨S16384x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c : Ref sig .tc := ⟨.hbm, 41, rfl⟩
abbrev main_call0_v0 : Ref sig .tc := ⟨.hbm, 42, rfl⟩
abbrev main_v33 : Ref sig .tc := ⟨.hbm, 43, rfl⟩
abbrev main_v34 : Ref sig .tc := ⟨.hbm, 44, rfl⟩
abbrev main_c_2 : Ref sig .tc := ⟨.hbm, 45, rfl⟩
abbrev main_call1_v0 : Ref sig .tc := ⟨.hbm, 46, rfl⟩
abbrev main_v35 : Ref sig .tc := ⟨.hbm, 47, rfl⟩
abbrev main_v36 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QUpRefIdeal.lean ====
abbrev S16384x1664 : Shape := ⟨2, ![16384, 1664]⟩
abbrev S1x512 : Shape := ⟨2, ![1, 512]⟩
abbrev S512x2304 : Shape := ⟨2, ![512, 2304]⟩
abbrev S16384x32 : Shape := ⟨2, ![16384, 32]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S16384x2304 : Shape := ⟨2, ![16384, 2304]⟩
abbrev S16384x12x192 : Shape := ⟨3, ![16384, 12, 192]⟩
abbrev S16384x12x128 : Shape := ⟨3, ![16384, 12, 128]⟩
abbrev S16384x12x32 : Shape := ⟨3, ![16384, 12, 32]⟩
abbrev S16384x1x32 : Shape := ⟨3, ![16384, 1, 32]⟩
abbrev S16384x12x64 : Shape := ⟨3, ![16384, 12, 64]⟩
abbrev S16384x12x256 : Shape := ⟨3, ![16384, 12, 256]⟩
abbrev S16384x3072 : Shape := ⟨2, ![16384, 3072]⟩

abbrev nBuf : Space → Nat
  | .hbm => 47
  | .vmem => 0
  | .smem => 0
  | _ => 0

abbrev bufTy : (tb : Table) → Fin (tcTables nBuf tb) → BufTy
  | .hbm, ⟨0, _⟩ => ⟨S16384x1664, .f32⟩
  | .hbm, ⟨1, _⟩ => ⟨S1x512, .f32⟩
  | .hbm, ⟨2, _⟩ => ⟨S512x2304, .f32⟩
  | .hbm, ⟨3, _⟩ => ⟨S16384x32, .f32⟩
  | .hbm, ⟨4, _⟩ => ⟨S16384x32, .f32⟩
  | .hbm, ⟨5, _⟩ => ⟨S16384x512, .f32⟩
  | .hbm, ⟨6, _⟩ => ⟨S16384x512, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S16384x2304, .f32⟩
  | .hbm, ⟨22, _⟩ => ⟨S16384x12x192, .f32⟩
  | .hbm, ⟨23, _⟩ => ⟨S16384x12x128, .f32⟩
  | .hbm, ⟨24, _⟩ => ⟨S16384x12x32, .f32⟩
  | .hbm, ⟨25, _⟩ => ⟨S16384x12x32, .f32⟩
  | .hbm, ⟨26, _⟩ => ⟨S16384x1x32, .f32⟩
  | .hbm, ⟨27, _⟩ => ⟨S16384x1x32, .f32⟩
  | .hbm, ⟨28, _⟩ => ⟨S16384x12x32, .f32⟩
  | .hbm, ⟨29, _⟩ => ⟨S16384x12x32, .f32⟩
  | .hbm, ⟨30, _⟩ => ⟨S16384x12x32, .f32⟩
  | .hbm, ⟨31, _⟩ => ⟨S16384x12x32, .f32⟩
  | .hbm, ⟨32, _⟩ => ⟨S16384x12x32, .f32⟩
  | .hbm, ⟨33, _⟩ => ⟨S16384x12x32, .f32⟩
  | .hbm, ⟨34, _⟩ => ⟨S16384x12x32, .f32⟩
  | .hbm, ⟨35, _⟩ => ⟨S16384x12x32, .f32⟩
  | .hbm, ⟨36, _⟩ => ⟨S16384x12x32, .f32⟩
  | .hbm, ⟨37, _⟩ => ⟨S16384x12x32, .f32⟩
  | .hbm, ⟨38, _⟩ => ⟨S16384x12x192, .f32⟩
  | .hbm, ⟨39, _⟩ => ⟨S_, .f32⟩
  | .hbm, ⟨40, _⟩ => ⟨S16384x12x192, .f32⟩
  | .hbm, ⟨41, _⟩ => ⟨S16384x12x192, .f32⟩
  | .hbm, ⟨42, _⟩ => ⟨S_, .f32⟩
  | .hbm, ⟨43, _⟩ => ⟨S16384x12x64, .f32⟩
  | .hbm, ⟨44, _⟩ => ⟨S16384x12x256, .f32⟩
  | .hbm, ⟨45, _⟩ => ⟨S16384x3072, .f32⟩
  | .hbm, ⟨46, _⟩ => ⟨S16384x3072, .bf16⟩
  | _, _ => ⟨S16384x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== RopeTables.lean ====
abbrev S16384 : Shape := ⟨1, ![16384]⟩
abbrev S32 : Shape := ⟨1, ![32]⟩
abbrev S_ : Shape := ⟨0, ![]⟩
abbrev S64 : Shape := ⟨1, ![64]⟩
abbrev S128 : Shape := ⟨1, ![128]⟩
abbrev S1x128 : Shape := ⟨2, ![1, 128]⟩
abbrev S16384x1 : Shape := ⟨2, ![16384, 1]⟩
abbrev S16384x128 : Shape := ⟨2, ![16384, 128]⟩
abbrev S1024x1 : Shape := ⟨2, ![1024, 1]⟩
abbrev S1024x128 : Shape := ⟨2, ![1024, 128]⟩

abbrev nBuf : Space → Nat
  | .hbm => 25
  | .vmem => 7
  | .smem => 0
  | _ => 0

abbrev bufTy : (tb : Table) → Fin (tcTables nBuf tb) → BufTy
  | .hbm, ⟨0, _⟩ => ⟨S16384, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S64, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S16384x1, .i32⟩
  | .hbm, ⟨23, _⟩ => ⟨S16384x128, .f32⟩
  | .hbm, ⟨24, _⟩ => ⟨S16384x128, .f32⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeTablesRefIdeal.lean ====
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S16384x128 : Shape := ⟨2, ![16384, 128]⟩

abbrev nBuf : Space → Nat
  | .hbm => 29
  | .vmem => 0
  | .smem => 0
  | _ => 0

abbrev bufTy : (tb : Table) → Fin (tcTables nBuf tb) → BufTy
  | .hbm, ⟨0, _⟩ => ⟨S16384, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S16384, .f32⟩
  | .hbm, ⟨18, _⟩ => ⟨S16384x1, .f32⟩
  | .hbm, ⟨19, _⟩ => ⟨S1x32, .f32⟩
  | .hbm, ⟨20, _⟩ => ⟨S16384x32, .f32⟩
  | .hbm, ⟨21, _⟩ => ⟨S16384x32, .f32⟩
  | .hbm, ⟨22, _⟩ => ⟨S16384x32, .f32⟩
  | .hbm, ⟨23, _⟩ => ⟨S16384x32, .f32⟩
  | .hbm, ⟨24, _⟩ => ⟨S16384x32, .f32⟩
  | .hbm, ⟨25, _⟩ => ⟨S_, .f32⟩
  | .hbm, ⟨26, _⟩ => ⟨S16384x64, .f32⟩
  | .hbm, ⟨27, _⟩ => ⟨S16384x128, .f32⟩
  | .hbm, ⟨28, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_4 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== GdnGates.lean ====
abbrev S16384x6912 : Shape := ⟨2, ![16384, 6912]⟩
abbrev S12 : Shape := ⟨1, ![12]⟩
abbrev S_ : Shape := ⟨0, ![]⟩
abbrev S128 : Shape := ⟨1, ![128]⟩
abbrev S1x128 : Shape := ⟨2, ![1, 128]⟩
abbrev S16384x128 : Shape := ⟨2, ![16384, 128]⟩
abbrev S1024x128 : Shape := ⟨2, ![1024, 128]⟩
abbrev S16384x12 : Shape := ⟨2, ![16384, 12]⟩

abbrev nBuf : Space → Nat
  | .hbm => 15
  | .vmem => 8
  | .smem => 0
  | _ => 0

abbrev bufTy : (tb : Table) → Fin (tcTables nBuf tb) → BufTy
  | .hbm, ⟨0, _⟩ => ⟨S16384x6912, .f32⟩
  | .hbm, ⟨1, _⟩ => ⟨S12, .f32⟩
  | .hbm, ⟨2, _⟩ => ⟨S12, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S16384x128, .f32⟩
  | .hbm, ⟨12, _⟩ => ⟨S16384x128, .f32⟩
  | .hbm, ⟨13, _⟩ => ⟨S16384x12, .f32⟩
  | .hbm, ⟨14, _⟩ => ⟨S16384x12, .f32⟩
  | .local _ .vmem, ⟨0, _⟩ => ⟨S1024x128, .f32⟩
  | .local _ .vmem, ⟨1, _⟩ => ⟨S1024x128, .f32⟩
  | .local _ .vmem, ⟨2, _⟩ => ⟨S1x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S16384x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c52_i32 : BitVec 32 := 52#32
  let c0_i32 : BitVec 32 := 0#32
  ![arg0.toNat, c52_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GdnGatesRefIdeal.lean ====
abbrev S16384x6912 : Shape := ⟨2, ![16384, 6912]⟩
abbrev S12 : Shape := ⟨1, ![12]⟩
abbrev S16384x12 : Shape := ⟨2, ![16384, 12]⟩
abbrev S1x12 : Shape := ⟨2, ![1, 12]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S16384x6912, .f32⟩
  | .hbm, ⟨1, _⟩ => ⟨S12, .f32⟩
  | .hbm, ⟨2, _⟩ => ⟨S12, .f32⟩
  | .hbm, ⟨3, _⟩ => ⟨S16384x12, .f32⟩
  | .hbm, ⟨4, _⟩ => ⟨S16384x12, .f32⟩
  | .hbm, ⟨5, _⟩ => ⟨S12, .f32⟩
  | .hbm, ⟨6, _⟩ => ⟨S12, .f32⟩
  | .hbm, ⟨7, _⟩ => ⟨S1x12, .f32⟩
  | .hbm, ⟨8, _⟩ => ⟨S16384x12, .f32⟩
  | .hbm, ⟨9, _⟩ => ⟨S16384x12, .f32⟩
  | .hbm, ⟨10, _⟩ => ⟨S_, .f32⟩
  | .hbm, ⟨11, _⟩ => ⟨S16384x12, .f32⟩
  | .hbm, ⟨12, _⟩ => ⟨S16384x12, .f32⟩
  | .hbm, ⟨13, _⟩ => ⟨S16384x12, .f32⟩
  | .hbm, ⟨14, _⟩ => ⟨S16384x12, .f32⟩
  | .hbm, ⟨15, _⟩ => ⟨S16384x12, .i1⟩
  | .hbm, ⟨16, _⟩ => ⟨S16384x12, .f32⟩
  | .hbm, ⟨17, _⟩ => ⟨S16384x12, .f32⟩
  | .hbm, ⟨18, _⟩ => ⟨S16384x12, .f32⟩
  | .hbm, ⟨19, _⟩ => ⟨S16384x12, .f32⟩
  | .hbm, ⟨20, _⟩ => ⟨S16384x12, .f32⟩
  | .hbm, ⟨21, _⟩ => ⟨S16384x12, .f32⟩
  | .hbm, ⟨22, _⟩ => ⟨S16384x12, .f32⟩
  | .hbm, ⟨23, _⟩ => ⟨S16384x12, .f32⟩
  | .hbm, ⟨24, _⟩ => ⟨S1x12, .f32⟩
  | .hbm, ⟨25, _⟩ => ⟨S16384x12, .f32⟩
  | .hbm, ⟨26, _⟩ => ⟨S16384x12, .f32⟩
  | .hbm, ⟨27, _⟩ => ⟨S16384x12, .f32⟩
  | .hbm, ⟨28, _⟩ => ⟨S16384x12, .f32⟩
  | .hbm, ⟨29, _⟩ => ⟨S_, .f32⟩
  | .hbm, ⟨30, _⟩ => ⟨S16384x12, .f32⟩
  | .hbm, ⟨31, _⟩ => ⟨S16384x12, .f32⟩
  | .hbm, ⟨32, _⟩ => ⟨S_, .f32⟩
  | .hbm, ⟨33, _⟩ => ⟨S16384x12, .f32⟩
  | .hbm, ⟨34, _⟩ => ⟨S16384x12, .f32⟩
  | _, _ => ⟨S16384x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩

abbrev nD : Nat := 1
abbrev τ : Topo := Topo.v7x

variable {F : FTy → Type} [FloatOps F]
-- ==== Proof.Softmax.lean ====
/- A row of a softmax, block by block, over the extended reals: its running maximum, its running
   denominator and its running weighted sum, how each is carried past a further block of scores, and
   what they say once the last block is in. -/
module

public import Idealize.ShloMosaic.PureOps.Ideal
public import Mathlib.Data.EReal.Inv

@[expose] public section

noncomputable section

namespace Cert.Softmax

open Idealize.ShloMosaic Finset

/-- The greatest of the first `n` scores. -/
def top (s : ℕ → EReal) (n : ℕ) : EReal := (range n).sup s

/-- The sum of the first `n` scores' exponentials, each below the greatest. -/
def den (s : ℕ → EReal) (n : ℕ) : EReal := ∑ j ∈ range n, Ideal.exp (s j - top s n)

/-- The first `n` values, each weighed by its score's exponential below the greatest. -/
def num (s v : ℕ → EReal) (n : ℕ) : EReal := ∑ j ∈ range n, Ideal.exp (s j - top s n) * v j

/-- Rebasing an exponential from one bound of a score to a greater one is a product. -/
theorem exp_rebase {s a b : EReal} (h : s ≤ a) (h' : a ≤ b) :
    Ideal.exp (a - b) * Ideal.exp (s - a) = Ideal.exp (s - b) := by
  induction b with
  | bot =>
    obtain rfl := le_bot_iff.mp h'
    obtain rfl := le_bot_iff.mp h
    rw [show Ideal.exp (⊥ - ⊥) = 0 from rfl, zero_mul]
  | top =>
    have e : ∀ x : EReal, Ideal.exp (x - ⊤) = 0 := fun x => by
      rw [sub_eq_add_neg, EReal.neg_top, EReal.add_bot]; rfl
    rw [e, e, zero_mul]
  | coe b =>
    induction a with
    | top => exact absurd h' (by simp)
    | bot =>
      obtain rfl := le_bot_iff.mp h
      have e : ∀ x : EReal, Ideal.exp (⊥ - x) = 0 := fun x => by
        rw [sub_eq_add_neg, EReal.bot_add]; rfl
      rw [e, e, zero_mul]
    | coe a =>
      induction s with
      | top => exact absurd h (by simp)
      | bot =>
        have e : ∀ x : EReal, Ideal.exp (⊥ - x) = 0 := fun x => by
          rw [sub_eq_add_neg, EReal.bot_add]; rfl
        rw [e, e, mul_zero]
      | coe s =>
        rw [← EReal.coe_sub, ← EReal.coe_sub, ← EReal.coe_sub]
        change ((Real.exp (a - b) : ℝ) : EReal) * ((Real.exp (s - a) : ℝ) : EReal) = ((Real.exp (s - b) : ℝ) : EReal)
        rw [← EReal.coe_mul, ← Real.exp_add]
        congr 2; ring

/-- An exponential is never negative. -/
theorem exp_nonneg (x : EReal) : 0 ≤ Ideal.exp x := by
  induction x with
  | bot => exact le_rfl
  | top => exact le_top
  | coe x => exact EReal.coe_nonneg.mpr (Real.exp_pos x).le

/-- The exponential of a difference from a bound is a finite number. -/
theorem exp_sub_ne_top {s a : EReal} (h : s ≤ a) : Ideal.exp (s - a) ≠ ⊤ := by
  induction a with
  | bot =>
    obtain rfl := le_bot_iff.mp h
    exact EReal.zero_ne_top
  | top =>
    rw [sub_eq_add_neg, EReal.neg_top, EReal.add_bot]; exact EReal.zero_ne_top
  | coe a =>
    induction s with
    | top => exact absurd h (by simp)
    | bot => rw [sub_eq_add_neg, EReal.bot_add]; exact EReal.zero_ne_top
    | coe s => rw [← EReal.coe_sub]; exact EReal.coe_ne_top _

/-- A finite factor that is not negative goes into a sum. -/
theorem mul_sum_of_nonneg {ι : Type*} (t : Finset ι) (f : ι → EReal) {a : EReal} (h : 0 ≤ a) (h' : a ≠ ⊤) :
    a * ∑ j ∈ t, f j = ∑ j ∈ t, a * f j := by
  classical
  induction t using Finset.induction_on with
  | empty => simp
  | insert i t hi ih =>
    rw [sum_insert hi, sum_insert hi, EReal.left_distrib_of_nonneg_of_ne_top h h', ih]

/-- The greatest score so far is below the greatest of more scores. -/
theorem top_mono (s : ℕ → EReal) {n m : ℕ} (h : n ≤ m) : top s n ≤ top s m :=
  sup_mono (range_subset_range.mpr h)

/-- Each score is below the greatest. -/
theorem le_top_of_lt (s : ℕ → EReal) {j n : ℕ} (h : j < n) : s j ≤ top s n :=
  le_sup (mem_range.mpr h)

/-- The greatest of no scores is `-∞`. -/
theorem top_zero (s : ℕ → EReal) : top s 0 = ⊥ := by simp [top]
/-- The denominator of no scores is zero. -/
theorem den_zero (s : ℕ → EReal) : den s 0 = 0 := by simp [den]
/-- The weighted sum of no scores is zero. -/
theorem num_zero (s v : ℕ → EReal) : num s v 0 = 0 := by simp [num]

/-- A supremum over the places of a finite type is one over the natural numbers below its size. -/
theorem sup_fin (f : ℕ → EReal) (b : ℕ) : (univ : Finset (Fin b)).sup (fun i => f i) = (range b).sup f := by
  apply le_antisymm
  · exact Finset.sup_le fun i _ => le_sup (f := f) (mem_range.mpr i.isLt)
  · exact Finset.sup_le fun i hi => le_sup (f := fun i : Fin b => f i) (mem_univ ⟨i, mem_range.mp hi⟩)

/-- The greatest score past a further block: of the greatest so far and the block's own. -/
theorem top_add (s : ℕ → EReal) (n b : ℕ) :
    top s (n + b) = max (top s n) ((univ : Finset (Fin b)).fold max ⊥ fun i => s (n + i.val)) := by
  change _ = max (top s n) ((univ : Finset (Fin b)).sup fun i => s (n + i.val))
  rw [sup_fin (fun i => s (n + i))]
  apply le_antisymm
  · refine Finset.sup_le fun j hj => ?_
    rcases lt_or_ge j n with h | h
    · exact le_max_of_le_left (le_top_of_lt s h)
    · refine le_max_of_le_right ?_
      obtain ⟨i, rfl⟩ := Nat.exists_eq_add_of_le h
      exact le_sup (f := fun i => s (n + i)) (mem_range.mpr (by have := mem_range.mp hj; omega))
  · refine max_le (top_mono s (Nat.le_add_right ..)) (Finset.sup_le fun i hi => ?_)
    exact le_top_of_lt s (by have := mem_range.mp hi; omega)

/-- The weighted sum past a further block: the sum so far rebased, and the block's own terms. -/
theorem num_add (s v : ℕ → EReal) (n b : ℕ) :
    num s v (n + b) = Ideal.exp (top s n - top s (n + b)) * num s v n
      + ∑ i : Fin b, Ideal.exp (s (n + i) - top s (n + b)) * v (n + i) := by
  have hm : top s n ≤ top s (n + b) := top_mono s (Nat.le_add_right ..)
  rw [num, sum_range_add, sum_range fun i => Ideal.exp (s (n + i) - top s (n + b)) * v (n + i)]
  congr 1
  rw [num, mul_sum_of_nonneg _ _ (exp_nonneg _) (exp_sub_ne_top hm)]
  refine sum_congr rfl fun j hj => ?_
  rw [← mul_assoc, exp_rebase (le_top_of_lt s (mem_range.mp hj)) hm]

/-- A denominator is the weighted sum of ones. -/
theorem den_eq_num (s : ℕ → EReal) (n : ℕ) : den s n = num s (fun _ => 1) n := by
  simp [den, num]

/-- The denominator past a further block: the one so far rebased, and the block's own terms. -/
theorem den_add (s : ℕ → EReal) (n b : ℕ) :
    den s (n + b) = Ideal.exp (top s n - top s (n + b)) * den s n
      + ∑ i : Fin b, Ideal.exp (s (n + i) - top s (n + b)) := by
  rw [den_eq_num, den_eq_num, num_add]; simp

/-- Scores of `-∞` past the first `n` leave the greatest. -/
theorem top_tail (s : ℕ → EReal) {n m : ℕ} (h : n ≤ m) (hs : ∀ j, n ≤ j → s j = ⊥) : top s m = top s n := by
  refine le_antisymm (Finset.sup_le fun j _ => ?_) (top_mono s h)
  rcases lt_or_ge j n with hj | hj
  · exact le_top_of_lt s hj
  · rw [hs j hj]; exact bot_le

/-- Scores of `-∞` past the first `n` leave the weighted sum. -/
theorem num_tail (s v : ℕ → EReal) {n m : ℕ} (h : n ≤ m) (hs : ∀ j, n ≤ j → s j = ⊥) :
    num s v m = num s v n := by
  rw [num, num, top_tail s h hs]
  symm
  refine sum_subset (range_subset_range.mpr h) fun j _ hj => ?_
  rw [hs j (by simpa using hj), sub_eq_add_neg, EReal.bot_add]
  exact zero_mul _

/-- Scores of `-∞` past the first `n` leave the denominator. -/
theorem den_tail (s : ℕ → EReal) {n m : ℕ} (h : n ≤ m) (hs : ∀ j, n ≤ j → s j = ⊥) : den s m = den s n := by
  rw [den_eq_num, den_eq_num, num_tail s _ h hs]

/-- Where no score is `+∞` and one is finite, the denominator is a positive real number. -/
theorem den_real (s : ℕ → EReal) {n i : ℕ} (hi : i < n) (hb : s i ≠ ⊥) (ht : ∀ j < n, s j ≠ ⊤) :
    ∃ r : ℝ, 0 < r ∧ den s n = r := by
  have h1 : top s n ≠ ⊤ := by
    rw [top, ← lt_top_iff_ne_top, Finset.sup_lt_iff (by simp)]
    exact fun j hj => lt_top_iff_ne_top.mpr (ht j (mem_range.mp hj))
  have h2 : top s n ≠ ⊥ := fun h => hb (le_bot_iff.mp (h ▸ le_top_of_lt s hi))
  have hpos : 0 < den s n := by
    refine lt_of_lt_of_le ?_ (single_le_sum (fun j _ => exp_nonneg _) (mem_range.mpr hi))
    lift s i to ℝ using ⟨ht i hi, hb⟩ with x
    lift top s n to ℝ using ⟨h1, h2⟩ with y
    rw [← EReal.coe_sub]
    exact EReal.coe_pos.mpr (Real.exp_pos _)
  have hfin : den s n ≠ ⊤ := by
    rw [den]
    have : ∀ t ⊆ range n, ∑ j ∈ t, Ideal.exp (s j - top s n) ≠ ⊤ := fun t => by
      induction t using Finset.induction_on with
      | empty => simp
      | insert a t ha ih =>
        intro hsub
        rw [sum_insert ha]
        have ht' := ih fun _ hx => hsub (mem_insert_of_mem hx)
        have h0 := exp_sub_ne_top (le_top_of_lt s (mem_range.mp (hsub (mem_insert_self a t))))
        exact (EReal.add_lt_top h0 ht').ne
    exact this _ (Subset.refl _)
  refine ⟨(den s n).toReal, ?_, (EReal.coe_toReal hfin (bot_lt_of_lt hpos).ne').symm⟩
  exact EReal.toReal_pos hpos hfin

/-- Dividing the weighted sum by the denominator is weighing by the quotients. -/
theorem div_num (s v : ℕ → EReal) {n i : ℕ} (hi : i < n) (hb : s i ≠ ⊥) (ht : ∀ j < n, s j ≠ ⊤) :
    Ideal.div (num s v n) (den s n)
      = ∑ j : Fin n, v j * Ideal.div (Ideal.exp (s j - top s n)) (den s n) := by
  obtain ⟨r, hr, e⟩ := den_real s hi hb ht
  rw [e, Ideal.div_coe hr.ne', num, mul_comm, mul_sum_of_nonneg _ _ (EReal.coe_nonneg.mpr (by positivity)) (EReal.coe_ne_top _),
    sum_range]
  refine sum_congr rfl fun j _ => ?_
  rw [Ideal.div_coe hr.ne']
  ac_rfl

end Cert.Softmax

end
-- ==== Proof.FlashBlock.lean ====
/- What the attention kernel's body computes at one grid point, over the blocks of queries, keys and
   values it is handed: the carried maximum, denominator and weighted sum after each block of 256 keys
   (`loop_at`), and the block it stores (`stored_at`). -/
module

public import proofs.«01_k».proof.Proof.Gen.FlashIdeal.Value
public import Idealize.ShloMosaic.Lib.Pointwise
public import Idealize.ShloMosaic.Lib.Pipeline.ValueKit
public import Idealize.ShloMosaic.Lib.WholeRead
public import Idealize.ShloMosaic.Lib.LoopRemainder
public import proofs.«01_k».proof.Proof.Softmax

@[expose] public section

set_option maxRecDepth 16384

noncomputable section

namespace Cert.FlashIdeal.Val

open Idealize.ShloMosaic Idealize.ShloMosaic.TcCoe Idealize.SL.Sem
open Cert.FlashIdeal Cert.FlashIdeal.Gen
open Cert.Softmax (top den num)

/-- The word of negative infinity denotes `-∞`. -/
theorem negInf : Ideal.ofBits .f32 0xFF800000#32 = ⊥ := by
  simp [Ideal.ofBits, Ideal.ieee]

section Payloads

variable (q : Vec Ideal S1x256x256 .bf16) (A B V : Vec Ideal S1x256x128 .bf16)

/-- The score of query `r` and key `j` of a block: the products over the two halves of the head's columns. -/
def dotAt (r j : Fin 256) : EReal :=
  ∑ x : Fin 128, q (ix3 0 r ⟨x.val, by omega⟩) * A (ix3 0 j x)
    + ∑ x : Fin 128, q (ix3 0 r ⟨128 + x.val, by omega⟩) * B (ix3 0 j x)

/-- The scores of a block before the diagonal. -/
theorem pay6_at (r j : Fin 256) : k0_pay6 (F := Ideal) q A B (ix2 r j) = dotAt q A B r j := by
  pointwise [k0_pay6, k0_pay2]; rfl

/-- The carried maximum after a block. -/
theorem pay7_at (a : FVec Ideal S256x1 .f32) (r : Fin 256) : k0_pay7 (F := Ideal) q a A B (ix2 r 0)
    = max (a (ix2 r 0)) (Finset.univ.fold max ⊥ fun j => dotAt q A B r j) := by
  pointwise [k0_pay7, negInf, pay6_at]

/-- The weights of a block. -/
theorem pay9_at (a : FVec Ideal S256x1 .f32) (r j : Fin 256) : k0_pay9 (F := Ideal) q a A B (ix2 r j)
    = Ideal.exp (dotAt q A B r j - k0_pay7 (F := Ideal) q a A B (ix2 r 0)) := by
  pointwise [k0_pay9, pay6_at]

/-- The carried denominator after a block. -/
theorem pay10_at (a l : FVec Ideal S256x1 .f32) (r : Fin 256) : k0_pay10 (F := Ideal) q a l A B (ix2 r 0)
    = Ideal.exp (a (ix2 r 0) - k0_pay7 (F := Ideal) q a A B (ix2 r 0)) * l (ix2 r 0)
      + ∑ j : Fin 256, Ideal.exp (dotAt q A B r j - k0_pay7 (F := Ideal) q a A B (ix2 r 0)) := by
  pointwise [k0_pay10, k0_pay8, pay9_at]

/-- The carried weighted sum after a block. -/
theorem pay11_at (a : FVec Ideal S256x1 .f32) (acc : FVec Ideal S256x128 .f32) (r : Fin 256) (e : Fin 128) :
    k0_pay11 (F := Ideal) q a acc A B V (ix2 r e)
      = Ideal.exp (a (ix2 r 0) - k0_pay7 (F := Ideal) q a A B (ix2 r 0)) * acc (ix2 r e)
        + ∑ j : Fin 256, Ideal.exp (dotAt q A B r j - k0_pay7 (F := Ideal) q a A B (ix2 r 0)) * V (ix3 0 j e) := by
  pointwise [k0_pay11, k0_pay8, pay9_at]

/-- The diagonal block's comparison of two places is that of their numbers. -/
theorem le_word : ∀ j r : Fin 256,
    IntOp.cmpi CmpIPredicate.sle (BitVec.ofNat 32 j.val) (BitVec.ofNat 32 r.val) = if j.val ≤ r.val then 1#1 else 0#1 := by
  intro j r
  have e : ∀ x : Fin 256, (BitVec.ofNat 32 x.val).toInt = x.val := fun x => by
    rw [BitVec.toInt_eq_toNat_bmod, BitVec.toNat_ofNat, Int.bmod_def]; omega
  simp only [IntOp.cmpi, BitVec.sle, e]
  by_cases h : j.val ≤ r.val <;> simp [h]

/-- The scores of the diagonal block: a key past its query counts as `-∞`. -/
theorem pay18_at (r j : Fin 256) : k0_pay18 (F := Ideal) q A B (ix2 r j)
    = if j.val ≤ r.val then dotAt q A B r j else ⊥ := by
  pointwise [k0_pay18, k0_pay2, negInf]
  rw [le_word]
  by_cases h : j.val ≤ r.val
  · rw [if_pos h, if_pos h]; rfl
  · rw [if_neg h, if_neg h]; rfl

/-- The maximum after the diagonal block. -/
theorem pay19_at (a : FVec Ideal S256x1 .f32) (r : Fin 256) : k0_pay19 (F := Ideal) q a A B (ix2 r 0)
    = max (a (ix2 r 0)) (Finset.univ.fold max ⊥ fun j : Fin 256 => k0_pay18 (F := Ideal) q A B (ix2 r j)) := by
  pointwise [k0_pay19, negInf]

/-- The block the body stores: the weighted sum over the denominator, each with the diagonal block's part. -/
theorem pay1_at (a l : FVec Ideal S256x1 .f32) (acc : FVec Ideal S256x128 .f32) (r : Fin 256) (e : Fin 128) :
    k0_pay1 (F := Ideal) acc (k0_pay20 q a A B) (k0_pay21 q a A B) (k0_pay22 q a l A B) (k0_pay23 q a A B) V (ix3 0 r e)
      = Ideal.div
          (Ideal.exp (a (ix2 r 0) - k0_pay19 (F := Ideal) q a A B (ix2 r 0)) * acc (ix2 r e)
            + ∑ j : Fin 256, Ideal.exp (k0_pay18 (F := Ideal) q A B (ix2 r j) - k0_pay19 (F := Ideal) q a A B (ix2 r 0))
                * V (ix3 0 j e))
          (Ideal.exp (a (ix2 r 0) - k0_pay19 (F := Ideal) q a A B (ix2 r 0)) * l (ix2 r 0)
            + ∑ j : Fin 256, Ideal.exp (k0_pay18 (F := Ideal) q A B (ix2 r j) - k0_pay19 (F := Ideal) q a A B (ix2 r 0))) := by
  pointwise [k0_pay1, k0_pay20, k0_pay21, k0_pay22, k0_pay23]

end Payloads

/-! ## Rows -/

section Rows

variable (q : Vec Ideal S1x256x256 .bf16) (K R V : Vec Ideal S1x8192x128 .bf16) (p : ℕ)

/-- The scores of the row of query `r`, whose place in its sequence is `256 p + r`: one score per key,
    `-∞` past the query itself. -/
def rowScore (r : Fin 256) (j : ℕ) : EReal :=
  if h : j < 8192 ∧ j ≤ 256 * p + r.val then
    ∑ x : Fin 128, q (ix3 0 r ⟨x.val, by omega⟩) * K (ix3 0 ⟨j, h.1⟩ x)
      + ∑ x : Fin 128, q (ix3 0 r ⟨128 + x.val, by omega⟩) * R (ix3 0 ⟨j, h.1⟩ x)
  else ⊥

/-- The values of one column, by key. -/
def colVal (e : Fin 128) (j : ℕ) : EReal := if h : j < 8192 then V (ix3 0 ⟨j, h⟩ e) else 0

/-- The carried triple is the row's first `n` keys taken in. -/
def Carried (n : ℕ) (S : FVec Ideal S256x1 .f32 × FVec Ideal S256x1 .f32 × FVec Ideal S256x128 .f32) : Prop :=
  ∀ r : Fin 256, S.1 (ix2 r 0) = top (rowScore q K R p r) n ∧ S.2.1 (ix2 r 0) = den (rowScore q K R p r) n
    ∧ ∀ e : Fin 128, S.2.2 (ix2 r e) = num (rowScore q K R p r) (colVal V e) n

/-- The initial triple is no key taken in. -/
theorem carried_zero : Carried q K R V p 0 ((k0_pay3, k0_pay4, k0_pay5) :
    FVec Ideal S256x1 .f32 × FVec Ideal S256x1 .f32 × FVec Ideal S256x128 .f32) := fun r => by
  refine ⟨?_, ?_, fun e => ?_⟩
  · pointwise [k0_pay3, negInf]; rw [Softmax.top_zero]
  · pointwise [k0_pay4]; rw [Softmax.den_zero]
  · pointwise [k0_pay5]; rw [Softmax.num_zero]

variable {q K R V p}

/-- A block before the diagonal takes its 256 keys in. -/
theorem carried_step {n : ℕ} (hn : 256 * (n + 1) ≤ 256 * p) (hp : p < 32) {A B C : Vec Ideal S1x256x128 .bf16}
    (hA : ∀ (j : Fin 256) (x : Fin 128), A (ix3 0 j x) = K (ix3 0 ⟨256 * n + j.val, by omega⟩ x))
    (hB : ∀ (j : Fin 256) (x : Fin 128), B (ix3 0 j x) = R (ix3 0 ⟨256 * n + j.val, by omega⟩ x))
    (hC : ∀ (j : Fin 256) (x : Fin 128), C (ix3 0 j x) = V (ix3 0 ⟨256 * n + j.val, by omega⟩ x))
    {S : FVec Ideal S256x1 .f32 × FVec Ideal S256x1 .f32 × FVec Ideal S256x128 .f32}
    (hS : Carried q K R V p (256 * n) S) :
    Carried q K R V p (256 * (n + 1)) (k0_pay7 q S.1 A B, k0_pay10 q S.1 S.2.1 A B, k0_pay11 q S.1 S.2.2 A B C) := fun r => by
  obtain ⟨h1, h2, h3⟩ := hS r
  have hd : ∀ j : Fin 256, dotAt q A B r j = rowScore q K R p r (256 * n + j.val) := fun j => by
    rw [rowScore, dif_pos ⟨by omega, by omega⟩, dotAt]
    simp only [hA, hB]
  have hv : ∀ (e : Fin 128) (j : Fin 256), C (ix3 0 j e) = colVal V e (256 * n + j.val) := fun e j => by
    rw [colVal, dif_pos (by omega), hC]
  have e7 : k0_pay7 (F := Ideal) q S.1 A B (ix2 r 0) = top (rowScore q K R p r) (256 * (n + 1)) := by
    rw [pay7_at, h1, show 256 * (n + 1) = 256 * n + 256 by ring, Softmax.top_add]
    simp only [hd]
  refine ⟨e7, ?_, fun e => ?_⟩
  · change k0_pay10 (F := Ideal) q S.1 S.2.1 A B (ix2 r 0) = _
    rw [pay10_at, e7, h1, h2, show 256 * (n + 1) = 256 * n + 256 by ring, Softmax.den_add]
    simp only [hd]
  · change k0_pay11 (F := Ideal) q S.1 S.2.2 A B C (ix2 r e) = _
    rw [pay11_at, e7, h1, h3, show 256 * (n + 1) = 256 * n + 256 by ring, Softmax.num_add]
    simp only [hd, hv]

/-- The stored block: each row's weighted sum over its denominator, all 8192 keys taken in. -/
theorem stored_of_carried (hp : p < 32) {A B C : Vec Ideal S1x256x128 .bf16}
    (hA : ∀ (j : Fin 256) (x : Fin 128), A (ix3 0 j x) = K (ix3 0 ⟨256 * p + j.val, by omega⟩ x))
    (hB : ∀ (j : Fin 256) (x : Fin 128), B (ix3 0 j x) = R (ix3 0 ⟨256 * p + j.val, by omega⟩ x))
    (hC : ∀ (j : Fin 256) (x : Fin 128), C (ix3 0 j x) = V (ix3 0 ⟨256 * p + j.val, by omega⟩ x))
    {S : FVec Ideal S256x1 .f32 × FVec Ideal S256x1 .f32 × FVec Ideal S256x128 .f32}
    (hS : Carried q K R V p (256 * p) S) (r : Fin 256) (e : Fin 128) :
    k0_pay1 (F := Ideal) S.2.2 (k0_pay20 q S.1 A B) (k0_pay21 q S.1 A B) (k0_pay22 q S.1 S.2.1 A B)
        (k0_pay23 q S.1 A B) C (ix3 0 r e)
      = Ideal.div (num (rowScore q K R p r) (colVal V e) 8192) (den (rowScore q K R p r) 8192) := by
  obtain ⟨h1, h2, h3⟩ := hS r
  have hd : ∀ j : Fin 256, k0_pay18 (F := Ideal) q A B (ix2 r j) = rowScore q K R p r (256 * p + j.val) := fun j => by
    rw [pay18_at, rowScore]
    by_cases h : j.val ≤ r.val
    · rw [if_pos h, dif_pos ⟨by omega, by omega⟩, dotAt]
      simp only [hA, hB]
    · rw [if_neg h, dif_neg (by omega)]
  have hv : ∀ j : Fin 256, C (ix3 0 j e) = colVal V e (256 * p + j.val) := fun j => by
    rw [colVal, dif_pos (by omega), hC]
  have ht : ∀ j, 256 * p + 256 ≤ j → rowScore q K R p r j = ⊥ := fun j hj => by
    rw [rowScore, dif_neg (by omega)]
  have e19 : k0_pay19 (F := Ideal) q S.1 A B (ix2 r 0) = top (rowScore q K R p r) (256 * p + 256) := by
    rw [pay19_at, h1, Softmax.top_add]
    simp only [hd]
  rw [pay1_at, e19, h1, h2, h3, Softmax.num_tail _ _ (by omega : 256 * p + 256 ≤ 8192) ht,
    Softmax.den_tail _ (by omega : 256 * p + 256 ≤ 8192) ht, Softmax.num_add, Softmax.den_add]
  simp only [hd, hv]

end Rows

/-! ## The loop -/

/-- The first loop makes as many trips as there are blocks before the diagonal. -/
theorem trips_eq (i : grid0.Coords) : (k0_t1_loop i).trips = (i 2).val := by
  have h : ∀ n : Fin 32, Scf.trips (0#32) (Scalar.addi (0#32)
      (Scalar.muli (Scalar.divsi (Scalar.subi (BitVec.ofNat 32 n.val) 0#32) 1#32) 1#32)) 1#32 = n.val := by
    decide
  exact h (i 2)

section Loop

variable (𝒱 : Variants) (c : Dev nD) (bd : Option 𝒱.V) (i : grid0.Coords)
  (arg3 : Memref sig .tc .vmem S1x256x256 .bf16) (harg3 : arg3.IsWhole)
  (arg4 : Memref sig .tc .vmem S1x8192x128 .bf16) (harg4 : arg4.IsWhole)
  (arg5 : Memref sig .tc .vmem S1x8192x128 .bf16) (harg5 : arg5.IsWhole)
  (arg6 : Memref sig .tc .vmem S1x8192x128 .bf16) (harg6 : arg6.IsWhole)
  (arg7 : Memref sig .tc .vmem S1x256x128 .bf16) (harg7 : arg7.IsWhole)
  (q : Vec Ideal S1x256x256 .bf16) (K R V : Vec Ideal S1x8192x128 .bf16)

/-- A trip's load of 256 rows of a block held whole. -/
theorem load_at {a : Memref sig .tc .vmem S1x8192x128 .bf16} (ha : a.IsWhole) (X : Vec Ideal S1x8192x128 .bf16)
    (k : Fin (k0_t1_loop i).trips) (j : Fin 256) (x : Fin 128) (hk : 256 * k.val + j.val < 8192) :
    View.readAt (Elt Ideal) a.view (Rect.unit (s := S1x8192x128) (k0_off1 i k) S1x256x128.size (k0_off1_inb i k)).toLoadRect
        (ha.unread X) (ix3 0 j x) = X (ix3 0 ⟨256 * k.val + j.val, hk⟩ x) := by
  rw [ha.readAt_unread]
  congr 1
  have e := k0_off1_eq i k
  funext b
  apply Fin.ext
  fin_cases b
  · have := congrFun e 0
    simp [LoadRect.idx, Rect.toLoadRect, Rect.unit, this]
  · have := congrFun e 1
    simp [LoadRect.idx, Rect.toLoadRect, Rect.unit, this]
  · have := congrFun e 2
    simp [LoadRect.idx, Rect.toLoadRect, Rect.unit, this]

/-- Before trip `n` of the first loop the first `256 n` keys are in. -/
theorem loop_at (n : ℕ) (hn : n ≤ (k0_t1_loop i).trips) :
    Carried q K R V (i 2).val (256 * n)
      (st_k0_t1 (F := Ideal) 𝒱 c bd i arg3 harg3 arg4 harg4 arg5 harg5 arg6 harg6 arg7 harg7 q
        (harg4.unread K) (harg5.unread R) (harg6.unread V) (k0_pay3, k0_pay4, k0_pay5) n) := by
  induction n with
  | zero => exact carried_zero q K R V _
  | succ n ih =>
    have hq : (k0_t1_loop i).trips = (i 2).val := trips_eq i
    have h32 : (i 2).val < 32 := (i 2).isLt
    rw [st_k0_t1_succ (F := Ideal) (k := ⟨n, by omega⟩)]
    unfold tripR_k0_t1 trip_k0_t1
    exact carried_step (by omega) h32 (fun j x => load_at i harg4 K ⟨n, by omega⟩ j x _)
      (fun j x => load_at i harg5 R ⟨n, by omega⟩ j x _) (fun j x => load_at i harg6 V ⟨n, by omega⟩ j x _) (ih (by omega))

end Loop

end Cert.FlashIdeal.Val

end
-- ==== Proof.Attention.lean ====
/- Causal attention over the reals with infinities: per head the scores are the products of the query with a key,
   whose first 128 columns are the head's own and whose last 128 columns all heads share. -/
module

public import proofs.«01_k».proof.Proof.Softmax
public import Idealize.ShloMosaic.Lib.Pointwise

@[expose] public section

noncomputable section

namespace Cert.Attention

open Idealize.ShloMosaic

/-- An array of extended reals of rank three. -/
abbrev Arr (a b c : ℕ) : Type := (⟨3, ![a, b, c]⟩ : Shape).Idx → EReal

variable (q : Arr 2 8192 3072) (kn : Arr 2 8192 1536) (kr : Arr 2 8192 128) (v : Arr 2 8192 1536)

/-- The product of query `Q` and key `k` of head `h`. -/
def dot (b : Fin 2) (h : Fin 12) (Q k : Fin 8192) : EReal :=
  ∑ x : Fin 128, q (ix3 b Q ⟨h.val * 256 + x.val, by omega⟩) * kn (ix3 b k ⟨h.val * 128 + x.val, by omega⟩)
    + ∑ x : Fin 128, q (ix3 b Q ⟨h.val * 256 + (128 + x.val), by omega⟩) * kr (ix3 b k x)

/-- The scores of query `Q` of head `h`, by key: `-∞` past the query. -/
def score (b : Fin 2) (h : Fin 12) (Q : Fin 8192) (k : ℕ) : EReal :=
  if hk : k < 8192 ∧ k ≤ Q.val then dot q kn kr b h Q ⟨k, hk.1⟩ else ⊥

/-- Column `e` of the values, by key. -/
def value (b : Fin 2) (e : Fin 1536) (k : ℕ) : EReal := if hk : k < 8192 then v (ix3 b ⟨k, hk⟩ e) else 0

/-- Attention: the weighted sum of the values over the sum of the weights. -/
def attn (b : Fin 2) (Q : Fin 8192) (e : Fin 1536) : EReal :=
  Ideal.div (Softmax.num (score q kn kr b ⟨e.val / 128, by omega⟩ Q) (value v b e) 8192)
    (Softmax.den (score q kn kr b ⟨e.val / 128, by omega⟩ Q) 8192)

/-! ## Finite arguments -/

/-- Neither infinity. -/
def IsReal (x : EReal) : Prop := x ≠ ⊤ ∧ x ≠ ⊥

/-- A sum of two real values is real. -/
theorem IsReal.add {x y : EReal} (hx : IsReal x) (hy : IsReal y) : IsReal (x + y) := by
  lift x to ℝ using hx
  lift y to ℝ using hy
  exact ⟨by rw [← EReal.coe_add]; exact EReal.coe_ne_top _, by rw [← EReal.coe_add]; exact EReal.coe_ne_bot _⟩

/-- A product of two real values is real. -/
theorem IsReal.mul {x y : EReal} (hx : IsReal x) (hy : IsReal y) : IsReal (x * y) := by
  lift x to ℝ using hx
  lift y to ℝ using hy
  exact ⟨by rw [← EReal.coe_mul]; exact EReal.coe_ne_top _, by rw [← EReal.coe_mul]; exact EReal.coe_ne_bot _⟩

/-- A finite sum of real values is real. -/
theorem IsReal.sum {ι : Type} (s : Finset ι) (f : ι → EReal) (h : ∀ i, IsReal (f i)) : IsReal (∑ i ∈ s, f i) := by
  classical
  induction s using Finset.induction_on with
  | empty => rw [Finset.sum_empty]; exact ⟨EReal.zero_ne_top, EReal.zero_ne_bot⟩
  | insert a s ha ih => rw [Finset.sum_insert ha]; exact (h a).add ih

variable {q kn kr}

/-- With finite queries and keys every product of a query and a key is finite. -/
theorem dot_real (hq : ∀ i, IsReal (q i)) (hn : ∀ i, IsReal (kn i)) (hr : ∀ i, IsReal (kr i))
    (b : Fin 2) (h : Fin 12) (Q k : Fin 8192) : IsReal (dot q kn kr b h Q k) :=
  (IsReal.sum _ _ fun _ => (hq _).mul (hn _)).add (IsReal.sum _ _ fun _ => (hq _).mul (hr _))

/-- With finite queries and keys, attention is the values summed against the softmax of the scores. -/
theorem softmax_eq (hq : ∀ i, IsReal (q i)) (hn : ∀ i, IsReal (kn i)) (hr : ∀ i, IsReal (kr i))
    (b : Fin 2) (Q : Fin 8192) (e : Fin 1536) :
    attn q kn kr v b Q e = ∑ j : Fin 8192, value v b e j * Ideal.div
      (Ideal.exp (score q kn kr b ⟨e.val / 128, by omega⟩ Q j
        - Finset.univ.fold max ⊥ fun i : Fin 8192 => score q kn kr b ⟨e.val / 128, by omega⟩ Q i))
      (∑ k : Fin 8192, Ideal.exp (score q kn kr b ⟨e.val / 128, by omega⟩ Q k
        - Finset.univ.fold max ⊥ fun i : Fin 8192 => score q kn kr b ⟨e.val / 128, by omega⟩ Q i)) := by
  have ht : Softmax.top (score q kn kr b ⟨e.val / 128, by omega⟩ Q) 8192
      = Finset.univ.fold max ⊥ fun i : Fin 8192 => score q kn kr b ⟨e.val / 128, by omega⟩ Q i := by
    have := Softmax.top_add (score q kn kr b ⟨e.val / 128, by omega⟩ Q) 0 8192
    simpa only [zero_add, Softmax.top_zero, max_bot_left] using this
  have hd : Softmax.den (score q kn kr b ⟨e.val / 128, by omega⟩ Q) 8192
      = ∑ k : Fin 8192, Ideal.exp (score q kn kr b ⟨e.val / 128, by omega⟩ Q k
        - Softmax.top (score q kn kr b ⟨e.val / 128, by omega⟩ Q) 8192) := by
    have := Softmax.den_add (score q kn kr b ⟨e.val / 128, by omega⟩ Q) 0 8192
    simpa only [zero_add, Softmax.den_zero, mul_zero] using this
  rw [attn, Softmax.div_num _ _ (i := 0) (by omega), hd, ht]
  · rw [score, dif_pos ⟨by omega, by omega⟩]
    exact (dot_real hq hn hr _ _ _ _).2
  · intro j hj
    rw [score]
    split
    · exact (dot_real hq hn hr _ _ _ _).1
    · exact bot_ne_top

end Cert.Attention

end
-- ==== Proof.FlashValue.lean ====
/- The attention kernel's result array: every block it stores, read back as attention of the arguments (`final`). -/
module

public import proofs.«01_k».proof.Proof.FlashBlock
public import proofs.«01_k».proof.Proof.Attention

@[expose] public section

set_option maxRecDepth 16384

noncomputable section

namespace Cert.FlashIdeal.Val

open Idealize.ShloMosaic Idealize.ShloMosaic.TcCoe Idealize.SL.Sem
open Idealize.ShloMosaic.Pipeline (Dat)
open Cert.FlashIdeal Cert.FlashIdeal.Gen
open Cert.Softmax (top den num)

variable (m : (ℓ : Loc nD τ sig) → Buf (Elt Ideal) ℓ) (c : Dev nD)

/-- The blocks a grid point works on: its pair of sequence and head, and its block of queries. -/
theorem idx : ∀ t : Fin cfg0.N,
    win0_0.index t = ![((grid0.coords t) 0).val, ((grid0.coords t) 2).val, ((grid0.coords t) 1).val]
    ∧ win0_1.index t = ![((grid0.coords t) 0).val, 0, ((grid0.coords t) 1).val]
    ∧ win0_2.index t = ![((grid0.coords t) 0).val, 0, 0]
    ∧ win0_3.index t = ![((grid0.coords t) 0).val, 0, ((grid0.coords t) 1).val]
    ∧ win0_4.index t = ![((grid0.coords t) 0).val, ((grid0.coords t) 2).val, ((grid0.coords t) 1).val]
    ∧ ((grid0.coords t) 0).val < 2 ∧ ((grid0.coords t) 1).val < 12 ∧ ((grid0.coords t) 2).val < 32 :=
  (by decide +kernel : ∀ t : Fin grid0.N, _)

/-- The attention of the arguments, as one array. -/
def G : Vec Ideal S2x8192x1536 .bf16 := fun i =>
  Attention.attn (m ((c.tc : Thread nD τ).loc main_arg0)) (m ((c.tc : Thread nD τ).loc main_arg1))
    (m ((c.tc : Thread nD τ).loc main_arg2)) (m ((c.tc : Thread nD τ).loc main_arg3)) (i 0) (i 1) (i 2)

/-- The query blocks' entries. -/
theorem q_at (t : Fin cfg0.N) (r x : Fin 256) (b : Fin 2) (Q : Fin 8192) (d : Fin 3072)
    (hb : b.val = ((grid0.coords t) 0).val) (hQ : Q.val = 256 * ((grid0.coords t) 2).val + r.val)
    (hd : d.val = 256 * ((grid0.coords t) 1).val + x.val) :
    iblk m c 0 t (ix3 0 r x) = m ((c.tc : Thread nD τ).loc main_arg0) (ix3 b Q d) := by
  blk_ext [iblk, V, idx t]

/-- The keys' entries. -/
theorem k_at (t : Fin cfg0.N) (k : Fin 8192) (x : Fin 128) (b : Fin 2) (d : Fin 1536)
    (hb : b.val = ((grid0.coords t) 0).val) (hd : d.val = 128 * ((grid0.coords t) 1).val + x.val) :
    iblk m c 1 t (ix3 0 k x) = m ((c.tc : Thread nD τ).loc main_arg1) (ix3 b k d) := by
  blk_ext [iblk, V, idx t]

/-- The shared keys' entries. -/
theorem r_at (t : Fin cfg0.N) (k : Fin 8192) (x : Fin 128) (b : Fin 2)
    (hb : b.val = ((grid0.coords t) 0).val) :
    iblk m c 2 t (ix3 0 k x) = m ((c.tc : Thread nD τ).loc main_arg2) (ix3 b k x) := by
  blk_ext [iblk, V, idx t]

/-- The values' entries. -/
theorem v_at (t : Fin cfg0.N) (k : Fin 8192) (x : Fin 128) (b : Fin 2) (d : Fin 1536)
    (hb : b.val = ((grid0.coords t) 0).val) (hd : d.val = 128 * ((grid0.coords t) 1).val + x.val) :
    iblk m c 3 t (ix3 0 k x) = m ((c.tc : Thread nD τ).loc main_arg3) (ix3 b k d) := by
  blk_ext [iblk, V, idx t]

/-- The scores of a grid point's row are those of its query in the arguments. -/
theorem score_eq (t : Fin cfg0.N) (r : Fin 256) (b : Fin 2) (h : Fin 12) (Q : Fin 8192)
    (hb : b.val = ((grid0.coords t) 0).val) (hh : h.val = ((grid0.coords t) 1).val)
    (hQ : Q.val = 256 * ((grid0.coords t) 2).val + r.val) :
    rowScore (iblk m c 0 t) (iblk m c 1 t) (iblk m c 2 t) ((grid0.coords t) 2).val r
      = Attention.score (m ((c.tc : Thread nD τ).loc main_arg0)) (m ((c.tc : Thread nD τ).loc main_arg1))
          (m ((c.tc : Thread nD τ).loc main_arg2)) b h Q := by
  funext j
  rw [rowScore, Attention.score]
  by_cases hj : j < 8192 ∧ j ≤ 256 * ((grid0.coords t) 2).val + r.val
  · rw [dif_pos hj, dif_pos ⟨hj.1, by omega⟩, Attention.dot]
    refine Ideal.add_congr (Finset.sum_congr rfl fun x _ => Ideal.mul_congr ?_ ?_)
      (Finset.sum_congr rfl fun x _ => Ideal.mul_congr ?_ ?_)
    · exact q_at m c t r _ b Q _ hb hQ (by simp only [hh]; omega)
    · exact k_at m c t _ x b _ hb (by simp only [hh]; omega)
    · exact q_at m c t r _ b Q _ hb hQ (by simp only [hh]; omega)
    · exact r_at m c t _ x b hb
  · rw [dif_neg hj, dif_neg (by omega)]

/-- The values of a grid point's column are those of the arguments. -/
theorem val_eq (t : Fin cfg0.N) (x : Fin 128) (b : Fin 2) (d : Fin 1536)
    (hb : b.val = ((grid0.coords t) 0).val) (hd : d.val = 128 * ((grid0.coords t) 1).val + x.val) :
    colVal (iblk m c 3 t) x = Attention.value (m ((c.tc : Thread nD τ).loc main_arg3)) b d := by
  funext j
  rw [colVal, Attention.value]
  by_cases hj : j < 8192
  · rw [dif_pos hj, dif_pos hj]; exact v_at m c t _ x b d hb hd
  · rw [dif_neg hj, dif_neg hj]

/-- The diagonal block's load. -/
theorem diag_at (t : Fin cfg0.N) (X : Vec Ideal S1x8192x128 .bf16) (j : Fin 256) (x : Fin 128)
    (hk : 256 * ((grid0.coords t) 2).val + j.val < 8192) :
    View.ld X (Rect.unit (s := S1x8192x128) (k0_off3 (grid0.coords t)) S1x256x128.size (k0_off3_inb (grid0.coords t))) (ix3 0 j x)
      = X (ix3 0 ⟨256 * ((grid0.coords t) 2).val + j.val, hk⟩ x) := by
  have e := k0_off3_eq (grid0.coords t)
  refine View.ld_unit_apply_of _ _ _ _ _ _ fun b => ?_
  fin_cases b
  · have := congrFun e 0
    simp [this]
  · have := congrFun e 1
    simp [this]
  · have := congrFun e 2
    simp [this]

/-- The kernel's result is attention. -/
theorem final : (dats m 0 c).arrAt 4 cfg0.N = G m c := by
  refine (dats m 0 c).arrAt_eq_of_covers 4 _ (by decide +kernel) fun t hf y => ?_
  obtain ⟨h0, h1, h2, h3, h4, hb, hh, hq⟩ := idx t
  blk_simp
  rw [after0_4]
  unfold outsAt0
  frame_out
  obtain ⟨y0, r, x, rfl⟩ : ∃ (a : Fin 1) (b : Fin 256) (d : Fin 128), y = ix3 a b d := ⟨y 0, y 1, y 2, by
    funext a; fin_cases a <;> rfl⟩
  obtain rfl : y0 = 0 := Subsingleton.elim _ _
  have e2' : Scf.trips (Scalar.addi (0#32)
        (Scalar.muli (Scalar.divsi (Scalar.subi (BitVec.ofNat 32 ((grid0.coords t) 2).val) 0#32) 1#32) 1#32))
      (Scalar.addi (0#32) (Scalar.subi (BitVec.ofNat 32 ((grid0.coords t) 2).val) 0#32)) 1#32 = 0 := Scf.rem_trips _ _
  have e1' : Scf.trips (0#32) (Scalar.addi (0#32)
      (Scalar.muli (Scalar.divsi (Scalar.subi (BitVec.ofNat 32 ((grid0.coords t) 2).val) 0#32) 1#32) 1#32)) 1#32
      = ((grid0.coords t) 2).val := trips_eq (grid0.coords t)
  have e1 : (k0_t1_loop (grid0.coords t)).trips = ((grid0.coords t) 2).val := trips_eq _
  have hr := r.isLt
  have hx := x.isLt
  have he : ((cfg0.win 4).blk t).view.emb (ix3 0 r x)
      = ix3 (⟨((grid0.coords t) 0).val, hb⟩ : Fin 2) (⟨256 * ((grid0.coords t) 2).val + r.val, by omega⟩ : Fin 8192)
          (⟨128 * ((grid0.coords t) 1).val + x.val, by omega⟩ : Fin 1536) := by
    blk_ext [h4]
  have hl := loop_at Variants.none c none (grid0.coords t) (ms0_0 t) (hs0_0 t) (ms0_1 t) (hs0_1 t) (ms0_2 t) (hs0_2 t)
    (ms0_3 t) (hs0_3 t) (ms0_4 t) (hs0_4 t) (iblk m c 0 t) (iblk m c 1 t) (iblk m c 2 t) (iblk m c 3 t) _ le_rfl
  rw [e1] at hl
  have hs := stored_of_carried (p := ((grid0.coords t) 2).val) hq
    (fun j x => diag_at t (iblk m c 1 t) j x (by omega)) (fun j x => diag_at t (iblk m c 2 t) j x (by omega))
    (fun j x => diag_at t (iblk m c 3 t) j x (by omega)) hl r x
  rw [score_eq m c t r ⟨((grid0.coords t) 0).val, hb⟩ ⟨((grid0.coords t) 1).val, hh⟩ ⟨256 * ((grid0.coords t) 2).val + r.val, by omega⟩ rfl rfl rfl,
    val_eq m c t x ⟨((grid0.coords t) 0).val, hb⟩ ⟨128 * ((grid0.coords t) 1).val + x.val, by omega⟩ rfl rfl] at hs
  have hG : G m c (((cfg0.win 4).blk t).view.emb (ix3 0 r x)) = _ := congrArg (G m c) he
  refine Eq.trans ?_ (hs.trans (Eq.trans ?_ hG.symm))
  · rw [e1', e2', st_k0_t2_zero]
  · unfold G Attention.attn
    have eh : (⟨((grid0.coords t) 1).val, hh⟩ : Fin 12)
        = ⟨(128 * ((grid0.coords t) 1).val + x.val) / 128, by omega⟩ := Fin.ext (by simp only; omega)
    rw [eh]; rfl

end Cert.FlashIdeal.Val

end
-- ==== Proof.FlashRef.lean ====
/- The reference's result array, read at an index: softmax of the scores times the values. -/
module

public import proofs.«01_k».proof.Proof.Gen.FlashRefIdeal.Run
public import Idealize.ShloMosaic.Lib.Pointwise
public import Idealize.ShloMosaic.Lib.Pipeline.ValueKit
public import proofs.«01_k».proof.Proof.Attention

@[expose] public section

set_option maxRecDepth 16384

noncomputable section

namespace Cert.FlashRefIdeal.Value

open Idealize.ShloMosaic Idealize.ShloMosaic.TcCoe Idealize.SL.Sem
open Cert.FlashRefIdeal Cert.FlashRefIdeal.Gen

/-- The word of negative infinity denotes `-∞`. -/
theorem negInf : Ideal.ofBits .f32 0xFF800000#32 = ⊥ := by
  simp [Ideal.ofBits, Ideal.ieee]

/-- The mask's comparison of two places is that of their numbers. -/
theorem le_word (j r : Fin 8192) :
    IntOp.cmpi CmpIPredicate.sle (BitVec.ofNat 32 j.val) (BitVec.ofNat 32 r.val) = if j.val ≤ r.val then 1#1 else 0#1 := by
  have e : ∀ x : Fin 8192, (BitVec.ofNat 32 x.val).toInt = x.val := fun x => by
    rw [BitVec.toInt_eq_toNat_bmod, BitVec.toNat_ofNat, Int.bmod_def]; omega
  simp only [IntOp.cmpi, BitVec.sle, e]
  by_cases h : j.val ≤ r.val <;> simp [h]

section Stages

variable (q : FVec Ideal S2x8192x3072 .bf16) (kn : FVec Ideal S2x8192x1536 .bf16) (kr : FVec Ideal S2x8192x128 .bf16)
  (v : FVec Ideal S2x8192x1536 .bf16)

/-- The reference's masked scores. -/
def scores : FVec Ideal S2x12x8192x8192 .f32 :=
  select (broadcastInDim S2x12x8192x8192 ![2, 3] bcast_S8192x8192_S2x12x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
    (Host.dotGeneral dot_S2x8192x12x256_S2x8192x12x256_S2x12x8192x8192_3_3_1_1_02_02 none (shapeCast _ (extf .f32 q bitsLt_bf16_f32) shapeCasts_S2x8192x3072_S2x8192x12x256) (concatenate S2x8192x12x256 3 [⟨S2x8192x12x128, (shapeCast _ (extf .f32 kn bitsLt_bf16_f32) shapeCasts_S2x8192x1536_S2x8192x12x128)⟩, ⟨S2x8192x12x128, (broadcastInDim S2x8192x12x128 ![0, 1, 2, 3] bcast_S2x8192x1x128_S2x8192x12x128_0_1_2_3 (broadcastInDim S2x8192x1x128 ![0, 1, 3] bcast_S2x8192x128_S2x8192x1x128_0_1_3 (extf .f32 kr bitsLt_bf16_f32)))⟩] concatenates_S2x8192x12x128_S2x8192x12x128_S2x8192x12x256_d3))
    (broadcastInDim S2x12x8192x8192 ![] bcast_S_S2x12x8192x8192 (id (constant S_ .f32 0xFF800000#32)))

/-- A masked score of the reference is the score. -/
theorem scores_at (b : Fin 2) (h : Fin 12) (Q k : Fin 8192) :
    scores q kn kr (ix4 b h Q k) = Attention.score q kn kr b h Q k := by
  pointwise [scores]
  rw [le_word, Attention.score]
  by_cases hk : k.val ≤ Q.val
  · rw [if_pos hk, dif_pos ⟨k.isLt, hk⟩]; rfl
  · rw [if_neg hk, dif_neg (by omega)]
    exact negInf

variable (s : FVec Ideal S2x12x8192x8192 .f32)

/-- The rows' maxima. -/
def maxima : FVec Ideal S2x12x8192 .f32 :=
  maximumf (broadcastInDim S2x12x8192 ![] bcast_S_S2x12x8192 (constant S_ .f32 0xFF800000#32)) (Host.reduce FloatOps.maximumf s (constant S_ .f32 0xFF800000#32) reducesTo_S2x12x8192x8192_S2x12x8192_d3 h_S_)

/-- A maximum along the keys, before the constant's. -/
theorem reduce_at (b : Fin 2) (h : Fin 12) (Q : Fin 8192) :
    Host.reduce FloatOps.maximumf s (constant S_ .f32 0xFF800000#32) reducesTo_S2x12x8192x8192_S2x12x8192_d3 h_S_ (ix3 b h Q)
      = Finset.univ.fold max (Ideal.ofBits FTy.f32 0xFF800000#32) fun k : Fin 8192 => s (ix4 b h Q k) := by
  pointwise

/-- The larger of two arrays' entries. -/
theorem max_at (x y : FVec Ideal S2x12x8192 .f32) (i : S2x12x8192.Idx) : maximumf x y i = max (x i) (y i) := rfl

/-- The constant's entries. -/
theorem const_at (i : S2x12x8192.Idx) :
    broadcastInDim S2x12x8192 ![] bcast_S_S2x12x8192 (constant (F := Ideal) S_ .f32 0xFF800000#32) i = ⊥ := negInf

/-- A row's maximum. -/
theorem maxima_at (b : Fin 2) (h : Fin 12) (Q : Fin 8192) :
    maxima s (ix3 b h Q) = Finset.univ.fold max ⊥ fun k : Fin 8192 => s (ix4 b h Q k) := by
  unfold maxima
  rw [max_at, reduce_at, const_at, negInf, max_bot_left]

/-- The exponentials of the scores less their row's maximum. -/
def weights : FVec Ideal S2x12x8192x8192 .f32 :=
  Host.exp (subf s (broadcastInDim S2x12x8192x8192 ![0, 1, 2, 3] bcast_S2x12x8192x1_S2x12x8192x8192_0_1_2_3 (broadcastInDim S2x12x8192x1 ![0, 1, 2] bcast_S2x12x8192_S2x12x8192x1_0_1_2 (maxima s))))

/-- A weight. -/
theorem weights_at (b : Fin 2) (h : Fin 12) (Q k : Fin 8192) : weights s (ix4 b h Q k)
    = Ideal.exp (s (ix4 b h Q k) - Finset.univ.fold max ⊥ fun k : Fin 8192 => s (ix4 b h Q k)) := by
  rw [← maxima_at]
  pointwise [weights]

/-- The weights' sums. -/
def sums : FVec Ideal S2x12x8192 .f32 :=
  Host.reduceAdd (weights s) (constant S_ .f32 0x00000000#32) reducesTo_S2x12x8192x8192_S2x12x8192_d3 h_S_

/-- A row's sum. -/
theorem sums_at (b : Fin 2) (h : Fin 12) (Q : Fin 8192) :
    sums s (ix3 b h Q) = ∑ k : Fin 8192, weights s (ix4 b h Q k) := by
  pointwise [sums]

/-- The values summed against the softmax of the scores. -/
def mixed : FVec Ideal S2x8192x1536 .bf16 :=
  truncf .bf16 (shapeCast _ (transpose S2x8192x12x128 [0, 3, 1, 2] (Host.dotGeneral dot_S2x8192x12x128_S2x12x8192x8192_S2x12x128x8192_1_3_3_2_02_01 none (shapeCast _ (extf .f32 v bitsLt_bf16_f32) shapeCasts_S2x8192x1536_S2x8192x12x128)
    (Host.divf (weights s) (broadcastInDim S2x12x8192x8192 ![0, 1, 2, 3] bcast_S2x12x8192x1_S2x12x8192x8192_0_1_2_3 (broadcastInDim S2x12x8192x1 ![0, 1, 2] bcast_S2x12x8192_S2x12x8192x1_0_1_2 (sums s))))) transposes_S2x12x128x8192_S2x8192x12x128_0_3_1_2) shapeCasts_S2x8192x12x128_S2x8192x1536) bitsLt_bf16_f32

/-- An entry of the values summed against the softmax. -/
theorem mixed_at (b : Fin 2) (Q : Fin 8192) (e : Fin 1536) : mixed v s (ix3 b Q e)
    = ∑ k : Fin 8192, v (ix3 b k e) * Ideal.div (weights s (ix4 b ⟨e.val / 128, by omega⟩ Q k))
        (sums s (ix3 b ⟨e.val / 128, by omega⟩ Q)) := by
  pointwise [mixed]

/-- With finite queries and keys, the reference's stages compose to attention. -/
theorem mixed_eq (b : Fin 2) (Q : Fin 8192) (e : Fin 1536)
    (hq : ∀ i, Attention.IsReal (q i)) (hn : ∀ i, Attention.IsReal (kn i)) (hr : ∀ i, Attention.IsReal (kr i)) :
    mixed v (scores q kn kr) (ix3 b Q e) = Attention.attn q kn kr v b Q e := by
  rw [Attention.softmax_eq v hq hn hr b Q e, mixed_at]
  refine Finset.sum_congr rfl fun j _ => ?_
  rw [Attention.value, dif_pos j.isLt, sums_at]
  simp only [weights_at, scores_at]

end Stages

variable (m : (ℓ : Loc nD τ sig) → Buf (Elt Ideal) ℓ) (c : Dev nD)

/-- The reference's result is its stages, of the arguments. -/
theorem out_eq : res_out0 m c = mixed (m ((c.tc : Thread nD τ).loc main_arg3))
    (scores (m ((c.tc : Thread nD τ).loc main_arg0)) (m ((c.tc : Thread nD τ).loc main_arg1))
      (m ((c.tc : Thread nD τ).loc main_arg2))) := by
  unfold res_out0 res_main_v32 mixed sums weights maxima scores
  rfl

end Cert.FlashRefIdeal.Value

end
-- ==== Proof.Finite.lean ====
/- The precondition `finite_scores`, read: every query and every key is neither infinity. -/
module

public import proofs.«01_k».proof.Pre_finite_scores
public import Idealize.ShloMosaic.Lib.Decide
public import Idealize.ShloMosaic.Lib.Pointwise
public import proofs.«01_k».proof.Proof.Attention

@[expose] public section

set_option maxRecDepth 16384

noncomputable section

namespace Cert.Pre_finite_scores.Val

open Idealize.ShloMosaic Idealize.ShloMosaic.TcCoe Idealize.SL.Sem
open Cert.Pre_finite_scores

/-- The side conditions the precondition's operations take. -/
instance facts : Facts where
  bitsLt_bf16_f32 := by decide
  bcast_S_S2x8192x3072 := by decide
  shapeCasts_S2x8192x3072_S50331648 := by decide
  bcast_S_S2x8192x1536 := by decide
  shapeCasts_S2x8192x1536_S25165824 := by decide
  bcast_S_S2x8192x128 := by decide
  shapeCasts_S2x8192x128_S2097152 := by decide
  concatenates_S50331648_S25165824_S2097152_S77594624_d0 := by decide

variable (q : FVec Ideal S2x8192x3072 .bf16) (kn : FVec Ideal S2x8192x1536 .bf16) (kr : FVec Ideal S2x8192x128 .bf16)
  (v : FVec Ideal S2x8192x1536 .bf16)

/-- The word of positive infinity denotes `∞`. -/
theorem posInf : Ideal.ofBits .f32 0x7F800000#32 = ⊤ := by
  simp [Ideal.ofBits, Ideal.ieee]

/-- A magnitude below infinity is that of a real value. -/
theorem real_of {x : Ideal .f32}
    (h : BitVec.ofBool (decide (FloatOps.absf (F := Ideal) (φ := .f32) x < Ideal.ofBits .f32 0x7F800000#32)) = 1#1) :
    Attention.IsReal x := by
  have h' : FloatOps.absf (F := Ideal) (φ := .f32) x < ⊤ := by
    rw [posInf] at h
    by_contra hc
    rw [decide_eq_false hc] at h
    exact absurd h (by decide)
  constructor
  · rintro rfl
    revert h'
    simp [FloatOps.absf]
  · rintro rfl
    revert h'
    simp [FloatOps.absf]

variable {q kn kr v}

/-- The queries' flat positions come first. -/
theorem q_real (n : Fin 77594624) (h : n.val < 50331648) (e : fn (F := Ideal) q kn kr v (ix1 n) = 1#1) :
    Attention.IsReal (q (ix3 ⟨n.val / 25165824, by omega⟩ ⟨n.val / 3072 % 8192, by omega⟩ ⟨n.val % 3072, by omega⟩)) := by
  revert e
  pointwise [fn]
  rw [dif_pos h]
  exact real_of

/-- The keys' flat positions come next. -/
theorem kn_real (n : Fin 77594624) (h : ¬ n.val < 50331648) (h' : n.val - 50331648 < 25165824)
    (e : fn (F := Ideal) q kn kr v (ix1 n) = 1#1) :
    Attention.IsReal (kn (ix3 ⟨(n.val - 50331648) / 12582912, by omega⟩ ⟨(n.val - 50331648) / 1536 % 8192, by omega⟩
      ⟨(n.val - 50331648) % 1536, by omega⟩)) := by
  revert e
  pointwise [fn]
  rw [dif_neg h, dif_pos h']
  exact real_of

/-- The shared keys' flat positions come last. -/
theorem kr_real (n : Fin 77594624) (h : ¬ n.val < 50331648) (h' : ¬ n.val - 50331648 < 25165824)
    (e : fn (F := Ideal) q kn kr v (ix1 n) = 1#1) :
    Attention.IsReal (kr (ix3 ⟨(n.val - 50331648 - 25165824) / 1048576, by omega⟩
      ⟨(n.val - 50331648 - 25165824) / 128 % 8192, by omega⟩ ⟨(n.val - 50331648 - 25165824) % 128, by omega⟩)) := by
  revert e
  pointwise [fn]
  rw [dif_neg h, dif_neg h']
  exact real_of

/-- Where the precondition holds, the queries and the keys are real. -/
theorem reals (h : fn (F := Ideal) q kn kr v = fun _ => 1#1) :
    (∀ i, Attention.IsReal (q i)) ∧ (∀ i, Attention.IsReal (kn i)) ∧ (∀ i, Attention.IsReal (kr i)) := by
  refine ⟨fun i => ?_, fun i => ?_, fun i => ?_⟩
  · obtain ⟨b, Q, d, rfl⟩ : ∃ (b : Fin 2) (Q : Fin 8192) (d : Fin 3072), i = ix3 b Q d := ⟨i 0, i 1, i 2, by
      funext a; fin_cases a <;> rfl⟩
    have e := q_real (⟨(b.val * 8192 + Q.val) * 3072 + d.val, by omega⟩ : Fin 77594624) (by simp only; omega) (congrFun h _)
    convert e using 4
    all_goals simp only; omega
  · obtain ⟨b, Q, d, rfl⟩ : ∃ (b : Fin 2) (Q : Fin 8192) (d : Fin 1536), i = ix3 b Q d := ⟨i 0, i 1, i 2, by
      funext a; fin_cases a <;> rfl⟩
    have e := kn_real (⟨50331648 + ((b.val * 8192 + Q.val) * 1536 + d.val), by omega⟩ : Fin 77594624) (by simp only; omega)
      (by simp only; omega) (congrFun h _)
    convert e using 4
    all_goals simp only; omega
  · obtain ⟨b, Q, d, rfl⟩ : ∃ (b : Fin 2) (Q : Fin 8192) (d : Fin 128), i = ix3 b Q d := ⟨i 0, i 1, i 2, by
      funext a; fin_cases a <;> rfl⟩
    have e := kr_real (⟨50331648 + 25165824 + ((b.val * 8192 + Q.val) * 128 + d.val), by omega⟩ : Fin 77594624) (by simp only; omega)
      (by simp only; omega) (congrFun h _)
    convert e using 4
    all_goals simp only; omega

end Cert.Pre_finite_scores.Val

end
-- ==== Proof.Rows.lean ====
/- Rows of extended reals: a row's mean, its layer norm, and the two-layer network of squared rectified units. -/
module

public import Idealize.ShloMosaic.Lib.Pointwise

@[expose] public section

noncomputable section

namespace Cert.Rows

open Idealize.ShloMosaic

/-- An array of extended reals of rank two. -/
abbrev Mat (a b : ℕ) : Type := (⟨2, ![a, b]⟩ : Shape).Idx → EReal

/-- The residual's weight, `8 ^ (1/4)` rounded to a single-precision word. -/
def alpha : EReal := Ideal.ofBits .f32 0x3FD744FD#32

/-- A row's sum over its width, 2048. -/
def mean (f : Fin 2048 → EReal) : EReal := Ideal.div (∑ d, f d) (Ideal.ofBits .f32 0x45000000#32)

/-- A row's layer norm, with gain `g` and offset `b`. -/
def norm (f g b : Fin 2048 → EReal) (d : Fin 2048) : EReal :=
  (f d - mean f) * Ideal.rsqrt (mean (fun e => (f e - mean f) * (f e - mean f)) + Ideal.ofBits .f32 0x3727C5AC#32) * g d
    + b d

/-- Equal rows have equal layer norms. -/
theorem norm_congr {f f' g g' b b' : Fin 2048 → EReal} (hf : ∀ e, f e = f' e) (hg : ∀ e, g e = g' e) (hb : ∀ e, b e = b' e)
    (d : Fin 2048) : norm f g b d = norm f' g' b' d := by
  rw [funext hf, funext hg, funext hb]

/-- The product of row `r` and column `k`. -/
def prod {M K N : ℕ} (x : Mat M K) (w : Mat K N) (r : Fin M) (k : Fin N) : EReal := ∑ j : Fin K, x (ix2 r j) * w (ix2 j k)

/-- The product of row `r` and column `k`, negative products cut to zero. -/
def relu {M K N : ℕ} (x : Mat M K) (w : Mat K N) (r : Fin M) (k : Fin N) : EReal :=
  max (∑ j : Fin K, x (ix2 r j) * w (ix2 j k)) 0

/-- The part of the network's output that the `s`-th 512 of the hidden columns give. -/
def part {M : ℕ} (x : Mat M 2048) (w1 : Mat 2048 8192) (w2 : Mat 8192 2048) (r : Fin M) (d : Fin 2048) (s : ℕ) : EReal :=
  if hs : s < 16 then
    ∑ k : Fin 512, relu x w1 r ⟨512 * s + k.val, by omega⟩ * relu x w1 r ⟨512 * s + k.val, by omega⟩
      * w2 (ix2 ⟨512 * s + k.val, by omega⟩ d)
  else 0

/-- The network: the squares of the rectified hidden products against the second weights. -/
def net {M : ℕ} (x : Mat M 2048) (w1 : Mat 2048 8192) (w2 : Mat 8192 2048) (r : Fin M) (d : Fin 2048) : EReal :=
  ∑ k : Fin 8192, relu x w1 r k * relu x w1 r k * w2 (ix2 k d)

/-- The network's output is the sum of its sixteen parts. -/
theorem net_eq {M : ℕ} (x : Mat M 2048) (w1 : Mat 2048 8192) (w2 : Mat 8192 2048) (r : Fin M) (d : Fin 2048) :
    ∑ s ∈ Finset.range 16, part x w1 w2 r d s = net x w1 w2 r d := by
  rw [net, Fin.sum_univ_tiles 16 512 rfl, Finset.sum_range]
  refine Finset.sum_congr rfl fun s _ => ?_
  rw [part, dif_pos s.isLt]
  refine Finset.sum_congr rfl fun k _ => ?_
  rw [show (⟨512 * s.val + k.val, by omega⟩ : Fin 8192) = ⟨s.val * 512 + k.val, by omega⟩ from Fin.ext (by simp only; omega)]

/-- The gated delta layer's projections in the order mixer, memory queries, decays and betas, then zeros. -/
def laid (x : Mat 16384 2048) (w : Mat 2048 6680) (r : Fin 16384) (k : Fin 6912) : EReal :=
  if _h : k.val < 6144 then prod x w r ⟨k.val, by omega⟩
  else if _h : k.val - 6144 < 512 then prod x w r ⟨6168 + (k.val - 6144), by omega⟩
  else if _h : k.val - 6144 - 512 < 24 then prod x w r ⟨6144 + (k.val - 6144 - 512), by omega⟩
  else 0

/-- The mixer's and the memory's rows against the output weights. -/
def heads (mix : Mat 16384 1536) (mem : Mat 16384 512) (w : Mat 2048 2048) (r : Fin 16384) (d : Fin 2048) : EReal :=
  ∑ j : Fin 1536, mix (ix2 r j) * w (ix2 ⟨j.val, by omega⟩ d)
    + ∑ j : Fin 512, mem (ix2 r j) * w (ix2 ⟨1536 + j.val, by omega⟩ d)

end Cert.Rows

end
-- ==== Proof.MlpValue.lean ====
/- The MLP kernel's result array: each block it stores, read back as the layer norm of the residual plus the network. -/
module

public import proofs.«01_k».proof.Proof.Gen.MlpIdeal.Value
public import proofs.«01_k».proof.Proof.Rows
public import Idealize.ShloMosaic.Lib.Pipeline.ValueKit
public import Idealize.ShloMosaic.Lib.Pipeline.ReadBack

@[expose] public section

set_option maxRecDepth 16384

noncomputable section

namespace Cert.MlpIdeal.Val

open Idealize.ShloMosaic Idealize.ShloMosaic.TcCoe Idealize.SL.Sem
open Idealize.ShloMosaic.Pipeline (Dat)
open Cert.MlpIdeal Cert.MlpIdeal.Gen
open Cert.Rows (alpha norm part net relu)

/-- The kept copy of the rows' block is the block. -/
theorem pay1_at (X : Vec Ideal S512x2048 .f32) (r : Fin 512) (d : Fin 2048) : k0_pay1 X (ix2 r d) = X (ix2 r d) := by
  pointwise [k0_pay1]

/-- The sum starts at zero. -/
theorem pay2_at (r : Fin 512) (d : Fin 2048) : k0_pay2 (F := Ideal) (ix2 r d) = 0 := by
  pointwise [k0_pay2]

/-- A step adds its 512 hidden columns' products to the sum. -/
theorem pay3_at (X : Vec Ideal S512x2048 .bf16) (W : Vec Ideal S2048x512 .bf16) (A : Vec Ideal S512x2048 .f32)
    (U : Vec Ideal S512x2048 .bf16) (r : Fin 512) (d : Fin 2048) :
    k0_pay3 X W A U (ix2 r d)
      = A (ix2 r d) + ∑ k : Fin 512, relu X W r k * relu X W r k * U (ix2 k d) := by
  pointwise [k0_pay3]
  rfl

/-- The stored block: the layer norm of the weighted rows plus the sum. -/
theorem pay4_at (X A : Vec Ideal S512x2048 .f32) (G B : Vec Ideal S1x2048 .f32) (r : Fin 512) (d : Fin 2048) :
    k0_pay4 X A G B (ix2 r d)
      = norm (fun e => alpha * X (ix2 r e) + A (ix2 r e)) (fun e => G (ix2 0 e)) (fun e => B (ix2 0 e)) d := by
  pointwise [k0_pay4]
  rfl

variable (m : (ℓ : Loc nD τ sig) → Buf (Elt Ideal) ℓ) (c : Dev nD)

/-- The rows, the network's weights, and the norm's gain and offset. -/
abbrev x : Rows.Mat 16384 2048 := m ((c.tc : Thread nD τ).loc main_arg0)
/-- The first weights. -/
abbrev w1 : Rows.Mat 2048 8192 := m ((c.tc : Thread nD τ).loc main_arg1)
/-- The second weights. -/
abbrev w2 : Rows.Mat 8192 2048 := m ((c.tc : Thread nD τ).loc main_arg2)

/-- The blocks a grid point works on: 512 rows, and 512 of the hidden columns. -/
theorem idx : ∀ t : Fin cfg0.N,
    win0_0.index t = ![t.val / 16, 0] ∧ win0_1.index t = ![0, t.val % 16] ∧ win0_2.index t = ![t.val % 16, 0]
    ∧ win0_3.index t = ![0, 0] ∧ win0_4.index t = ![0, 0] ∧ win0_5.index t = ![t.val / 16, 0] ∧ t.val < 512 :=
  (by decide +kernel : ∀ t : Fin grid0.N, _)

/-- The rows' blocks. -/
theorem x_at (t : Fin cfg0.N) (r : Fin 512) (d : Fin 2048) (R : Fin 16384) (hR : R.val = 512 * (t.val / 16) + r.val) :
    iblk m c 0 t (ix2 r d) = x m c (ix2 R d) := by
  blk_ext [iblk, V, idx t]

/-- The first weights' blocks. -/
theorem w1_at (t : Fin cfg0.N) (j : Fin 2048) (k : Fin 512) (K : Fin 8192) (hK : K.val = 512 * (t.val % 16) + k.val) :
    iblk m c 1 t (ix2 j k) = w1 m c (ix2 j K) := by
  blk_ext [iblk, V, idx t]

/-- The second weights' blocks. -/
theorem w2_at (t : Fin cfg0.N) (k : Fin 512) (d : Fin 2048) (K : Fin 8192) (hK : K.val = 512 * (t.val % 16) + k.val) :
    iblk m c 2 t (ix2 k d) = w2 m c (ix2 K d) := by
  blk_ext [iblk, V, idx t]

/-- The gain. -/
theorem g_at (t : Fin cfg0.N) (d : Fin 2048) :
    iblk m c 3 t (ix2 0 d) = m ((c.tc : Thread nD τ).loc main_arg3) (ix2 0 d) := by
  blk_ext [iblk, V, idx t]

/-- The offset. -/
theorem b_at (t : Fin cfg0.N) (d : Fin 2048) :
    iblk m c 4 t (ix2 0 d) = m ((c.tc : Thread nD τ).loc main_arg4) (ix2 0 d) := by
  blk_ext [iblk, V, idx t]

/-! ## What a point leaves -/

/-- A run's first point keeps the rows' block. -/
theorem first_rows (t : Fin cfg0.N) (h0 : t.val % 16 = 0) (h1 : ¬t.val % 16 = 15) :
    (outsAt0 m c t.val t.isLt).2.1 = k0_pay1 (iblk m c 0 t) := by
  rw [outsAt0_A m c t h0 h1]
  frame_out

/-- A run's first point starts the sum. -/
theorem first_sum (t : Fin cfg0.N) (h0 : t.val % 16 = 0) (h1 : ¬t.val % 16 = 15) :
    (outsAt0 m c t.val t.isLt).2.2 = k0_pay3 (k0_pay1 (iblk m c 0 t)) (iblk m c 1 t) (k0_pay2 (F := Ideal)) (iblk m c 2 t) := by
  rw [outsAt0_A m c t h0 h1]
  frame_out

/-- A later point keeps the kept rows. -/
theorem later_rows (t : Fin cfg0.N) (h0 : ¬t.val % 16 = 0) :
    (outsAt0 m c t.val t.isLt).2.1 = (outsAt0 m c (t.val - 1) (by omega)).2.1 := by
  by_cases h1 : t.val % 16 = 15
  · rw [outsAt0_C m c t h0 h1]; rfl
  · rw [outsAt0_B m c t h0 h1]; rfl

/-- A later point adds to the sum. -/
theorem later_sum (t : Fin cfg0.N) (h0 : ¬t.val % 16 = 0) :
    (outsAt0 m c t.val t.isLt).2.2 = k0_pay3 (outsAt0 m c (t.val - 1) (by omega)).2.1 (iblk m c 1 t)
      (outsAt0 m c (t.val - 1) (by omega)).2.2 (iblk m c 2 t) := by
  by_cases h1 : t.val % 16 = 15
  · rw [outsAt0_C m c t h0 h1]
    frame_out
    rw [read_unread_whole, read_unread_whole]
  · rw [outsAt0_B m c t h0 h1]
    frame_out
    rw [read_unread_whole, read_unread_whole]

/-- A run's last point stores the layer norm, from the sum it has just completed. -/
theorem last_out (t : Fin cfg0.N) (h0 : ¬t.val % 16 = 0) (h1 : t.val % 16 = 15) :
    (outsAt0 m c t.val t.isLt).1
      = k0_pay4 (iblk m c 0 t) (outsAt0 m c t.val t.isLt).2.2 (iblk m c 3 t) (iblk m c 4 t) := by
  rw [later_sum m c t h0, outsAt0_C m c t h0 h1]
  frame_out
  rw [read_unread_whole, read_unread_whole]

/-- A step adds its part of the network's output, when the kept rows are the argument's. -/
theorem step_at (t : Fin cfg0.N) (X : Vec Ideal S512x2048 .bf16) (A : Vec Ideal S512x2048 .f32) (r : Fin 512) (d : Fin 2048)
    (R : Fin 16384) (hX : ∀ j, X (ix2 r j) = x m c (ix2 R j)) :
    k0_pay3 X (iblk m c 1 t) A (iblk m c 2 t) (ix2 r d)
      = A (ix2 r d) + part (x m c) (w1 m c) (w2 m c) R d (t.val % 16) := by
  have hs : t.val % 16 < 16 := Nat.mod_lt _ (by omega)
  have hr : ∀ k : Fin 512, relu X (iblk m c 1 t : Rows.Mat 2048 512) r k
      = relu (x m c) (w1 m c) R ⟨512 * (t.val % 16) + k.val, by omega⟩ := fun k =>
    congrArg (fun s : EReal => max s 0) (Finset.sum_congr rfl fun j _ => Ideal.mul_congr (hX j) (w1_at m c t j k _ rfl))
  rw [pay3_at, part, dif_pos hs]
  refine Ideal.add_congr rfl (Finset.sum_congr rfl fun k _ => ?_)
  exact Ideal.mul_congr (Ideal.mul_congr (hr k) (hr k)) (w2_at m c t k d _ rfl)

/-- After point `n` the kept rows are its block of the argument, and the sum holds the parts of the run's steps so far. -/
theorem carried (n : ℕ) (hn : n < cfg0.N) : ∀ (r : Fin 512) (R : Fin 16384), R.val = 512 * (n / 16) + r.val →
    (∀ d, (outsAt0 m c n hn).2.1 (ix2 r d) = x m c (ix2 R d))
    ∧ ∀ d, (outsAt0 m c n hn).2.2 (ix2 r d)
        = ∑ s ∈ Finset.range (n % 16 + 1), part (x m c) (w1 m c) (w2 m c) R d s := by
  induction n with
  | zero =>
    intro r R hR
    have hX : ∀ d, k0_pay1 (iblk m c 0 ⟨0, hn⟩) (ix2 r d) = x m c (ix2 R d) := fun d =>
      (pay1_at _ r d).trans (x_at m c ⟨0, hn⟩ r d R hR)
    refine ⟨fun d => ?_, fun d => ?_⟩
    · exact (congrFun (first_rows m c ⟨0, hn⟩ rfl (by simp)) _).trans (hX d)
    · refine (congrFun (first_sum m c ⟨0, hn⟩ rfl (by simp)) _).trans ?_
      rw [step_at m c ⟨0, hn⟩ _ _ r d R hX, pay2_at, zero_add]
      simp
  | succ n ih =>
    intro r R hR
    by_cases h0 : (n + 1) % 16 = 0
    · have hX : ∀ d, k0_pay1 (iblk m c 0 ⟨n + 1, hn⟩) (ix2 r d) = x m c (ix2 R d) := fun d =>
        (pay1_at _ r d).trans (x_at m c ⟨n + 1, hn⟩ r d R hR)
      refine ⟨fun d => ?_, fun d => ?_⟩
      · exact (congrFun (first_rows m c ⟨n + 1, hn⟩ h0 (by simp only; omega)) _).trans (hX d)
      · refine (congrFun (first_sum m c ⟨n + 1, hn⟩ h0 (by simp only; omega)) _).trans ?_
        rw [step_at m c ⟨n + 1, hn⟩ _ _ r d R hX, pay2_at, zero_add]
        simp [h0]
    · obtain ⟨hX, hA⟩ := ih (by omega) r R (by omega)
      refine ⟨fun d => ?_, fun d => ?_⟩
      · exact (congrFun (later_rows m c ⟨n + 1, hn⟩ h0) _).trans (hX d)
      · refine (congrFun (later_sum m c ⟨n + 1, hn⟩ h0) _).trans ?_
        have e : (n + 1) % 16 = n % 16 + 1 := by omega
        refine (step_at m c ⟨n + 1, hn⟩ _ _ r d R hX).trans ?_
        rw [Finset.sum_range_succ]
        simp only [e]
        exact Ideal.add_congr (hA d) rfl

/-- The layer norm of the weighted rows plus the network's output, as one array of the arguments. -/
def G : Vec Ideal S16384x2048 .f32 := fun i =>
  norm (fun e => alpha * x m c (ix2 (i 0) e) + net (x m c) (w1 m c) (w2 m c) (i 0) e)
    (fun e => m ((c.tc : Thread nD τ).loc main_arg3) (ix2 0 e)) (fun e => m ((c.tc : Thread nD τ).loc main_arg4) (ix2 0 e)) (i 1)

/-- The kernel's result is that array. -/
theorem final : (dats m 0 c).arrAt 5 cfg0.N = G m c := by
  refine (dats m 0 c).arrAt_eq_of_covers 5 _ (by decide +kernel) fun t hf y => ?_
  have h1 : t.val % 16 = 15 := (flush0_5 t).mp hf
  obtain ⟨i0, -, -, -, -, i5, hN⟩ := idx t
  blk_simp
  rw [after0_5, last_out m c t (by omega) h1]
  obtain ⟨r, d, rfl⟩ : ∃ (a : Fin 512) (b : Fin 2048), y = ix2 a b := ⟨y 0, y 1, by funext a; fin_cases a <;> rfl⟩
  have hr := r.isLt
  have he : ((cfg0.win 5).blk t).view.emb (ix2 r d)
      = ix2 (⟨512 * (t.val / 16) + r.val, by omega⟩ : Fin 16384) d := by
    blk_ext [i5]
  refine Eq.trans ?_ (congrArg (G m c) he).symm
  obtain ⟨-, hA⟩ := carried m c t.val t.isLt r ⟨512 * (t.val / 16) + r.val, by omega⟩ rfl
  refine (pay4_at _ _ _ _ r d).trans ?_
  have hf : (fun e => alpha * iblk m c 0 t (ix2 r e) + (outsAt0 m c t.val t.isLt).2.2 (ix2 r e))
      = fun e => alpha * x m c (ix2 (⟨512 * (t.val / 16) + r.val, by omega⟩ : Fin 16384) e)
          + net (x m c) (w1 m c) (w2 m c) ⟨512 * (t.val / 16) + r.val, by omega⟩ e := by
    funext e
    rw [hA e, h1, Rows.net_eq, x_at m c t r e ⟨512 * (t.val / 16) + r.val, by omega⟩ rfl]
  have hg : (fun e => iblk m c 3 t (ix2 0 e)) = fun e => m ((c.tc : Thread nD τ).loc main_arg3) (ix2 0 e) :=
    funext fun e => g_at m c t e
  have hb : (fun e => iblk m c 4 t (ix2 0 e)) = fun e => m ((c.tc : Thread nD τ).loc main_arg4) (ix2 0 e) :=
    funext fun e => b_at m c t e
  rw [hf, hg, hb]
  rfl

end Cert.MlpIdeal.Val

end
-- ==== Proof.MlpRef.lean ====
/- The MLP reference's result array, read at an index: the layer norm of the residual plus the network. -/
module

public import proofs.«01_k».proof.Proof.Gen.MlpRefIdeal.Run
public import proofs.«01_k».proof.Proof.Rows
public import Idealize.ShloMosaic.Lib.Pipeline.ValueKit

@[expose] public section

set_option maxRecDepth 16384

noncomputable section

namespace Cert.MlpRefIdeal.Value

open Idealize.ShloMosaic Idealize.ShloMosaic.TcCoe Idealize.SL.Sem
open Cert.MlpRefIdeal Cert.MlpRefIdeal.Gen
open Cert.Rows (alpha mean norm net relu)

section Stages

variable (x : FVec Ideal S16384x2048 .f32) (w1 : FVec Ideal S2048x8192 .bf16) (w2 : FVec Ideal S8192x2048 .bf16)
  (g b : FVec Ideal S1x2048 .f32)

/-- The rectified hidden products. -/
def hidden : FVec Ideal S16384x8192 .f32 :=
  maximumf (Host.dotGeneral dot_S16384x2048_S2048x8192_S16384x8192_1_0_0_1_n_n none x (extf .f32 w1 bitsLt_bf16_f32)) (broadcastInDim S16384x8192 ![] bcast_S_S16384x8192 (constant S_ .f32 0x00000000#32))

/-- A rectified hidden product. -/
theorem hidden_at (r : Fin 16384) (k : Fin 8192) : hidden x w1 (ix2 r k) = relu x w1 r k := by
  pointwise [hidden]
  rfl

/-- The weighted rows plus the network's output. -/
def sums : FVec Ideal S16384x2048 .f32 :=
  addf (mulf (broadcastInDim S16384x2048 ![] bcast_S_S16384x2048 (constant S_ .f32 0x3FD744FD#32)) x)
    (Host.dotGeneral dot_S16384x8192_S8192x2048_S16384x2048_1_0_0_1_n_n none (mulf (hidden x w1) (hidden x w1)) (extf .f32 w2 bitsLt_bf16_f32))

/-- An entry of the weighted rows plus the network's output. -/
theorem sums_at (r : Fin 16384) (d : Fin 2048) :
    sums x w1 w2 (ix2 r d) = alpha * x (ix2 r d) + net x w1 w2 r d := by
  have e : sums x w1 w2 (ix2 r d) = alpha * x (ix2 r d)
      + ∑ k : Fin 8192, hidden x w1 (ix2 r k) * hidden x w1 (ix2 r k) * w2 (ix2 k d) := by
    pointwise [sums]
    rfl
  rw [e, net]
  simp only [hidden_at]

variable (s : FVec Ideal S16384x2048 .f32)

/-- The rows' means, as a column. -/
def means : FVec Ideal S16384x1 .f32 :=
  Host.divf (broadcastInDim S16384x1 ![0] bcast_S16384_S16384x1_0 (Host.reduceAdd s (constant S_ .f32 0x00000000#32) reducesTo_S16384x2048_S16384_d1 h_S_)) (broadcastInDim S16384x1 ![] bcast_S_S16384x1 (constant S_ .f32 0x45000000#32))

/-- A row's mean. -/
theorem means_at (r : Fin 16384) : means s (ix2 r 0) = mean fun d => s (ix2 r d) := by
  pointwise [means]
  rfl

/-- The rows less their means. -/
def centred : FVec Ideal S16384x2048 .f32 :=
  subf s (broadcastInDim S16384x2048 ![0, 1] bcast_S16384x1_S16384x2048_0_1 (means s))

/-- An entry less its row's mean. -/
theorem centred_at (r : Fin 16384) (d : Fin 2048) :
    centred s (ix2 r d) = s (ix2 r d) - mean fun e => s (ix2 r e) := by
  rw [← means_at]
  pointwise [centred]

/-- The rows' layer norm. -/
def normed : FVec Ideal S16384x2048 .f32 :=
  addf (mulf (mulf (centred s) (broadcastInDim S16384x2048 ![0, 1] bcast_S16384x1_S16384x2048_0_1 (Host.rsqrt (addf (means (mulf (centred s) (centred s))) (broadcastInDim S16384x1 ![] bcast_S_S16384x1 (constant S_ .f32 0x3727C5AC#32))))))
    (broadcastInDim S16384x2048 ![0, 1] bcast_S1x2048_S16384x2048_0_1 g)) (broadcastInDim S16384x2048 ![0, 1] bcast_S1x2048_S16384x2048_0_1 b)

/-- An entry of the rows' layer norm. -/
theorem normed_at (r : Fin 16384) (d : Fin 2048) : normed g b s (ix2 r d)
    = norm (fun e => s (ix2 r e)) (fun e => g (ix2 0 e)) (fun e => b (ix2 0 e)) d := by
  have e : normed g b s (ix2 r d) = centred s (ix2 r d)
      * Ideal.rsqrt (means (mulf (centred s) (centred s)) (ix2 r 0) + Ideal.ofBits .f32 0x3727C5AC#32) * g (ix2 0 d)
      + b (ix2 0 d) := by
    pointwise [normed]
  have f : ∀ a : Fin 2048, mulf (centred s) (centred s) (ix2 r a) = centred s (ix2 r a) * centred s (ix2 r a) := fun _ => rfl
  rw [e, means_at, Rows.norm]
  simp only [f, centred_at]

/-- The reference's stages compose to the layer norm of the weighted rows plus the network. -/
theorem stages_at (r : Fin 16384) (d : Fin 2048) : normed g b (sums x w1 w2) (ix2 r d)
    = norm (fun e => alpha * x (ix2 r e) + net x w1 w2 r e) (fun e => g (ix2 0 e)) (fun e => b (ix2 0 e)) d := by
  rw [normed_at]
  simp only [sums_at]

end Stages

variable (m : (ℓ : Loc nD τ sig) → Buf (Elt Ideal) ℓ) (c : Dev nD)

/-- The reference's result is its stages, of the arguments. -/
theorem out_eq : res_out0 m c = normed (m ((c.tc : Thread nD τ).loc main_arg3)) (m ((c.tc : Thread nD τ).loc main_arg4))
    (sums (m ((c.tc : Thread nD τ).loc main_arg0)) (m ((c.tc : Thread nD τ).loc main_arg1))
      (m ((c.tc : Thread nD τ).loc main_arg2))) := by
  unfold res_out0 res_main_v30 normed centred means sums hidden
  rfl

end Cert.MlpRefIdeal.Value

end
-- ==== Proof.GdnInValue.lean ====
/- The gated delta layer's input projection: the kernel's result array, block by block, as products of the arguments. -/
module

public import proofs.«01_k».proof.Proof.Gen.GdnInIdeal.Value
public import proofs.«01_k».proof.Proof.Rows
public import Idealize.ShloMosaic.Lib.Pointwise
public import Idealize.ShloMosaic.Lib.Pipeline.ValueKit

@[expose] public section

set_option maxRecDepth 16384

noncomputable section

namespace Cert.GdnInIdeal.Val

open Idealize.ShloMosaic Idealize.ShloMosaic.TcCoe Idealize.SL.Sem
open Idealize.ShloMosaic.Pipeline (Dat)
open Cert.GdnInIdeal Cert.GdnInIdeal.Gen
open Cert.Rows (laid prod)

/-- A stored block: its rows times its columns. -/
theorem pay_at (X : Vec Ideal S512x2048 .f32) (W : Vec Ideal S2048x768 .bf16) (r : Fin 512) (k : Fin 768) :
    k0_pay1 X W (ix2 r k) = ∑ j : Fin 2048, X (ix2 r j) * W (ix2 j k) := by
  pointwise [k0_pay1]

/-- The weights as the kernel lays them out. -/
def packed (w : FVec Ideal S2048x6680 .f32) : FVec Ideal S2048x6912 .bf16 :=
  truncf .bf16 (concatenate S2048x6912 1 [⟨S2048x6144, extractStridedSlice S2048x6144 ![0, 0] w slices_S2048x6680_S2048x6144_0_0⟩, ⟨S2048x512, extractStridedSlice S2048x512 ![0, 6168] w slices_S2048x6680_S2048x512_0_6168⟩, ⟨S2048x24, extractStridedSlice S2048x24 ![0, 6144] w slices_S2048x6680_S2048x24_0_6144⟩, ⟨S2048x232, broadcastInDim S2048x232 ![] bcast_S_S2048x232 (constant S_ .f32 0x00000000#32)⟩] concatenates_S2048x6144_S2048x512_S2048x24_S2048x232_S2048x6912_d1) bitsLt_bf16_f32

/-- A weight of the laid-out weights. -/
theorem packed_at (w : FVec Ideal S2048x6680 .f32) (j : Fin 2048) (k : Fin 6912) : packed w (ix2 j k)
    = if _h : k.val < 6144 then w (ix2 j ⟨k.val, by omega⟩)
      else if _h : k.val - 6144 < 512 then w (ix2 j ⟨6168 + (k.val - 6144), by omega⟩)
      else if _h : k.val - 6144 - 512 < 24 then w (ix2 j ⟨6144 + (k.val - 6144 - 512), by omega⟩)
      else 0 := by
  pointwise [packed]

/-- A row times a column of the laid-out weights. -/
theorem prod_packed (x : FVec Ideal S16384x2048 .f32) (w : FVec Ideal S2048x6680 .f32) (r : Fin 16384) (k : Fin 6912) :
    ∑ j : Fin 2048, x (ix2 r j) * packed w (ix2 j k) = laid x w r k := by
  simp only [packed_at, laid, prod]
  split_ifs <;> simp

variable (m : (ℓ : Loc nD τ sig) → Buf (Elt Ideal) ℓ) (c : Dev nD)

/-- The blocks a grid point works on. -/
theorem idx : ∀ t : Fin cfg0.N,
    win0_0.index t = ![t.val / 9, 0] ∧ win0_1.index t = ![0, t.val % 9] ∧ win0_2.index t = ![t.val / 9, t.val % 9]
    ∧ t.val < 288 :=
  (by decide +kernel : ∀ t : Fin grid0.N, _)

/-- The weights the call is given are the laid-out weights. -/
theorem V_packed : V m c main_v5 = packed (m ((c.tc : Thread nD τ).loc main_arg1)) := by
  simp only [V, hostOps0]
  after_results_simp
  rfl

/-- The weights' blocks. -/
theorem w_at (t : Fin cfg0.N) (j : Fin 2048) (k : Fin 768) (K : Fin 6912) (hK : K.val = 768 * (t.val % 9) + k.val) :
    iblk m c 1 t (ix2 j k) = packed (m ((c.tc : Thread nD τ).loc main_arg1)) (ix2 j K) := by
  rw [← V_packed]
  blk_ext [iblk, idx t]

/-- The rows' blocks. -/
theorem x_at (t : Fin cfg0.N) (r : Fin 512) (d : Fin 2048) (R : Fin 16384) (hR : R.val = 512 * (t.val / 9) + r.val) :
    iblk m c 0 t (ix2 r d) = m ((c.tc : Thread nD τ).loc main_arg0) (ix2 R d) := by
  rw [← V_main_arg0 m c]
  blk_ext [iblk, idx t]

/-- The projections of the arguments, as one array. -/
def G : Vec Ideal S16384x6912 .f32 := fun i =>
  laid (m ((c.tc : Thread nD τ).loc main_arg0)) (m ((c.tc : Thread nD τ).loc main_arg1)) (i 0) (i 1)

/-- The kernel's result is that array. -/
theorem final : (dats m 0 c).arrAt 2 cfg0.N = G m c := by
  refine (dats m 0 c).arrAt_eq_of_covers 2 _ (by decide +kernel) fun t hf y => ?_
  obtain ⟨-, -, i2, hN⟩ := idx t
  blk_simp
  rw [after0_2]
  frame_out
  obtain ⟨r, k, rfl⟩ : ∃ (a : Fin 512) (b : Fin 768), y = ix2 a b := ⟨y 0, y 1, by funext a; fin_cases a <;> rfl⟩
  have hr := r.isLt
  have hk := k.isLt
  have he : ((cfg0.win 2).blk t).view.emb (ix2 r k)
      = ix2 (⟨512 * (t.val / 9) + r.val, by omega⟩ : Fin 16384) (⟨768 * (t.val % 9) + k.val, by omega⟩ : Fin 6912) := by
    blk_ext [i2]
  refine Eq.trans ?_ (congrArg (G m c) he).symm
  refine (pay_at _ _ r k).trans (Eq.trans ?_ (prod_packed _ _ _ _))
  exact Finset.sum_congr rfl fun j _ => Ideal.mul_congr (x_at m c t r j _ rfl) (w_at m c t j k _ rfl)

end Cert.GdnInIdeal.Val

end
-- ==== Proof.GdnInRef.lean ====
/- The reference of the gated delta layer's input projection, read at an index. -/
module

public import proofs.«01_k».proof.Proof.Gen.GdnInRefIdeal.Run
public import proofs.«01_k».proof.Proof.Rows
public import Idealize.ShloMosaic.Lib.Pointwise
public import Idealize.ShloMosaic.Lib.Pipeline.ValueKit

@[expose] public section

set_option maxRecDepth 16384

noncomputable section

namespace Cert.GdnInRefIdeal.Value

open Idealize.ShloMosaic Idealize.ShloMosaic.TcCoe Idealize.SL.Sem
open Cert.GdnInRefIdeal Cert.GdnInRefIdeal.Gen
open Cert.Rows (prod)

variable (x : FVec Ideal S16384x2048 .f32) (w : FVec Ideal S2048x6680 .f32)

/-- All the projections. -/
def product : FVec Ideal S16384x6680 .f32 :=
  Host.dotGeneral dot_S16384x2048_S2048x6680_S16384x6680_1_0_0_1_n_n none x w

/-- A projection. -/
theorem product_at (r : Fin 16384) (k : Fin 6680) : product x w (ix2 r k) = prod x w r k := by
  pointwise [product]
  rfl

/-- The projections in the call's order. -/
def laid (h : FVec Ideal S16384x6680 .f32) : FVec Ideal S16384x6912 .f32 :=
  concatenate S16384x6912 1 [⟨S16384x6144, extractStridedSlice S16384x6144 ![0, 0] h slices_S16384x6680_S16384x6144_0_0⟩, ⟨S16384x512, extractStridedSlice S16384x512 ![0, 6168] h slices_S16384x6680_S16384x512_0_6168⟩, ⟨S16384x24, extractStridedSlice S16384x24 ![0, 6144] h slices_S16384x6680_S16384x24_0_6144⟩, ⟨S16384x232, broadcastInDim S16384x232 ![] bcast_S_S16384x232 (constant S_ .f32 0x00000000#32)⟩] concatenates_S16384x6144_S16384x512_S16384x24_S16384x232_S16384x6912_d1

/-- A projection in the call's order. -/
theorem laid_at (r : Fin 16384) (k : Fin 6912) : laid (product x w) (ix2 r k) = Rows.laid x w r k := by
  have e : ∀ h : FVec Ideal S16384x6680 .f32, laid h (ix2 r k)
      = if _h : k.val < 6144 then h (ix2 r ⟨k.val, by omega⟩)
        else if _h : k.val - 6144 < 512 then h (ix2 r ⟨6168 + (k.val - 6144), by omega⟩)
        else if _h : k.val - 6144 - 512 < 24 then h (ix2 r ⟨6144 + (k.val - 6144 - 512), by omega⟩)
        else 0 := by
    intro h
    pointwise [laid]
  rw [e]
  simp only [product_at]
  rfl

end Cert.GdnInRefIdeal.Value

end
-- ==== Proof.OutProjValue.lean ====
/- The output projection: the kernel's result array, block by block, as layer norms of the residual plus the heads' products. -/
module

public import proofs.«01_k».proof.Proof.Gen.OutProjIdeal.Value
public import proofs.«01_k».proof.Proof.Rows
public import Idealize.ShloMosaic.Lib.Pointwise
public import Idealize.ShloMosaic.Lib.Pipeline.ValueKit

@[expose] public section

set_option maxRecDepth 16384

noncomputable section

namespace Cert.OutProjIdeal.Val

open Idealize.ShloMosaic Idealize.ShloMosaic.TcCoe Idealize.SL.Sem
open Idealize.ShloMosaic.Pipeline (Dat)
open Cert.OutProjIdeal Cert.OutProjIdeal.Gen
open Cert.Rows (alpha heads norm)

/-- The stored block: the layer norm of the weighted rows plus the heads' products. -/
theorem pay_at (A : Vec Ideal S256x1536 .bf16) (WA : Vec Ideal S1536x2048 .bf16) (B : Vec Ideal S256x512 .bf16)
    (WB : Vec Ideal S512x2048 .bf16) (X : Vec Ideal S256x2048 .f32) (g b : Vec Ideal S1x2048 .f32)
    (r : Fin 256) (d : Fin 2048) :
    k0_pay1 A WA B WB X g b (ix2 r d)
      = norm (fun e => alpha * X (ix2 r e) + (∑ j : Fin 1536, A (ix2 r j) * WA (ix2 j e) + ∑ j : Fin 512, B (ix2 r j) * WB (ix2 j e)))
          (fun e => g (ix2 0 e)) (fun e => b (ix2 0 e)) d := by
  pointwise [k0_pay1]
  rfl

variable (m : (ℓ : Loc nD τ sig) → Buf (Elt Ideal) ℓ) (c : Dev nD)

/-- The blocks a grid point works on: 256 rows. -/
theorem idx : ∀ t : Fin cfg0.N,
    win0_0.index t = ![t.val, 0] ∧ win0_1.index t = ![t.val, 0] ∧ win0_2.index t = ![0, 0] ∧ win0_3.index t = ![0, 0]
    ∧ win0_4.index t = ![t.val, 0] ∧ win0_5.index t = ![0, 0] ∧ win0_6.index t = ![0, 0] ∧ win0_7.index t = ![t.val, 0]
    ∧ t.val < 64 :=
  (by decide +kernel : ∀ t : Fin grid0.N, _)

/-- The first 1536 rows of the weights. -/
def upper (w : FVec Ideal S2048x2048 .f32) : FVec Ideal S1536x2048 .bf16 :=
  extractStridedSlice S1536x2048 ![0, 0] (truncf .bf16 w bitsLt_bf16_f32) slices_S2048x2048_S1536x2048_0_0

/-- The last 512 rows of the weights. -/
def lower (w : FVec Ideal S2048x2048 .f32) : FVec Ideal S512x2048 .bf16 :=
  extractStridedSlice S512x2048 ![1536, 0] (truncf .bf16 w bitsLt_bf16_f32) slices_S2048x2048_S512x2048_1536_0

/-- A weight of the first rows. -/
theorem upper_at (w : FVec Ideal S2048x2048 .f32) (j : Fin 1536) (d : Fin 2048) :
    upper w (ix2 j d) = w (ix2 ⟨j.val, by omega⟩ d) := by
  pointwise [upper]

/-- A weight of the last rows. -/
theorem lower_at (w : FVec Ideal S2048x2048 .f32) (j : Fin 512) (d : Fin 2048) :
    lower w (ix2 j d) = w (ix2 ⟨1536 + j.val, by omega⟩ d) := by
  pointwise [lower]

/-- The mixer's weights the call is given. -/
theorem V_upper : V m c main_v1 = upper (m ((c.tc : Thread nD τ).loc main_arg2)) := by
  simp only [V, hostOps0]
  after_results_simp
  rfl

/-- The memory's weights the call is given. -/
theorem V_lower : V m c main_v2 = lower (m ((c.tc : Thread nD τ).loc main_arg2)) := by
  simp only [V, hostOps0]
  after_results_simp
  rfl

/-- The mixer's rows. -/
theorem mix_at (t : Fin cfg0.N) (r : Fin 256) (d : Fin 1536) (R : Fin 16384) (hR : R.val = 256 * t.val + r.val) :
    iblk m c 0 t (ix2 r d) = m ((c.tc : Thread nD τ).loc main_arg0) (ix2 R d) := by
  rw [← V_main_arg0 m c]
  blk_ext [iblk, idx t]

/-- The memory's rows. -/
theorem mem_at (t : Fin cfg0.N) (r : Fin 256) (d : Fin 512) (R : Fin 16384) (hR : R.val = 256 * t.val + r.val) :
    iblk m c 1 t (ix2 r d) = m ((c.tc : Thread nD τ).loc main_arg1) (ix2 R d) := by
  rw [← V_main_arg1 m c]
  blk_ext [iblk, idx t]

/-- The mixer's weights. -/
theorem wa_at (t : Fin cfg0.N) (j : Fin 1536) (d : Fin 2048) :
    iblk m c 2 t (ix2 j d) = upper (m ((c.tc : Thread nD τ).loc main_arg2)) (ix2 j d) := by
  rw [← V_upper m c]
  blk_ext [iblk, idx t]

/-- The memory's weights. -/
theorem wb_at (t : Fin cfg0.N) (j : Fin 512) (d : Fin 2048) :
    iblk m c 3 t (ix2 j d) = lower (m ((c.tc : Thread nD τ).loc main_arg2)) (ix2 j d) := by
  rw [← V_lower m c]
  blk_ext [iblk, idx t]

/-- The residual's rows. -/
theorem x_at (t : Fin cfg0.N) (r : Fin 256) (d : Fin 2048) (R : Fin 16384) (hR : R.val = 256 * t.val + r.val) :
    iblk m c 4 t (ix2 r d) = m ((c.tc : Thread nD τ).loc main_arg3) (ix2 R d) := by
  rw [← V_main_arg3 m c]
  blk_ext [iblk, idx t]

/-- The gain. -/
theorem g_at (t : Fin cfg0.N) (d : Fin 2048) :
    iblk m c 5 t (ix2 0 d) = m ((c.tc : Thread nD τ).loc main_arg4) (ix2 0 d) := by
  rw [← V_main_arg4 m c]
  blk_ext [iblk, idx t]

/-- The offset. -/
theorem b_at (t : Fin cfg0.N) (d : Fin 2048) :
    iblk m c 6 t (ix2 0 d) = m ((c.tc : Thread nD τ).loc main_arg5) (ix2 0 d) := by
  rw [← V_main_arg5 m c]
  blk_ext [iblk, idx t]

/-- The layer norm of the weighted rows plus the heads' products, as one array of the arguments. -/
def G : Vec Ideal S16384x2048 .f32 := fun i =>
  norm (fun e => alpha * m ((c.tc : Thread nD τ).loc main_arg3) (ix2 (i 0) e)
      + heads (m ((c.tc : Thread nD τ).loc main_arg0)) (m ((c.tc : Thread nD τ).loc main_arg1))
          (m ((c.tc : Thread nD τ).loc main_arg2)) (i 0) e)
    (fun e => m ((c.tc : Thread nD τ).loc main_arg4) (ix2 0 e)) (fun e => m ((c.tc : Thread nD τ).loc main_arg5) (ix2 0 e)) (i 1)

/-- The kernel's result is that array. -/
theorem final : (dats m 0 c).arrAt 7 cfg0.N = G m c := by
  refine (dats m 0 c).arrAt_eq_of_covers 7 _ (by decide +kernel) fun t hf y => ?_
  obtain ⟨-, -, -, -, -, -, -, i7, hN⟩ := idx t
  blk_simp
  rw [after0_7]
  frame_out
  obtain ⟨r, d, rfl⟩ : ∃ (a : Fin 256) (b : Fin 2048), y = ix2 a b := ⟨y 0, y 1, by funext a; fin_cases a <;> rfl⟩
  have hr := r.isLt
  have he : ((cfg0.win 7).blk t).view.emb (ix2 r d) = ix2 (⟨256 * t.val + r.val, by omega⟩ : Fin 16384) d := by
    blk_ext [i7]
  refine Eq.trans ?_ (congrArg (G m c) he).symm
  refine (pay_at _ _ _ _ _ _ _ r d).trans ?_
  refine Rows.norm_congr (fun e => ?_) (fun e => g_at m c t e) (fun e => b_at m c t e) d
  refine Ideal.add_congr (Ideal.mul_congr rfl (x_at m c t r e _ rfl)) (Ideal.add_congr
    (Finset.sum_congr rfl fun j _ => Ideal.mul_congr (mix_at m c t r j _ rfl) ?_)
    (Finset.sum_congr rfl fun j _ => Ideal.mul_congr (mem_at m c t r j _ rfl) ?_))
  · exact (wa_at m c t j e).trans (upper_at _ j e)
  · exact (wb_at m c t j e).trans (lower_at _ j e)

end Cert.OutProjIdeal.Val

end
-- ==== Proof.OutProjRef.lean ====
/- The output projection's reference, read at an index: the layer norm of the residual plus the heads' products. -/
module

public import proofs.«01_k».proof.Proof.Gen.OutProjRefIdeal.Run
public import proofs.«01_k».proof.Proof.MlpRef
public import Idealize.ShloMosaic.Lib.Pointwise
public import Idealize.ShloMosaic.Lib.Pipeline.ValueKit

@[expose] public section

set_option maxRecDepth 16384

noncomputable section

namespace Cert.OutProjRefIdeal.Value

open Idealize.ShloMosaic Idealize.ShloMosaic.TcCoe Idealize.SL.Sem
open Cert.OutProjRefIdeal Cert.OutProjRefIdeal.Gen
open Cert.Rows (alpha heads norm)
open Cert.MlpRefIdeal.Value (normed normed_at centred means)

section Stages

variable (mix : FVec Ideal S16384x1536 .bf16) (mem : FVec Ideal S16384x512 .bf16) (w : FVec Ideal S2048x2048 .f32)
  (x : FVec Ideal S16384x2048 .f32) (g b : FVec Ideal S1x2048 .f32)

/-- The weighted rows plus the heads' products. -/
def sums : FVec Ideal S16384x2048 .f32 :=
  addf (mulf (broadcastInDim S16384x2048 ![] bcast_S_S16384x2048 (constant S_ .f32 0x3FD744FD#32)) x) (Host.dotGeneral dot_S16384x2048_S2048x2048_S16384x2048_1_0_0_1_n_n none (extf .f32 (concatenate S16384x2048 1 [⟨S16384x1536, mix⟩, ⟨S16384x512, mem⟩] concatenates_S16384x1536_S16384x512_S16384x2048_d1) bitsLt_bf16_f32) w)

/-- An entry of the weighted rows plus the heads' products. -/
theorem sums_at (r : Fin 16384) (d : Fin 2048) :
    sums mix mem w x (ix2 r d) = alpha * x (ix2 r d) + heads mix mem w r d := by
  pointwise [sums]
  rfl

/-- The reference's stages compose to the layer norm of the weighted rows plus the heads' products. -/
theorem stages_at (r : Fin 16384) (d : Fin 2048) : normed g b (sums mix mem w x) (ix2 r d)
    = norm (fun e => alpha * x (ix2 r e) + heads mix mem w r e) (fun e => g (ix2 0 e)) (fun e => b (ix2 0 e)) d := by
  rw [normed_at]
  simp only [sums_at]

end Stages

variable (m : (ℓ : Loc nD τ sig) → Buf (Elt Ideal) ℓ) (c : Dev nD)

/-- The reference's result is its stages, of the arguments. -/
theorem out_eq : res_out0 m c = normed (m ((c.tc : Thread nD τ).loc main_arg4)) (m ((c.tc : Thread nD τ).loc main_arg5))
    (sums (m ((c.tc : Thread nD τ).loc main_arg0)) (m ((c.tc : Thread nD τ).loc main_arg1))
      (m ((c.tc : Thread nD τ).loc main_arg2)) (m ((c.tc : Thread nD τ).loc main_arg3))) := by
  unfold res_out0 res_main_v27 normed centred means sums
  rfl

end Cert.OutProjRefIdeal.Value

end
-- ==== Proof.MemKvValue.lean ====
/- The memory's projection: the kernel's result array, block by block, as products of the arguments. -/
module

public import proofs.«01_k».proof.Proof.Gen.MemKvIdeal.Value
public import proofs.«01_k».proof.Proof.Rows
public import Idealize.ShloMosaic.Lib.Pointwise
public import Idealize.ShloMosaic.Lib.Pipeline.ValueKit

@[expose] public section

set_option maxRecDepth 16384

noncomputable section

namespace Cert.MemKvIdeal.Val

open Idealize.ShloMosaic Idealize.ShloMosaic.TcCoe Idealize.SL.Sem
open Idealize.ShloMosaic.Pipeline (Dat)
open Cert.MemKvIdeal Cert.MemKvIdeal.Gen
open Cert.Rows (prod)

/-- A stored block: its rows times its columns. -/
theorem pay_at (X : Vec Ideal S256x2048 .f32) (W : Vec Ideal S2048x512 .bf16) (r : Fin 256) (k : Fin 512) :
    k0_pay1 X W (ix2 r k) = ∑ j : Fin 2048, X (ix2 r j) * W (ix2 j k) := by
  pointwise [k0_pay1]

variable (m : (ℓ : Loc nD τ sig) → Buf (Elt Ideal) ℓ) (c : Dev nD)

/-- The blocks a grid point works on. -/
theorem idx : ∀ t : Fin cfg0.N,
    win0_0.index t = ![t.val / 2, 0] ∧ win0_1.index t = ![0, t.val % 2] ∧ win0_2.index t = ![t.val / 2, t.val % 2]
    ∧ t.val < 4 :=
  (by decide +kernel : ∀ t : Fin grid0.N, _)

/-- The weights the call is given are the argument's. -/
theorem V_w : (V m c main_v0 : S2048x1024.Idx → EReal) = m ((c.tc : Thread nD τ).loc main_arg1) := by
  simp only [V, hostOps0]
  after_results_simp
  rfl

/-- The weights' blocks. -/
theorem w_at (t : Fin cfg0.N) (j : Fin 2048) (k : Fin 512) (K : Fin 1024) (hK : K.val = 512 * (t.val % 2) + k.val) :
    iblk m c 1 t (ix2 j k) = (V m c main_v0 : S2048x1024.Idx → EReal) (ix2 j K) := by
  blk_ext [iblk, idx t]

/-- The rows' blocks. -/
theorem x_at (t : Fin cfg0.N) (r : Fin 256) (d : Fin 2048) (R : Fin 512) (hR : R.val = 256 * (t.val / 2) + r.val) :
    iblk m c 0 t (ix2 r d) = m ((c.tc : Thread nD τ).loc main_arg0) (ix2 R d) := by
  rw [← V_main_arg0 m c]
  blk_ext [iblk, idx t]

/-- The projections of the arguments, as one array. -/
def G : Vec Ideal S512x1024 .f32 := fun i =>
  prod (m ((c.tc : Thread nD τ).loc main_arg0) : Rows.Mat 512 2048) (m ((c.tc : Thread nD τ).loc main_arg1) : Rows.Mat 2048 1024) (i 0) (i 1)

/-- The kernel's result is that array. -/
theorem final : (dats m 0 c).arrAt 2 cfg0.N = G m c := by
  refine (dats m 0 c).arrAt_eq_of_covers 2 _ (by decide +kernel) fun t hf y => ?_
  obtain ⟨-, -, i2, hN⟩ := idx t
  blk_simp
  rw [after0_2]
  frame_out
  obtain ⟨r, k, rfl⟩ : ∃ (a : Fin 256) (b : Fin 512), y = ix2 a b := ⟨y 0, y 1, by funext a; fin_cases a <;> rfl⟩
  have hr := r.isLt
  have hk := k.isLt
  have he : ((cfg0.win 2).blk t).view.emb (ix2 r k)
      = ix2 (⟨256 * (t.val / 2) + r.val, by omega⟩ : Fin 512) (⟨512 * (t.val % 2) + k.val, by omega⟩ : Fin 1024) := by
    blk_ext [i2]
  refine Eq.trans ?_ (congrArg (G m c) he).symm
  refine (pay_at _ _ r k).trans ?_
  exact Finset.sum_congr rfl fun j _ => Ideal.mul_congr (x_at m c t r j _ rfl)
    ((w_at m c t j k _ rfl).trans (congrFun (V_w m c) _))

end Cert.MemKvIdeal.Val

end
-- ==== Proof.MemKvRef.lean ====
/- The reference of the memory's projection, read at an index. -/
module

public import proofs.«01_k».proof.Proof.Gen.MemKvRefIdeal.Run
public import proofs.«01_k».proof.Proof.Rows
public import Idealize.ShloMosaic.Lib.Pointwise
public import Idealize.ShloMosaic.Lib.Pipeline.ValueKit

@[expose] public section

set_option maxRecDepth 16384

noncomputable section

namespace Cert.MemKvRefIdeal.Value

open Idealize.ShloMosaic Idealize.ShloMosaic.TcCoe Idealize.SL.Sem
open Cert.MemKvRefIdeal Cert.MemKvRefIdeal.Gen
open Cert.Rows (prod)

/-- The memory's projections. -/
def product (x : FVec Ideal S512x2048 .f32) (w : FVec Ideal S2048x1024 .f32) : FVec Ideal S512x1024 .f32 :=
  Host.dotGeneral dot_S512x2048_S2048x1024_S512x1024_1_0_0_1_n_n none x w

/-- A projection of the memory. -/
theorem product_at (x : FVec Ideal S512x2048 .f32) (w : FVec Ideal S2048x1024 .f32) (r : Fin 512) (k : Fin 1024) :
    product x w (ix2 r k) = prod x w r k := by
  pointwise [product]
  rfl

end Cert.MemKvRefIdeal.Value

end
-- ==== Proof.Memory.lean ====
/- Attention over the memory's 256 keys: four heads of 128 columns each, their scores scaled. -/
module

public import proofs.«01_k».proof.Proof.Attention
public import Idealize.ShloMosaic.Lib.Pointwise

@[expose] public section

set_option maxRecDepth 16384

noncomputable section

namespace Cert.Memory

open Idealize.ShloMosaic Idealize.ShloMosaic.TcCoe Idealize.SL.Sem
open Cert.Attention (Arr IsReal)

/-- The scores' scale, `128 ^ (-1/2)` rounded to a single-precision word. -/
def scale : EReal := Ideal.ofBits .f32 0x3DB504F3#32

/-- The scale is a real number that is not negative. -/
theorem scale_eq : ∃ r : ℝ, 0 ≤ r ∧ scale = r := by
  refine ⟨_, ?_, by simp only [scale, Ideal.ofBits, Ideal.ieee]; rfl⟩
  rw [if_neg (by decide)]
  positivity

/-- The scale goes into a sum of products. -/
theorem sum_scale {n : ℕ} (f g : Fin n → EReal) : ∑ x, f x * scale * g x = (∑ x, f x * g x) * scale := by
  obtain ⟨r, hr, e⟩ := scale_eq
  rw [mul_comm, Softmax.mul_sum_of_nonneg _ _ (e ▸ EReal.coe_nonneg.mpr hr) (e ▸ EReal.coe_ne_top _)]
  refine Finset.sum_congr rfl fun x _ => ?_
  rw [mul_comm (f x), mul_assoc]

/-- The greatest of a row's scores. -/
theorem top_fin (s : ℕ → EReal) (n : ℕ) : Softmax.top s n = Finset.univ.fold max ⊥ fun i : Fin n => s i := by
  have := Softmax.top_add s 0 n
  simpa only [zero_add, Softmax.top_zero, max_bot_left] using this

/-- A row's denominator. -/
theorem den_fin (s : ℕ → EReal) (n : ℕ) : Softmax.den s n = ∑ k : Fin n, Ideal.exp (s k - Softmax.top s n) := by
  have := Softmax.den_add s 0 n
  simpa only [zero_add, Softmax.den_zero, mul_zero] using this

/-- A row's weighted sum. -/
theorem num_fin (s v : ℕ → EReal) (n : ℕ) : Softmax.num s v n = ∑ k : Fin n, Ideal.exp (s k - Softmax.top s n) * v k := by
  have := Softmax.num_add s v 0 n
  simpa only [zero_add, Softmax.num_zero, mul_zero] using this

variable (q : Arr 2 8192 1664) (kv : Arr 2 256 1024)

/-- The product of query `Q` and key `k` of head `h`; the queries are in columns 1024 to 1535. -/
def dot (b : Fin 2) (h : Fin 4) (Q : Fin 8192) (k : Fin 256) : EReal :=
  ∑ x : Fin 128, q (ix3 b Q ⟨1024 + (h.val * 128 + x.val), by omega⟩) * kv (ix3 b k ⟨h.val * 128 + x.val, by omega⟩)

/-- The scores of query `Q` of head `h`, by key. -/
def score (b : Fin 2) (h : Fin 4) (Q : Fin 8192) (k : ℕ) : EReal :=
  if hk : k < 256 then dot q kv b h Q ⟨k, hk⟩ * scale else ⊥

/-- Column `e` of the values, by key; the values are the last 512 columns. -/
def value (b : Fin 2) (e : Fin 512) (k : ℕ) : EReal := if hk : k < 256 then kv (ix3 b ⟨k, hk⟩ ⟨512 + e.val, by omega⟩) else 0

/-- Attention: the weighted sum of the values over the sum of the weights. -/
def attn (b : Fin 2) (Q : Fin 8192) (e : Fin 512) : EReal :=
  Ideal.div (Softmax.num (score q kv b ⟨e.val / 128, by omega⟩ Q) (value kv b e) 256)
    (Softmax.den (score q kv b ⟨e.val / 128, by omega⟩ Q) 256)

variable {q kv}

/-- With finite queries and keys every score is finite. -/
theorem score_real (hq : ∀ (b : Fin 2) (Q : Fin 8192) (d : Fin 512), IsReal (q (ix3 b Q ⟨1024 + d.val, by omega⟩)))
    (hk : ∀ (b : Fin 2) (k : Fin 256) (d : Fin 512), IsReal (kv (ix3 b k ⟨d.val, by omega⟩)))
    (b : Fin 2) (h : Fin 4) (Q : Fin 8192) (k : ℕ) (hlt : k < 256) : IsReal (score q kv b h Q k) := by
  obtain ⟨r, hr, e⟩ := scale_eq
  rw [score, dif_pos hlt]
  exact IsReal.mul (IsReal.sum _ _ fun x => (hq b Q ⟨h.val * 128 + x.val, by omega⟩).mul (hk b ⟨k, hlt⟩ ⟨h.val * 128 + x.val, by omega⟩))
    (e ▸ ⟨EReal.coe_ne_top _, EReal.coe_ne_bot _⟩)

/-- With finite queries and keys, attention is the values summed against the softmax of the scores. -/
theorem softmax_eq (hq : ∀ (b : Fin 2) (Q : Fin 8192) (d : Fin 512), IsReal (q (ix3 b Q ⟨1024 + d.val, by omega⟩)))
    (hk : ∀ (b : Fin 2) (k : Fin 256) (d : Fin 512), IsReal (kv (ix3 b k ⟨d.val, by omega⟩)))
    (b : Fin 2) (Q : Fin 8192) (e : Fin 512) :
    attn q kv b Q e = ∑ j : Fin 256, value kv b e j * Ideal.div
      (Ideal.exp (score q kv b ⟨e.val / 128, by omega⟩ Q j
        - Finset.univ.fold max ⊥ fun i : Fin 256 => score q kv b ⟨e.val / 128, by omega⟩ Q i))
      (∑ k : Fin 256, Ideal.exp (score q kv b ⟨e.val / 128, by omega⟩ Q k
        - Finset.univ.fold max ⊥ fun i : Fin 256 => score q kv b ⟨e.val / 128, by omega⟩ Q i)) := by
  rw [attn, Softmax.div_num _ _ (i := 0) (by omega) (score_real hq hk _ _ _ _ (by omega)).2
    fun j hj => (score_real hq hk _ _ _ _ hj).1, den_fin, top_fin]

/-- The head's weighted sum over its sum of weights, from a row's parts. -/
theorem attn_of (s v : Fin 256 → EReal) (b : Fin 2) (Q : Fin 8192) (e : Fin 512)
    (hs : ∀ k : Fin 256, s k = score q kv b ⟨e.val / 128, by omega⟩ Q k) (hv : ∀ k : Fin 256, v k = value kv b e k) :
    Ideal.div (∑ k, Ideal.exp (s k - Finset.univ.fold max ⊥ s) * v k) (∑ k, Ideal.exp (s k - Finset.univ.fold max ⊥ s))
      = attn q kv b Q e := by
  rw [attn, num_fin, den_fin, top_fin, funext hs, funext hv]

end Cert.Memory

end
-- ==== Proof.MemAttnValue.lean ====
/- The attention over the memory: the kernel's result array, block by block, as attention of the arguments. -/
module

public import proofs.«01_k».proof.Proof.Gen.MemAttnIdeal.Value
public import proofs.«01_k».proof.Proof.Memory
public import Idealize.ShloMosaic.Lib.Pointwise
public import Idealize.ShloMosaic.Lib.Pipeline.ValueKit

@[expose] public section

set_option maxRecDepth 16384

noncomputable section

namespace Cert.MemAttnIdeal.Val

open Idealize.ShloMosaic Idealize.ShloMosaic.TcCoe Idealize.SL.Sem
open Idealize.ShloMosaic.Pipeline (Dat)
open Cert.MemAttnIdeal Cert.MemAttnIdeal.Gen
open Cert.Memory (score value attn dot)
open Cert.Attention (Arr)

/-- The word of negative infinity denotes `-∞`. -/
theorem negInf : Ideal.ofBits .f32 0xFF800000#32 = ⊥ := by
  simp [Ideal.ofBits, Ideal.ieee]

/-- A head's stored block, from its queries, keys and values. -/
theorem head_at (q : Vec Ideal S1x512x128 .f32) (k v : Vec Ideal S1x256x128 .f32) (r : Fin 512) (e : Fin 128) :
    k0_pay2 q k v (ix3 0 r e)
      = Ideal.div (∑ j : Fin 256, Ideal.exp ((∑ x : Fin 128, q (ix3 0 r x) * Memory.scale * k (ix3 0 j x))
          - Finset.univ.fold max ⊥ fun j : Fin 256 => ∑ x : Fin 128, q (ix3 0 r x) * Memory.scale * k (ix3 0 j x)) * v (ix3 0 j e))
        (∑ j : Fin 256, Ideal.exp ((∑ x : Fin 128, q (ix3 0 r x) * Memory.scale * k (ix3 0 j x))
          - Finset.univ.fold max ⊥ fun j : Fin 256 => ∑ x : Fin 128, q (ix3 0 r x) * Memory.scale * k (ix3 0 j x))) := by
  rw [← negInf]
  pointwise [k0_pay2]
  rfl

/-- The second head's block is stored as the first's. -/
theorem second (q : Vec Ideal S1x512x128 .f32) (k v : Vec Ideal S1x256x128 .f32) :
    k0_pay4 (k0_pay3 q) k v = k0_pay2 q k v := rfl

/-- The third head's block is stored as the first's. -/
theorem third (q : Vec Ideal S1x512x128 .f32) (k v : Vec Ideal S1x256x128 .f32) :
    k0_pay7 (k0_pay5 v) (k0_pay6 q k) = k0_pay2 q k v := rfl

/-- The fourth head's block is stored as the first's. -/
theorem fourth (q : Vec Ideal S1x512x128 .f32) (k v : Vec Ideal S1x256x128 .f32) :
    k0_pay1 (k0_pay8 q k v) = k0_pay2 q k v := rfl

/-- A head's stored block is attention of the arrays its queries, keys and values are blocks of. -/
theorem head_eq (q : Vec Ideal S1x512x128 .f32) (k v : Vec Ideal S1x256x128 .f32) (A : Arr 2 8192 1664) (B : Arr 2 256 1024)
    (b : Fin 2) (Q : Fin 8192) (h : Fin 4) (r : Fin 512) (e : Fin 128)
    (hq : ∀ x : Fin 128, q (ix3 0 r x) = A (ix3 b Q ⟨1024 + (h.val * 128 + x.val), by omega⟩))
    (hk : ∀ (j : Fin 256) (x : Fin 128), k (ix3 0 j x) = B (ix3 b j ⟨h.val * 128 + x.val, by omega⟩))
    (hv : ∀ j : Fin 256, v (ix3 0 j e) = B (ix3 b j ⟨512 + (h.val * 128 + e.val), by omega⟩)) :
    k0_pay2 q k v (ix3 0 r e) = attn A B b Q ⟨h.val * 128 + e.val, by omega⟩ := by
  rw [head_at]
  refine Memory.attn_of (fun j => ∑ x : Fin 128, q (ix3 0 r x) * Memory.scale * k (ix3 0 j x)) (fun j => v (ix3 0 j e))
    b Q _ (fun j => ?_) fun j => ?_
  · have hh : (⟨(h.val * 128 + e.val) / 128, by omega⟩ : Fin 4) = h := Fin.ext (by simp only; omega)
    simp only [hh]
    rw [Memory.sum_scale, score, dif_pos j.isLt, dot]
    congr 1
    refine Finset.sum_congr rfl fun x _ => ?_
    rw [hq, hk]
  · rw [value, dif_pos j.isLt]
    exact hv j

variable (m : (ℓ : Loc nD τ sig) → Buf (Elt Ideal) ℓ) (c : Dev nD)

/-- The blocks a grid point works on. -/
theorem idx : ∀ t : Fin cfg0.N,
    win0_0.index t = ![t.val / 16, t.val % 16, 2] ∧ win0_1.index t = ![t.val / 16, 0, 0]
    ∧ win0_2.index t = ![t.val / 16, t.val % 16, 0] ∧ t.val < 32 :=
  (by decide +kernel : ∀ t : Fin grid0.N, _)

/-- The queries' blocks. -/
theorem q_at (t : Fin cfg0.N) (r : Fin 512) (d : Fin 512) (b : Fin 2) (Q : Fin 8192) (D : Fin 1664)
    (hb : b.val = t.val / 16) (hQ : Q.val = 512 * (t.val % 16) + r.val) (hD : D.val = 1024 + d.val) :
    X0_0 m c t (ix3 0 r d) = m ((c.tc : Thread nD τ).loc main_arg0) (ix3 b Q D) := by
  rw [← V_main_arg0 m c]
  unfold X0_0 Pipeline.Window.fill
  rw [dif_pos (moved0_0 t _)]
  blk_ext [iblk, idx t]

/-- The memory's blocks. -/
theorem kv_at (t : Fin cfg0.N) (j : Fin 256) (d : Fin 1024) (b : Fin 2) (hb : b.val = t.val / 16) :
    iblk m c 1 t (ix3 0 j d) = m ((c.tc : Thread nD τ).loc main_arg1) (ix3 b j d) := by
  rw [← V_main_arg1 m c]
  blk_ext [iblk, idx t]

/-- Attention of the arguments, as one array. -/
def G : Vec Ideal S2x8192x512 .bf16 := fun i =>
  attn (m ((c.tc : Thread nD τ).loc main_arg0)) (m ((c.tc : Thread nD τ).loc main_arg1)) (i 0) (i 1) (i 2)

/-- The kernel's result is that array. -/
theorem final : (dats m 0 c).arrAt 2 cfg0.N = G m c := by
  refine (dats m 0 c).arrAt_eq_of_covers 2 _ (by decide +kernel) fun t hf y => ?_
  obtain ⟨-, -, i2, hN⟩ := idx t
  blk_simp
  rw [after0_2]
  unfold outsAt0
  frame_out
  canon_tiles x h
  · obtain ⟨z, r, e, rfl⟩ : ∃ (z : Fin 1) (r : Fin 512) (e : Fin 128), x = ix3 z r e := ⟨x 0, x 1, x 2, by funext a; fin_cases a <;> rfl⟩
    obtain rfl : z = 0 := Subsingleton.elim _ _
    replace h1 : (y 1).val = r.val := h1
    replace h2 : (y 2).val = 384 + e.val := h2
    have hr := r.isLt
    have hx := e.isLt
    have he : ((View.whole main_v0).slice (win0_2.rect t)).emb y = ix3 (⟨t.val / 16, by omega⟩ : Fin 2)
        (⟨512 * (t.val % 16) + r.val, by omega⟩ : Fin 8192) (⟨(3 : Fin 4).val * 128 + e.val, by have : (3 : Fin 4).val = 3 := rfl; omega⟩ : Fin 512) := by
      blk_ext [i2]
    refine Eq.trans ?_ (congrArg (G m c) he).symm
    refine head_eq _ _ _ _ _ _ _ 3 r e (fun d => ?_) (fun j d => ?_) fun j => ?_
    · refine Eq.trans (b := X0_0 m c t (ix3 0 r (⟨384 + d.val, by omega⟩ : Fin 512))) (by pointwise) ?_
      exact q_at m c t r _ _ _ _ rfl rfl (by simp only [Fin.isValue]; rfl)
    · refine Eq.trans (b := iblk m c 1 t (ix3 0 j (⟨384 + d.val, by omega⟩ : Fin 1024))) (by pointwise) ?_
      exact kv_at m c t j _ ⟨t.val / 16, by omega⟩ rfl
    · refine Eq.trans (b := iblk m c 1 t (ix3 0 j (⟨896 + e.val, by omega⟩ : Fin 1024))) (by pointwise) ?_
      exact (kv_at m c t j _ ⟨t.val / 16, by omega⟩ rfl).trans (congrArg (fun d => m ((c.tc : Thread nD τ).loc main_arg1) (ix3 (⟨t.val / 16, by omega⟩ : Fin 2) j d)) (Fin.ext (by simp only [Fin.isValue, Fin.coe_ofNat_eq_mod]; omega)))
  · obtain ⟨z, r, e, rfl⟩ : ∃ (z : Fin 1) (r : Fin 512) (e : Fin 128), x = ix3 z r e := ⟨x 0, x 1, x 2, by funext a; fin_cases a <;> rfl⟩
    obtain rfl : z = 0 := Subsingleton.elim _ _
    replace h1 : (y 1).val = r.val := h1
    replace h2 : (y 2).val = 256 + e.val := h2
    have hr := r.isLt
    have hx := e.isLt
    have he : ((View.whole main_v0).slice (win0_2.rect t)).emb y = ix3 (⟨t.val / 16, by omega⟩ : Fin 2)
        (⟨512 * (t.val % 16) + r.val, by omega⟩ : Fin 8192) (⟨(2 : Fin 4).val * 128 + e.val, by have : (2 : Fin 4).val = 2 := rfl; omega⟩ : Fin 512) := by
      blk_ext [i2]
    refine Eq.trans ?_ (congrArg (G m c) he).symm
    refine head_eq _ _ _ _ _ _ _ 2 r e (fun d => ?_) (fun j d => ?_) fun j => ?_
    · refine Eq.trans (b := X0_0 m c t (ix3 0 r (⟨256 + d.val, by omega⟩ : Fin 512))) (by pointwise) ?_
      exact q_at m c t r _ _ _ _ rfl rfl (by simp only [Fin.isValue]; rfl)
    · refine Eq.trans (b := iblk m c 1 t (ix3 0 j (⟨256 + d.val, by omega⟩ : Fin 1024))) (by pointwise) ?_
      exact kv_at m c t j _ ⟨t.val / 16, by omega⟩ rfl
    · refine Eq.trans (b := iblk m c 1 t (ix3 0 j (⟨768 + e.val, by omega⟩ : Fin 1024))) (by pointwise) ?_
      exact (kv_at m c t j _ ⟨t.val / 16, by omega⟩ rfl).trans (congrArg (fun d => m ((c.tc : Thread nD τ).loc main_arg1) (ix3 (⟨t.val / 16, by omega⟩ : Fin 2) j d)) (Fin.ext (by simp only [Fin.isValue, Fin.coe_ofNat_eq_mod]; omega)))
  · obtain ⟨z, r, e, rfl⟩ : ∃ (z : Fin 1) (r : Fin 512) (e : Fin 128), x = ix3 z r e := ⟨x 0, x 1, x 2, by funext a; fin_cases a <;> rfl⟩
    obtain rfl : z = 0 := Subsingleton.elim _ _
    replace h1 : (y 1).val = r.val := h1
    replace h2 : (y 2).val = 128 + e.val := h2
    have hr := r.isLt
    have hx := e.isLt
    have he : ((View.whole main_v0).slice (win0_2.rect t)).emb y = ix3 (⟨t.val / 16, by omega⟩ : Fin 2)
        (⟨512 * (t.val % 16) + r.val, by omega⟩ : Fin 8192) (⟨(1 : Fin 4).val * 128 + e.val, by have : (1 : Fin 4).val = 1 := rfl; omega⟩ : Fin 512) := by
      blk_ext [i2]
    refine Eq.trans ?_ (congrArg (G m c) he).symm
    refine head_eq _ _ _ _ _ _ _ 1 r e (fun d => ?_) (fun j d => ?_) fun j => ?_
    · refine Eq.trans (b := X0_0 m c t (ix3 0 r (⟨128 + d.val, by omega⟩ : Fin 512))) (by pointwise) ?_
      exact q_at m c t r _ _ _ _ rfl rfl (by simp only [Fin.isValue]; rfl)
    · refine Eq.trans (b := iblk m c 1 t (ix3 0 j (⟨128 + d.val, by omega⟩ : Fin 1024))) (by pointwise) ?_
      exact kv_at m c t j _ ⟨t.val / 16, by omega⟩ rfl
    · refine Eq.trans (b := iblk m c 1 t (ix3 0 j (⟨640 + e.val, by omega⟩ : Fin 1024))) (by pointwise) ?_
      exact (kv_at m c t j _ ⟨t.val / 16, by omega⟩ rfl).trans (congrArg (fun d => m ((c.tc : Thread nD τ).loc main_arg1) (ix3 (⟨t.val / 16, by omega⟩ : Fin 2) j d)) (Fin.ext (by simp only [Fin.isValue, Fin.coe_ofNat_eq_mod]; omega)))
  · obtain ⟨z, r, e, rfl⟩ : ∃ (z : Fin 1) (r : Fin 512) (e : Fin 128), x = ix3 z r e := ⟨x 0, x 1, x 2, by funext a; fin_cases a <;> rfl⟩
    obtain rfl : z = 0 := Subsingleton.elim _ _
    replace h1 : (y 1).val = r.val := h1
    replace h2 : (y 2).val = 0 + e.val := h2.trans (Nat.zero_add _).symm
    have hr := r.isLt
    have hx := e.isLt
    have he : ((View.whole main_v0).slice (win0_2.rect t)).emb y = ix3 (⟨t.val / 16, by omega⟩ : Fin 2)
        (⟨512 * (t.val % 16) + r.val, by omega⟩ : Fin 8192) (⟨(0 : Fin 4).val * 128 + e.val, by have : (0 : Fin 4).val = 0 := rfl; omega⟩ : Fin 512) := by
      blk_ext [i2]
    refine Eq.trans ?_ (congrArg (G m c) he).symm
    refine head_eq _ _ _ _ _ _ _ 0 r e (fun d => ?_) (fun j d => ?_) fun j => ?_
    · refine Eq.trans (b := X0_0 m c t (ix3 0 r (⟨0 + d.val, by omega⟩ : Fin 512))) (by pointwise) ?_
      exact q_at m c t r _ _ _ _ rfl rfl (by simp only [Fin.isValue]; rfl)
    · refine Eq.trans (b := iblk m c 1 t (ix3 0 j (⟨0 + d.val, by omega⟩ : Fin 1024))) (by pointwise) ?_
      exact kv_at m c t j _ ⟨t.val / 16, by omega⟩ rfl
    · refine Eq.trans (b := iblk m c 1 t (ix3 0 j (⟨512 + e.val, by omega⟩ : Fin 1024))) (by pointwise) ?_
      exact (kv_at m c t j _ ⟨t.val / 16, by omega⟩ rfl).trans (congrArg (fun d => m ((c.tc : Thread nD τ).loc main_arg1) (ix3 (⟨t.val / 16, by omega⟩ : Fin 2) j d)) (Fin.ext (by simp only [Fin.isValue, Fin.coe_ofNat_eq_mod]; omega)))

end Cert.MemAttnIdeal.Val

end
-- ==== Proof.MemAttnRef.lean ====
/- The reference's result array, read at an index: softmax of the scores times the values. -/
module

public import proofs.«01_k».proof.Proof.Gen.MemAttnRefIdeal.Run
public import Idealize.ShloMosaic.Lib.Pointwise
public import Idealize.ShloMosaic.Lib.Pipeline.ValueKit
public import proofs.«01_k».proof.Proof.Memory

@[expose] public section

set_option maxRecDepth 16384

noncomputable section

namespace Cert.MemAttnRefIdeal.Value

open Idealize.ShloMosaic Idealize.ShloMosaic.TcCoe Idealize.SL.Sem
open Cert.MemAttnRefIdeal Cert.MemAttnRefIdeal.Gen

/-- The word of negative infinity denotes `-∞`. -/
theorem negInf : Ideal.ofBits .f32 0xFF800000#32 = ⊥ := by
  simp [Ideal.ofBits, Ideal.ieee]

section Stages

variable (h : FVec Ideal S2x8192x1664 .f32) (kv : FVec Ideal S2x256x1024 .f32)

/-- The reference's scores. -/
def scores : FVec Ideal S2x4x8192x256 .f32 :=
  mulf (Host.dotGeneral dot_S2x8192x4x128_S2x256x4x128_S2x4x8192x256_3_3_1_1_02_02 none (shapeCast _ (extractStridedSlice S2x8192x512 ![0, 0, 1024] h slices_S2x8192x1664_S2x8192x512_0_0_1024) shapeCasts_S2x8192x512_S2x8192x4x128) (shapeCast _ (extractStridedSlice S2x256x512 ![0, 0, 0] kv slices_S2x256x1024_S2x256x512_0_0_0) shapeCasts_S2x256x512_S2x256x4x128))
    (broadcastInDim S2x4x8192x256 ![] bcast_S_S2x4x8192x256 (constant S_ .f32 0x3DB504F3#32))

/-- A score of the reference is the score. -/
theorem scores_at (b : Fin 2) (g : Fin 4) (Q : Fin 8192) (k : Fin 256) :
    scores h kv (ix4 b g Q k) = Memory.score h kv b g Q k := by
  rw [Memory.score, dif_pos k.isLt, Memory.dot, Memory.scale]
  pointwise [scores]

variable (s : FVec Ideal S2x4x8192x256 .f32)

/-- The rows' maxima. -/
def maxima : FVec Ideal S2x4x8192 .f32 :=
  maximumf (broadcastInDim S2x4x8192 ![] bcast_S_S2x4x8192 (constant S_ .f32 0xFF800000#32)) (Host.reduce FloatOps.maximumf s (constant S_ .f32 0xFF800000#32) reducesTo_S2x4x8192x256_S2x4x8192_d3 h_S_)

/-- A maximum along the keys, before the constant's. -/
theorem reduce_at (b : Fin 2) (g : Fin 4) (Q : Fin 8192) :
    Host.reduce FloatOps.maximumf s (constant S_ .f32 0xFF800000#32) reducesTo_S2x4x8192x256_S2x4x8192_d3 h_S_ (ix3 b g Q)
      = Finset.univ.fold max (Ideal.ofBits FTy.f32 0xFF800000#32) fun k : Fin 256 => s (ix4 b g Q k) := by
  pointwise

/-- The larger of two arrays' entries. -/
theorem max_at (x y : FVec Ideal S2x4x8192 .f32) (i : S2x4x8192.Idx) : maximumf x y i = max (x i) (y i) := rfl

/-- The constant's entries. -/
theorem const_at (i : S2x4x8192.Idx) :
    broadcastInDim S2x4x8192 ![] bcast_S_S2x4x8192 (constant (F := Ideal) S_ .f32 0xFF800000#32) i = ⊥ := negInf

/-- A row's maximum. -/
theorem maxima_at (b : Fin 2) (g : Fin 4) (Q : Fin 8192) :
    maxima s (ix3 b g Q) = Finset.univ.fold max ⊥ fun k : Fin 256 => s (ix4 b g Q k) := by
  unfold maxima
  rw [max_at, reduce_at, const_at, negInf, max_bot_left]

/-- The exponentials of the scores less their row's maximum. -/
def weights : FVec Ideal S2x4x8192x256 .f32 :=
  Host.exp (subf s (broadcastInDim S2x4x8192x256 ![0, 1, 2, 3] bcast_S2x4x8192x1_S2x4x8192x256_0_1_2_3 (broadcastInDim S2x4x8192x1 ![0, 1, 2] bcast_S2x4x8192_S2x4x8192x1_0_1_2 (maxima s))))

/-- A weight. -/
theorem weights_at (b : Fin 2) (g : Fin 4) (Q : Fin 8192) (k : Fin 256) : weights s (ix4 b g Q k)
    = Ideal.exp (s (ix4 b g Q k) - Finset.univ.fold max ⊥ fun k : Fin 256 => s (ix4 b g Q k)) := by
  rw [← maxima_at]
  pointwise [weights]

/-- The weights' sums. -/
def sums : FVec Ideal S2x4x8192 .f32 :=
  Host.reduceAdd (weights s) (constant S_ .f32 0x00000000#32) reducesTo_S2x4x8192x256_S2x4x8192_d3 h_S_

/-- A row's sum. -/
theorem sums_at (b : Fin 2) (g : Fin 4) (Q : Fin 8192) :
    sums s (ix3 b g Q) = ∑ k : Fin 256, weights s (ix4 b g Q k) := by
  pointwise [sums]

/-- The values summed against the softmax of the scores. -/
def mixed : FVec Ideal S2x8192x512 .bf16 :=
  truncf .bf16 (shapeCast _ (transpose S2x8192x4x128 [0, 3, 1, 2] (Host.dotGeneral dot_S2x256x4x128_S2x4x8192x256_S2x4x128x8192_1_3_3_2_02_01 none (shapeCast _ (extractStridedSlice S2x256x512 ![0, 0, 512] kv slices_S2x256x1024_S2x256x512_0_0_512) shapeCasts_S2x256x512_S2x256x4x128)
    (Host.divf (weights s) (broadcastInDim S2x4x8192x256 ![0, 1, 2, 3] bcast_S2x4x8192x1_S2x4x8192x256_0_1_2_3 (broadcastInDim S2x4x8192x1 ![0, 1, 2] bcast_S2x4x8192_S2x4x8192x1_0_1_2 (sums s))))) transposes_S2x4x128x8192_S2x8192x4x128_0_3_1_2) shapeCasts_S2x8192x4x128_S2x8192x512) bitsLt_bf16_f32

/-- An entry of the values summed against the softmax. -/
theorem mixed_at (b : Fin 2) (Q : Fin 8192) (e : Fin 512) : mixed kv s (ix3 b Q e)
    = ∑ k : Fin 256, kv (ix3 b k ⟨512 + e.val, by omega⟩) * Ideal.div (weights s (ix4 b ⟨e.val / 128, by omega⟩ Q k))
        (sums s (ix3 b ⟨e.val / 128, by omega⟩ Q)) := by
  pointwise [mixed]

open Attention in
/-- With finite queries and keys, the reference's stages compose to attention. -/
theorem mixed_eq (hq : ∀ (b : Fin 2) (Q : Fin 8192) (d : Fin 512), IsReal (h (ix3 b Q ⟨1024 + d.val, by omega⟩)))
    (hk : ∀ (b : Fin 2) (k : Fin 256) (d : Fin 512), IsReal (kv (ix3 b k ⟨d.val, by omega⟩)))
    (b : Fin 2) (Q : Fin 8192) (e : Fin 512) : mixed kv (scores h kv) (ix3 b Q e) = Memory.attn h kv b Q e := by
  rw [Memory.softmax_eq hq hk b Q e, mixed_at]
  refine Finset.sum_congr rfl fun j _ => ?_
  rw [Memory.value, dif_pos j.isLt, sums_at]
  simp only [weights_at, scores_at]

end Stages

end Cert.MemAttnRefIdeal.Value

end
-- ==== Proof.FiniteMemory.lean ====
/- The precondition `finite_memory`, read: every memory query and every key of the memory is neither infinity. -/
module

public import proofs.«01_k».proof.Proof.Gen.Pre_finite_memory
public import proofs.«01_k».proof.Proof.Finite

@[expose] public section

set_option maxRecDepth 16384

noncomputable section

namespace Cert.Pre_finite_memory.Val

open Idealize.ShloMosaic Idealize.ShloMosaic.TcCoe Idealize.SL.Sem
open Cert.Pre_finite_memory Cert.Pre_finite_memory.Gen
open Cert.Attention (IsReal)
open Cert.Pre_finite_scores.Val (real_of)

variable {q : FVec Ideal S2x8192x1664 .f32} {kv : FVec Ideal S2x256x1024 .f32}

/-- A word telling a magnitude below infinity. -/
def below (x : Ideal .f32) : BitVec 1 :=
  BitVec.ofBool (decide (FloatOps.absf (F := Ideal) (φ := .f32) x < Ideal.ofBits .f32 0x7F800000#32))

/-- The queries' words. -/
def qs (q : FVec Ideal S2x8192x1664 .f32) : IVec S2x8192x512 1 :=
  cmpf .olt (Host.absf (extractStridedSlice S2x8192x512 ![0, 0, 1024] q slices_S2x8192x1664_S2x8192x512_0_0_1024 : FVec Ideal S2x8192x512 .f32))
    (broadcastInDim S2x8192x512 ![] bcast_S_S2x8192x512 (constant (F := Ideal) S_ .f32 0x7F800000#32))

/-- A query's word. -/
theorem qs_at (b : Fin 2) (Q : Fin 8192) (d : Fin 512) : qs q (ix3 b Q d) = below (q (ix3 b Q ⟨1024 + d.val, by omega⟩)) := by
  pointwise [qs]
  rfl

/-- The keys' words. -/
def ks (kv : FVec Ideal S2x256x1024 .f32) : IVec S2x256x512 1 :=
  cmpf .olt (Host.absf (extractStridedSlice S2x256x512 ![0, 0, 0] kv slices_S2x256x1024_S2x256x512_0_0_0 : FVec Ideal S2x256x512 .f32))
    (broadcastInDim S2x256x512 ![] bcast_S_S2x256x512 (constant (F := Ideal) S_ .f32 0x7F800000#32))

/-- A key's word. -/
theorem ks_at (b : Fin 2) (k : Fin 256) (d : Fin 512) : ks kv (ix3 b k d) = below (kv (ix3 b k ⟨d.val, by omega⟩)) := by
  pointwise [ks]
  rfl

/-- The queries' words laid flat. -/
theorem qflat_at (x : IVec S2x8192x512 1) (n : Fin 8388608) : shapeCast S8388608 x shapeCasts_S2x8192x512_S8388608 (ix1 n)
    = x (ix3 ⟨n.val / 4194304, by omega⟩ ⟨n.val / 512 % 8192, by omega⟩ ⟨n.val % 512, by omega⟩) := by
  pointwise

/-- The keys' words laid flat. -/
theorem kflat_at (x : IVec S2x256x512 1) (n : Fin 262144) : shapeCast S262144 x shapeCasts_S2x256x512_S262144 (ix1 n)
    = x (ix3 ⟨n.val / 131072, by omega⟩ ⟨n.val / 512 % 256, by omega⟩ ⟨n.val % 512, by omega⟩) := by
  pointwise

/-- The words one after the other. -/
theorem both_at (x : IVec S8388608 1) (y : IVec S262144 1) (n : Fin 8650752) :
    concatenate S8650752 0 [⟨S8388608, x⟩, ⟨S262144, y⟩] concatenates_S8388608_S262144_S8650752_d0 (ix1 n)
      = if h : n.val < 8388608 then x (ix1 ⟨n.val, h⟩) else y (ix1 ⟨n.val - 8388608, by omega⟩) := by
  pointwise

/-- The precondition's word at a flat position. -/
theorem fn_at (n : Fin 8650752) : fn (F := Ideal) q kv (ix1 n) = if h : n.val < 8388608
    then qs q (ix3 ⟨n.val / 4194304, by omega⟩ ⟨n.val / 512 % 8192, by omega⟩ ⟨n.val % 512, by omega⟩)
    else ks kv (ix3 ⟨(n.val - 8388608) / 131072, by omega⟩ ⟨(n.val - 8388608) / 512 % 256, by omega⟩
      ⟨(n.val - 8388608) % 512, by omega⟩) := by
  refine (both_at (shapeCast S8388608 (qs q) shapeCasts_S2x8192x512_S8388608)
    (shapeCast S262144 (ks kv) shapeCasts_S2x256x512_S262144) n).trans ?_
  by_cases h : n.val < 8388608
  · rw [dif_pos h, dif_pos h, qflat_at]
  · rw [dif_neg h, dif_neg h, kflat_at]

/-- The queries' flat positions come first. -/
theorem q_real (n : Fin 8650752) (h : n.val < 8388608) (e : fn (F := Ideal) q kv (ix1 n) = 1#1) :
    IsReal (q (ix3 ⟨n.val / 4194304, by omega⟩ ⟨n.val / 512 % 8192, by omega⟩ ⟨1024 + n.val % 512, by omega⟩)) := by
  rw [fn_at, dif_pos h, qs_at] at e
  exact real_of e

/-- The keys' flat positions come next. -/
theorem k_real (n : Fin 8650752) (h : ¬n.val < 8388608) (e : fn (F := Ideal) q kv (ix1 n) = 1#1) :
    IsReal (kv (ix3 ⟨(n.val - 8388608) / 131072, by omega⟩ ⟨(n.val - 8388608) / 512 % 256, by omega⟩
      ⟨(n.val - 8388608) % 512, by omega⟩)) := by
  rw [fn_at, dif_neg h, ks_at] at e
  exact real_of e

/-- Where the precondition holds, the memory queries and the memory's keys are real. -/
theorem reals (h : fn (F := Ideal) q kv = fun _ => 1#1) :
    (∀ (b : Fin 2) (Q : Fin 8192) (d : Fin 512), IsReal (q (ix3 b Q ⟨1024 + d.val, by omega⟩)))
    ∧ ∀ (b : Fin 2) (k : Fin 256) (d : Fin 512), IsReal (kv (ix3 b k ⟨d.val, by omega⟩)) := by
  refine ⟨fun b Q d => ?_, fun b k d => ?_⟩
  · have e := q_real (⟨(b.val * 8192 + Q.val) * 512 + d.val, by omega⟩ : Fin 8650752) (by simp only; omega) (congrFun h _)
    convert e using 4
    all_goals simp only; omega
  · have e := k_real (⟨8388608 + ((b.val * 256 + k.val) * 512 + d.val), by omega⟩ : Fin 8650752) (by simp only; omega)
      (congrFun h _)
    convert e using 4
    all_goals simp only; omega

end Cert.Pre_finite_memory.Val

end
-- ==== Proof.Latent.lean ====
/- Sums and rotations of real values: the algebra of the rotary parts and of the root-mean-square norm. -/
module

public import proofs.«01_k».proof.Proof.Attention
public import proofs.«01_k».proof.Proof.Rows
public import Idealize.ShloMosaic.Lib.Pointwise

@[expose] public section

set_option maxRecDepth 16384

noncomputable section

namespace Cert.Latent

open Idealize.ShloMosaic Idealize.ShloMosaic.TcCoe Idealize.SL.Sem
open Cert.Attention (IsReal)
open Cert.Rows (Mat prod)

/-- The negative of a real value is real. -/
theorem real_neg {x : EReal} (h : IsReal x) : IsReal (-x) := by
  lift x to ℝ using h
  rw [← EReal.coe_neg]
  exact ⟨EReal.coe_ne_top _, EReal.coe_ne_bot _⟩

/-- A difference of real values is the sum with the negative. -/
theorem neg_add_real {x y : EReal} (hx : IsReal x) (hy : IsReal y) : -(x + y) = -x + -y := by
  lift x to ℝ using hx
  lift y to ℝ using hy
  norm_cast
  ring

/-- Negative factors come out of a sum of real products. -/
theorem sum_mul_neg {ι : Type} (s : Finset ι) (f g : ι → EReal) (hf : ∀ i, IsReal (f i)) (hg : ∀ i, IsReal (g i)) :
    ∑ i ∈ s, f i * -(g i) = -∑ i ∈ s, f i * g i := by
  classical
  induction s using Finset.induction_on with
  | empty => simp
  | insert a s ha ih =>
    rw [Finset.sum_insert ha, Finset.sum_insert ha, ih, mul_neg,
      neg_add_real ((hf a).mul (hg a)) (IsReal.sum _ _ fun i => (hf i).mul (hg i))]

/-- The latent layers' projections: latents, memory queries, the rotary key, and that key rotated by a half. -/
def laid (x : Mat 16384 2048) (w : Mat 2048 1600) (r : Fin 16384) (k : Fin 1664) : EReal :=
  if _h : k.val < 1024 then prod x w r ⟨k.val, by omega⟩
  else if _h : k.val - 1024 < 512 then prod x w r ⟨1088 + (k.val - 1024), by omega⟩
  else if _h : k.val - 1024 - 512 < 64 then prod x w r ⟨1024 + (k.val - 1024 - 512), by omega⟩
  else if _h : k.val - 1024 - 512 - 64 < 32 then -prod x w r ⟨1056 + (k.val - 1024 - 512 - 64), by omega⟩
  else prod x w r ⟨1024 + (k.val - 1024 - 512 - 64 - 32), by omega⟩

end Cert.Latent

end
-- ==== Proof.MlaInValue.lean ====
/- The latent layers' input projection: the kernel's result array, block by block, as products of the arguments. -/
module

public import proofs.«01_k».proof.Proof.Gen.MlaInIdeal.Value
public import proofs.«01_k».proof.Proof.Latent
public import Idealize.ShloMosaic.Lib.Pointwise
public import Idealize.ShloMosaic.Lib.Pipeline.ValueKit

@[expose] public section

set_option maxRecDepth 16384

noncomputable section

namespace Cert.MlaInIdeal.Val

open Idealize.ShloMosaic Idealize.ShloMosaic.TcCoe Idealize.SL.Sem
open Idealize.ShloMosaic.Pipeline (Dat)
open Cert.MlaInIdeal Cert.MlaInIdeal.Gen
open Cert.Latent (laid)
open Cert.Rows (prod)
open Cert.Attention (IsReal)

/-- A stored block: its rows times its columns. -/
theorem pay_at (X : Vec Ideal S512x2048 .f32) (W : Vec Ideal S2048x1664 .bf16) (r : Fin 512) (k : Fin 1664) :
    k0_pay1 X W (ix2 r k) = ∑ j : Fin 2048, X (ix2 r j) * W (ix2 j k) := by
  pointwise [k0_pay1]

/-- The rotary key's weights. -/
def rot (w : FVec Ideal S2048x1600 .f32) : FVec Ideal S2048x64 .f32 :=
  extractStridedSlice S2048x64 ![0, 1024] w slices_S2048x1600_S2048x64_0_1024

/-- The weights of the rotary key turned by a half. -/
def turned (w : FVec Ideal S2048x64 .f32) : FVec Ideal S2048x64 .f32 :=
  concatenate S2048x64 1 [⟨S2048x32, (Host.negf (extractStridedSlice S2048x32 ![0, 32] w slices_S2048x64_S2048x32_0_32) : FVec Ideal S2048x32 .f32)⟩, ⟨S2048x32, (extractStridedSlice S2048x32 ![0, 0] w slices_S2048x64_S2048x32_0_0 : FVec Ideal S2048x32 .f32)⟩] concatenates_S2048x32_S2048x32_S2048x64_d1

/-- The weights as the kernel lays them out. -/
def packed (w : FVec Ideal S2048x1600 .f32) : FVec Ideal S2048x1664 .bf16 :=
  truncf .bf16 (concatenate S2048x1664 1 [⟨S2048x1024, (extractStridedSlice S2048x1024 ![0, 0] w slices_S2048x1600_S2048x1024_0_0 : FVec Ideal S2048x1024 .f32)⟩, ⟨S2048x512, (extractStridedSlice S2048x512 ![0, 1088] w slices_S2048x1600_S2048x512_0_1088 : FVec Ideal S2048x512 .f32)⟩, ⟨S2048x64, rot w⟩, ⟨S2048x64, turned (rot w)⟩] concatenates_S2048x1024_S2048x512_S2048x64_S2048x64_S2048x1664_d1) bitsLt_bf16_f32

/-- A weight of the laid-out weights. -/
theorem packed_at (w : FVec Ideal S2048x1600 .f32) (j : Fin 2048) (k : Fin 1664) : packed w (ix2 j k)
    = if _h : k.val < 1024 then w (ix2 j ⟨k.val, by omega⟩)
      else if _h : k.val - 1024 < 512 then w (ix2 j ⟨1088 + (k.val - 1024), by omega⟩)
      else if _h : k.val - 1024 - 512 < 64 then w (ix2 j ⟨1024 + (k.val - 1024 - 512), by omega⟩)
      else if _h : k.val - 1024 - 512 - 64 < 32 then -w (ix2 j ⟨1056 + (k.val - 1024 - 512 - 64), by omega⟩)
      else w (ix2 j ⟨1024 + (k.val - 1024 - 512 - 64 - 32), by omega⟩) := by
  pointwise [packed, turned, rot]
  split_ifs
  all_goals first
    | omega
    | rfl
    | exact congrArg w (congrArg (ix2 j) (Fin.ext (by first | omega | (simp only; omega))))
    | exact congrArg (fun z => -w (ix2 j z)) (Fin.ext (by first | omega | (simp only; omega)))

/-- A row times a column of the laid-out weights, all of them real. -/
theorem prod_packed (x : FVec Ideal S16384x2048 .f32) (w : FVec Ideal S2048x1600 .f32) (hx : ∀ i, IsReal (x i))
    (hw : ∀ i, IsReal (w i)) (r : Fin 16384) (k : Fin 1664) :
    ∑ j : Fin 2048, x (ix2 r j) * packed w (ix2 j k) = laid x w r k := by
  simp only [packed_at, laid, prod]
  split_ifs
  all_goals first | rfl | exact Cert.Latent.sum_mul_neg _ _ _ (fun _ => hx _) fun _ => hw _

variable (m : (ℓ : Loc nD τ sig) → Buf (Elt Ideal) ℓ) (c : Dev nD)

/-- The blocks a grid point works on. -/
theorem idx : ∀ t : Fin cfg0.N,
    win0_0.index t = ![t.val, 0] ∧ win0_1.index t = ![0, 0] ∧ win0_2.index t = ![t.val, 0] ∧ t.val < 32 :=
  (by decide +kernel : ∀ t : Fin grid0.N, _)

/-- The weights the call is given are the laid-out weights. -/
theorem V_packed : V m c main_v10 = packed (m ((c.tc : Thread nD τ).loc main_arg1)) := by
  simp only [V, hostOps0]
  after_results_simp
  rfl

/-- The weights' block is all of them. -/
theorem w_at (t : Fin cfg0.N) (j : Fin 2048) (k : Fin 1664) :
    iblk m c 1 t (ix2 j k) = packed (m ((c.tc : Thread nD τ).loc main_arg1)) (ix2 j k) := by
  rw [← V_packed]
  blk_ext [iblk, idx t]

/-- The rows' blocks. -/
theorem x_at (t : Fin cfg0.N) (r : Fin 512) (d : Fin 2048) (R : Fin 16384) (hR : R.val = 512 * t.val + r.val) :
    iblk m c 0 t (ix2 r d) = m ((c.tc : Thread nD τ).loc main_arg0) (ix2 R d) := by
  rw [← V_main_arg0 m c]
  blk_ext [iblk, idx t]

/-- The projections of the arguments, as one array. -/
def G : Vec Ideal S16384x1664 .f32 := fun i =>
  laid (m ((c.tc : Thread nD τ).loc main_arg0)) (m ((c.tc : Thread nD τ).loc main_arg1)) (i 0) (i 1)

/-- With real rows and weights the kernel's result is that array. -/
theorem final (hx : ∀ i, IsReal (m ((c.tc : Thread nD τ).loc main_arg0) i))
    (hw : ∀ i, IsReal (m ((c.tc : Thread nD τ).loc main_arg1) i)) : (dats m 0 c).arrAt 2 cfg0.N = G m c := by
  refine (dats m 0 c).arrAt_eq_of_covers 2 _ (by decide +kernel) fun t hf y => ?_
  obtain ⟨-, -, i2, hN⟩ := idx t
  blk_simp
  rw [after0_2]
  frame_out
  obtain ⟨r, k, rfl⟩ : ∃ (a : Fin 512) (b : Fin 1664), y = ix2 a b := ⟨y 0, y 1, by funext a; fin_cases a <;> rfl⟩
  have hr := r.isLt
  have he : ((cfg0.win 2).blk t).view.emb (ix2 r k) = ix2 (⟨512 * t.val + r.val, by omega⟩ : Fin 16384) k := by
    blk_ext [i2]
  refine Eq.trans ?_ (congrArg (G m c) he).symm
  refine (pay_at _ _ r k).trans (Eq.trans ?_ (prod_packed _ _ hx hw _ _))
  exact Finset.sum_congr rfl fun j _ => Ideal.mul_congr (x_at m c t r j _ rfl) (w_at m c t j k)

end Cert.MlaInIdeal.Val

end
-- ==== Proof.MlaInRef.lean ====
/- The reference of the latent layers' input projection, read at an index. -/
module

public import proofs.«01_k».proof.Proof.Gen.MlaInRefIdeal.Run
public import proofs.«01_k».proof.Proof.Latent
public import Idealize.ShloMosaic.Lib.Pointwise
public import Idealize.ShloMosaic.Lib.Pipeline.ValueKit

@[expose] public section

set_option maxRecDepth 16384

noncomputable section

namespace Cert.MlaInRefIdeal.Value

open Idealize.ShloMosaic Idealize.ShloMosaic.TcCoe Idealize.SL.Sem
open Cert.MlaInRefIdeal Cert.MlaInRefIdeal.Gen
open Cert.Rows (prod)

variable (x : FVec Ideal S16384x2048 .f32) (w : FVec Ideal S2048x1600 .f32)

/-- All the projections. -/
def product : FVec Ideal S16384x1600 .f32 :=
  Host.dotGeneral dot_S16384x2048_S2048x1600_S16384x1600_1_0_0_1_n_n none x w

/-- A projection. -/
theorem product_at (r : Fin 16384) (k : Fin 1600) : product x w (ix2 r k) = prod x w r k := by
  pointwise [product]
  rfl

/-- The rotary key. -/
def key (h : FVec Ideal S16384x1600 .f32) : FVec Ideal S16384x64 .f32 :=
  extractStridedSlice S16384x64 ![0, 1024] h slices_S16384x1600_S16384x64_0_1024

/-- The projections in the call's order, and the rotary key turned by a half. -/
def laid (h : FVec Ideal S16384x1600 .f32) : FVec Ideal S16384x1664 .f32 :=
  (concatenate S16384x1664 1 [⟨S16384x1024, ((extractStridedSlice S16384x1024 ![0, 0] h slices_S16384x1600_S16384x1024_0_0) : FVec Ideal S16384x1024 .f32)⟩, ⟨S16384x512, ((extractStridedSlice S16384x512 ![0, 1088] h slices_S16384x1600_S16384x512_0_1088) : FVec Ideal S16384x512 .f32)⟩, ⟨S16384x32, ((extractStridedSlice S16384x32 ![0, 0] (key h) slices_S16384x64_S16384x32_0_0) : FVec Ideal S16384x32 .f32)⟩, ⟨S16384x32, ((extractStridedSlice S16384x32 ![0, 32] (key h) slices_S16384x64_S16384x32_0_32) : FVec Ideal S16384x32 .f32)⟩, ⟨S16384x32, ((Host.negf (extractStridedSlice S16384x32 ![0, 32] (key h) slices_S16384x64_S16384x32_0_32)) : FVec Ideal S16384x32 .f32)⟩, ⟨S16384x32, ((extractStridedSlice S16384x32 ![0, 0] (key h) slices_S16384x64_S16384x32_0_0) : FVec Ideal S16384x32 .f32)⟩] concatenates_S16384x1024_S16384x512_S16384x32_S16384x32_S16384x32_S16384x32_S16384x1664_d1 : FVec Ideal S16384x1664 .f32)

/-- The rotary key's two halves, one after the other, are the rotary key. -/
theorem ladder (g : Fin 1600 → EReal) (k : Fin 1664) :
    (if _h : k.val < 1024 then g ⟨k.val, by omega⟩
      else if _h : k.val - 1024 < 512 then g ⟨1088 + (k.val - 1024), by omega⟩
      else if _h : k.val - 1024 - 512 < 32 then g ⟨1024 + (k.val - 1024 - 512), by omega⟩
      else if _h : k.val - 1024 - 512 - 32 < 32 then g ⟨1024 + (32 + (k.val - 1024 - 512 - 32)), by omega⟩
      else if _h : k.val - 1024 - 512 - 32 - 32 < 32 then -g ⟨1024 + (32 + (k.val - 1024 - 512 - 32 - 32)), by omega⟩
      else g ⟨1024 + (k.val - 1024 - 512 - 32 - 32 - 32), by omega⟩)
    = if _h : k.val < 1024 then g ⟨k.val, by omega⟩
      else if _h : k.val - 1024 < 512 then g ⟨1088 + (k.val - 1024), by omega⟩
      else if _h : k.val - 1024 - 512 < 64 then g ⟨1024 + (k.val - 1024 - 512), by omega⟩
      else if _h : k.val - 1024 - 512 - 64 < 32 then -g ⟨1056 + (k.val - 1024 - 512 - 64), by omega⟩
      else g ⟨1024 + (k.val - 1024 - 512 - 64 - 32), by omega⟩ := by
  by_cases a : k.val < 1024
  · rw [dif_pos a, dif_pos a]
  by_cases b : k.val - 1024 < 512
  · rw [dif_neg a, dif_pos b, dif_neg a, dif_pos b]
  by_cases c : k.val - 1024 - 512 < 32
  · rw [dif_neg a, dif_neg b, dif_pos c, dif_neg a, dif_neg b, dif_pos (show k.val - 1024 - 512 < 64 by omega)]
  by_cases d : k.val - 1024 - 512 - 32 < 32
  · rw [dif_neg a, dif_neg b, dif_neg c, dif_pos d, dif_neg a, dif_neg b, dif_pos (show k.val - 1024 - 512 < 64 by omega)]
    exact congrArg g (Fin.ext (by dsimp only; omega))
  by_cases e : k.val - 1024 - 512 - 32 - 32 < 32
  · rw [dif_neg a, dif_neg b, dif_neg c, dif_neg d, dif_pos e, dif_neg a, dif_neg b,
      dif_neg (show ¬k.val - 1024 - 512 < 64 by omega), dif_pos (show k.val - 1024 - 512 - 64 < 32 by omega)]
    exact congrArg (fun z => -g z) (Fin.ext (by dsimp only; omega))
  · rw [dif_neg a, dif_neg b, dif_neg c, dif_neg d, dif_neg e, dif_neg a, dif_neg b,
      dif_neg (show ¬k.val - 1024 - 512 < 64 by omega), dif_neg (show ¬k.val - 1024 - 512 - 64 < 32 by omega)]
    exact congrArg g (Fin.ext (by dsimp only; omega))

/-- A projection in the call's order. -/
theorem laid_at (r : Fin 16384) (k : Fin 1664) : laid (product x w) (ix2 r k) = Latent.laid x w r k := by
  have e : ∀ h : FVec Ideal S16384x1600 .f32, laid h (ix2 r k)
      = if _h : k.val < 1024 then h (ix2 r ⟨k.val, by omega⟩)
        else if _h : k.val - 1024 < 512 then h (ix2 r ⟨1088 + (k.val - 1024), by omega⟩)
        else if _h : k.val - 1024 - 512 < 64 then h (ix2 r ⟨1024 + (k.val - 1024 - 512), by omega⟩)
        else if _h : k.val - 1024 - 512 - 64 < 32 then -h (ix2 r ⟨1056 + (k.val - 1024 - 512 - 64), by omega⟩)
        else h (ix2 r ⟨1024 + (k.val - 1024 - 512 - 64 - 32), by omega⟩) := by
    intro h
    pointwise [laid, key]
    exact ladder (fun z => h (ix2 r z)) k
  rw [e]
  simp only [product_at]
  rfl

end Cert.MlaInRefIdeal.Value

end
-- ==== Proof.FiniteMlaIn.lean ====
/- The precondition `finite_mla_in`, read: every row and every weight is neither infinity. -/
module

public import proofs.«01_k».proof.Proof.Gen.Pre_finite_mla_in
public import proofs.«01_k».proof.Proof.Finite

@[expose] public section

set_option maxRecDepth 16384

noncomputable section

namespace Cert.Pre_finite_mla_in.Val

open Idealize.ShloMosaic Idealize.ShloMosaic.TcCoe Idealize.SL.Sem
open Cert.Pre_finite_mla_in Cert.Pre_finite_mla_in.Gen
open Cert.Attention (IsReal)
open Cert.Pre_finite_scores.Val (real_of)

variable {x : FVec Ideal S16384x2048 .f32} {w : FVec Ideal S2048x1600 .f32}

/-- The rows' flat positions come first. -/
theorem x_real (n : Fin 36831232) (h : n.val < 33554432) (e : fn (F := Ideal) x w (ix1 n) = 1#1) :
    IsReal (x (ix2 ⟨n.val / 2048, by omega⟩ ⟨n.val % 2048, by omega⟩)) := by
  revert e
  pointwise [fn]
  rw [dif_pos h]
  exact real_of

/-- The weights' flat positions come next. -/
theorem w_real (n : Fin 36831232) (h : ¬n.val < 33554432) (e : fn (F := Ideal) x w (ix1 n) = 1#1) :
    IsReal (w (ix2 ⟨(n.val - 33554432) / 1600, by omega⟩ ⟨(n.val - 33554432) % 1600, by omega⟩)) := by
  revert e
  pointwise [fn]
  rw [dif_neg h]
  exact real_of

/-- Where the precondition holds, the rows and the weights are real. -/
theorem reals (h : fn (F := Ideal) x w = fun _ => 1#1) : (∀ i, IsReal (x i)) ∧ ∀ i, IsReal (w i) := by
  refine ⟨fun i => ?_, fun i => ?_⟩
  · obtain ⟨a, b, rfl⟩ : ∃ (a : Fin 16384) (b : Fin 2048), i = ix2 a b := ⟨i 0, i 1, by
      funext a; fin_cases a <;> rfl⟩
    have e := x_real (⟨a.val * 2048 + b.val, by omega⟩ : Fin 36831232) (by simp only; omega) (congrFun h _)
    convert e using 4
    all_goals simp only; omega
  · obtain ⟨a, b, rfl⟩ : ∃ (a : Fin 2048) (b : Fin 1600), i = ix2 a b := ⟨i 0, i 1, by
      funext a; fin_cases a <;> rfl⟩
    have e := w_real (⟨33554432 + (a.val * 1600 + b.val), by omega⟩ : Fin 36831232) (by simp only; omega) (congrFun h _)
    convert e using 4
    all_goals simp only; omega

end Cert.Pre_finite_mla_in.Val

end
-- ==== Proof.Up.lean ====
/- The up-projections' rows: a row's root-mean-square norm, its products with the weights, and the rotary lanes. -/
module

public import proofs.«01_k».proof.Proof.Rows
public import Idealize.ShloMosaic.Lib.Pointwise

@[expose] public section

set_option maxRecDepth 16384

noncomputable section

namespace Cert.Up

open Idealize.ShloMosaic Idealize.ShloMosaic.TcCoe Idealize.SL.Sem
open Cert.Rows (Mat)

/-- A row's root-mean-square norm, with gain `g`. -/
def rms (f g : Fin 512 → EReal) (d : Fin 512) : EReal :=
  f d * Ideal.rsqrt (Ideal.div (∑ e, f e * f e) (Ideal.ofBits .f32 0x44000000#32) + Ideal.ofBits .f32 0x358637BD#32) * g d

/-- Equal rows have equal norms. -/
theorem rms_congr {f f' g g' : Fin 512 → EReal} (hf : ∀ e, f e = f' e) (hg : ∀ e, g e = g' e) (d : Fin 512) :
    rms f g d = rms f' g' d := by
  rw [funext hf, funext hg]

/-- The product of a normed row with column `k` of the weights. -/
def up {N : ℕ} (f g : Fin 512 → EReal) (w : Mat 512 N) (k : Fin N) : EReal := ∑ j : Fin 512, rms f g j * w (ix2 j k)

/-- The rotary table `t` of 32 lanes, twice over, then zeros. -/
def lanes (t : Mat 16384 32) (r : Fin 16384) (l : Fin 128) : EReal :=
  if _h : l.val < 64 then if _h : l.val < 32 then t (ix2 r ⟨l.val, by omega⟩) else t (ix2 r ⟨l.val - 32, by omega⟩) else 0

/-- The key or value columns: column `e` of the head-by-head weights, in the head's half that begins at `o`. -/
def col (o : Fin 129) (e : Fin 1536) : Fin 3072 := ⟨e.val / 128 * 256 + (o.val + e.val % 128), by omega⟩

/-- The rotary key: the key by the cosines plus its rotation by the sines, then zeros. -/
def rotary (h : Mat 16384 1664) (cos sin : Mat 16384 32) (r : Fin 16384) (l : Fin 128) : EReal :=
  if _h : l.val < 64 then h (ix2 r ⟨1536 + l.val, by omega⟩) * lanes cos r l + h (ix2 r ⟨1600 + l.val, by omega⟩) * lanes sin r l
  else 0

end Cert.Up

end
-- ==== Proof.KvUpValue.lean ====
/- The keys and values: the kernel's result arrays, block by block, as normed rows against the weights and as the rotary key. -/
module

public import proofs.«01_k».proof.Proof.Gen.KvUpIdeal.Value
public import proofs.«01_k».proof.Proof.Up
public import Idealize.ShloMosaic.Lib.Pointwise
public import Idealize.ShloMosaic.Lib.Pipeline.ValueKit

@[expose] public section

set_option maxRecDepth 16384

noncomputable section

namespace Cert.KvUpIdeal.Val

open Idealize.ShloMosaic Idealize.ShloMosaic.TcCoe Idealize.SL.Sem
open Idealize.ShloMosaic.Pipeline (Dat)
open Cert.KvUpIdeal Cert.KvUpIdeal.Gen

open Cert.Up (rms up lanes col rotary)

/-- The projections before their halves are taken. -/
theorem pay_at (X : Vec Ideal S256x512 .f32) (g : Vec Ideal S1x512 .f32) (W : Vec Ideal S512x3072 .bf16)
    (r : Fin 256) (k : Fin 3072) :
    k0_pay1 X g W (ix2 r k) = up (fun d => X (ix2 r d)) (fun d => g (ix2 0 d)) W k := by
  pointwise [k0_pay1]
  rfl

/-- The keys' block. -/
theorem key_at (X : Vec Ideal S256x512 .f32) (g : Vec Ideal S1x512 .f32) (W : Vec Ideal S512x3072 .bf16)
    (r : Fin 256) (e : Fin 1536) :
    k0_pay2 X g W (ix2 r e) = up (fun d => X (ix2 r d)) (fun d => g (ix2 0 d)) W ⟨e.val, by omega⟩ := by
  rw [← pay_at]
  pointwise [k0_pay2]

/-- The values' block. -/
theorem value_at (X : Vec Ideal S256x512 .f32) (g : Vec Ideal S1x512 .f32) (W : Vec Ideal S512x3072 .bf16)
    (r : Fin 256) (e : Fin 1536) :
    k0_pay3 X g W (ix2 r e) = up (fun d => X (ix2 r d)) (fun d => g (ix2 0 d)) W ⟨1536 + e.val, by omega⟩ := by
  rw [← pay_at]
  pointwise [k0_pay3]

/-- The rotary key's block. -/
theorem rope_at (X C S : Vec Ideal S256x128 .f32) (r : Fin 256) (l : Fin 128) :
    k0_pay4 X C S (ix2 r l) = X (ix2 r l) * C (ix2 r l) + X (ix2 r ⟨(l.val + 128 - 64) % 128, by omega⟩) * S (ix2 r l) := by
  pointwise [k0_pay4]

/-- The weights as the kernel lays them out: the heads' keys, then the heads' values. -/
def packed (w : FVec Ideal S512x3072 .f32) : FVec Ideal S512x3072 .bf16 :=
  truncf .bf16 (concatenate S512x3072 1 [⟨S512x1536, (shapeCast S512x1536 (extractStridedSlice S512x12x128 ![0, 0, 0] (shapeCast S512x12x256 w shapeCasts_S512x3072_S512x12x256) slices_S512x12x256_S512x12x128_0_0_0) shapeCasts_S512x12x128_S512x1536 : FVec Ideal S512x1536 .f32)⟩, ⟨S512x1536, (shapeCast S512x1536 (extractStridedSlice S512x12x128 ![0, 0, 128] (shapeCast S512x12x256 w shapeCasts_S512x3072_S512x12x256) slices_S512x12x256_S512x12x128_0_0_128) shapeCasts_S512x12x128_S512x1536 : FVec Ideal S512x1536 .f32)⟩] concatenates_S512x1536_S512x1536_S512x3072_d1) bitsLt_bf16_f32

/-- A key's weight. -/
theorem packed_key (w : FVec Ideal S512x3072 .f32) (j : Fin 512) (e : Fin 1536) :
    packed w (ix2 j ⟨e.val, by omega⟩) = w (ix2 j (col 0 e)) := by
  pointwise [packed]
  exact congrArg (fun k => w (ix2 j k)) (Fin.ext (by show e.val / 128 * 256 + e.val % 128 = e.val / 128 * 256 + (0 + e.val % 128); omega))

/-- A value's weight. -/
theorem packed_value (w : FVec Ideal S512x3072 .f32) (j : Fin 512) (e : Fin 1536) :
    packed w (ix2 j ⟨1536 + e.val, by omega⟩) = w (ix2 j (col 128 e)) := by
  pointwise [packed]
  rfl

/-- The word of zero denotes zero. -/
theorem zero_word : (FloatOps.sitofp FTy.f32 0#32 : Ideal .f32) = 0 := by
  simp [FloatOps.sitofp]

/-- A rotary table as the kernel lays it out. -/
def table (t : FVec Ideal S16384x32 .f32) : FVec Ideal S16384x128 .f32 :=
  pad S16384x128 ![0, 0] ![0, 64] ![0, 0] (concatenate S16384x64 1 [⟨S16384x32, t⟩, ⟨S16384x32, t⟩] concatenates_S16384x32_S16384x32_S16384x64_d1) (sitofp .f32 (constantI S_ 32 0#32)) pads_S16384x64_S16384x128_000_0640 h_S_

/-- A rotary table's entry. -/
theorem table_at (t : FVec Ideal S16384x32 .f32) (r : Fin 16384) (l : Fin 128) : table t (ix2 r l) = lanes t r l := by
  rw [lanes, ← zero_word]
  pointwise [table]

variable (m : (ℓ : Loc nD τ sig) → Buf (Elt Ideal) ℓ) (c : Dev nD)

/-- The weights the call is given are the laid-out weights. -/
theorem V_packed : V m c main_v31 = packed (m ((c.tc : Thread nD τ).loc main_arg2)) := by
  simp only [V, hostOps0, hostOps0_1, hostOps0_2, hostOps0_3, List.flatten_cons, List.flatten_nil, List.append_nil,
    List.cons_append, List.nil_append]
  after_results_simp
  rfl

/-- The cosines the call is given. -/
theorem V_cos : V m c main_v33 = table (m ((c.tc : Thread nD τ).loc main_arg3)) := by
  simp only [V, hostOps0, hostOps0_1, hostOps0_2, hostOps0_3, List.flatten_cons, List.flatten_nil, List.append_nil,
    List.cons_append, List.nil_append]
  after_results_simp
  rfl

/-- The sines the call is given. -/
theorem V_sin : V m c main_v35 = table (m ((c.tc : Thread nD τ).loc main_arg4)) := by
  simp only [V, hostOps0, hostOps0_1, hostOps0_2, hostOps0_3, List.flatten_cons, List.flatten_nil, List.append_nil,
    List.cons_append, List.nil_append]
  after_results_simp
  rfl

/-- The blocks a grid point works on: 256 rows. -/
theorem idx : ∀ t : Fin cfg0.N,
    win0_0.index t = ![t.val, 1] ∧ win0_1.index t = ![t.val, 12] ∧ win0_2.index t = ![0, 0] ∧ win0_3.index t = ![0, 0]
    ∧ win0_4.index t = ![t.val, 0] ∧ win0_5.index t = ![t.val, 0] ∧ win0_6.index t = ![t.val, 0] ∧ win0_7.index t = ![t.val, 0]
    ∧ win0_8.index t = ![t.val, 0] ∧ t.val < 64 :=
  (by decide +kernel : ∀ t : Fin grid0.N, _)

/-- The latents' blocks. -/
theorem x_at (t : Fin cfg0.N) (r : Fin 256) (d : Fin 512) (R : Fin 16384) (D : Fin 1664) (hR : R.val = 256 * t.val + r.val)
    (hD : D.val = 512 + d.val) : X0_0 m c t (ix2 r d) = m ((c.tc : Thread nD τ).loc main_arg0) (ix2 R D) := by
  rw [← V_main_arg0 m c]
  unfold X0_0 Pipeline.Window.fill
  rw [dif_pos (moved0_0 t _)]
  blk_ext [iblk, idx t]

/-- The rotary keys' blocks. -/
theorem k_at (t : Fin cfg0.N) (r : Fin 256) (d : Fin 128) (R : Fin 16384) (D : Fin 1664) (hR : R.val = 256 * t.val + r.val)
    (hD : D.val = 1536 + d.val) : iblk m c 1 t (ix2 r d) = m ((c.tc : Thread nD τ).loc main_arg0) (ix2 R D) := by
  rw [← V_main_arg0 m c]
  blk_ext [iblk, idx t]

/-- The gain. -/
theorem g_at (t : Fin cfg0.N) (d : Fin 512) : iblk m c 2 t (ix2 0 d) = m ((c.tc : Thread nD τ).loc main_arg1) (ix2 0 d) := by
  rw [← V_main_arg1 m c]
  blk_ext [iblk, idx t]

/-- The weights. -/
theorem w_at (t : Fin cfg0.N) (j : Fin 512) (k : Fin 3072) :
    iblk m c 3 t (ix2 j k) = packed (m ((c.tc : Thread nD τ).loc main_arg2)) (ix2 j k) := by
  rw [← V_packed]
  blk_ext [iblk, idx t]

/-- The cosines' blocks. -/
theorem cos_at (t : Fin cfg0.N) (r : Fin 256) (l : Fin 128) (R : Fin 16384) (hR : R.val = 256 * t.val + r.val) :
    iblk m c 4 t (ix2 r l) = lanes (m ((c.tc : Thread nD τ).loc main_arg3)) R l := by
  rw [← table_at, ← V_cos]
  blk_ext [iblk, idx t]

/-- The sines' blocks. -/
theorem sin_at (t : Fin cfg0.N) (r : Fin 256) (l : Fin 128) (R : Fin 16384) (hR : R.val = 256 * t.val + r.val) :
    iblk m c 5 t (ix2 r l) = lanes (m ((c.tc : Thread nD τ).loc main_arg4)) R l := by
  rw [← table_at, ← V_sin]
  blk_ext [iblk, idx t]

/-- The keys or values of the arguments, as one array. -/
def G (o : Fin 129) : Vec Ideal S16384x1536 .bf16 := fun i =>
  up (fun d => m ((c.tc : Thread nD τ).loc main_arg0) (ix2 (i 0) ⟨512 + d.val, by omega⟩))
    (fun d => m ((c.tc : Thread nD τ).loc main_arg1) (ix2 0 d)) (m ((c.tc : Thread nD τ).loc main_arg2)) (col o (i 1))

/-- The rotary keys of the arguments, as one array. -/
def K : Vec Ideal S16384x128 .bf16 := fun i =>
  rotary (m ((c.tc : Thread nD τ).loc main_arg0)) (m ((c.tc : Thread nD τ).loc main_arg3))
    (m ((c.tc : Thread nD τ).loc main_arg4)) (i 0) (i 1)

/-- The kernel's keys are that array. -/
theorem keys : (dats m 0 c).arrAt 6 cfg0.N = G m c 0 := by
  refine (dats m 0 c).arrAt_eq_of_covers 6 _ (by decide +kernel) fun t hf y => ?_
  obtain ⟨-, -, -, -, -, -, i6, i7, -, hN⟩ := idx t
  blk_simp
  rw [after0_6]
  unfold outsAt0
  frame_out
  obtain ⟨r, e, rfl⟩ : ∃ (a : Fin 256) (b : Fin 1536), y = ix2 a b := ⟨y 0, y 1, by funext a; fin_cases a <;> rfl⟩
  have hr := r.isLt
  have he : ((cfg0.win 6).blk t).view.emb (ix2 r e) = ix2 (⟨256 * t.val + r.val, by omega⟩ : Fin 16384) e := by
    blk_ext [i6]
  refine Eq.trans ?_ (congrArg (G m c 0) he).symm
  refine (key_at _ _ _ r e).trans ?_
  refine Finset.sum_congr rfl fun j _ => Ideal.mul_congr ?_ ((w_at m c t j _).trans (packed_key _ j e))
  exact Up.rms_congr (fun d => x_at m c t r d _ _ rfl rfl) (fun d => g_at m c t d) j

/-- The kernel's values are that array. -/
theorem values : (dats m 0 c).arrAt 7 cfg0.N = G m c 128 := by
  refine (dats m 0 c).arrAt_eq_of_covers 7 _ (by decide +kernel) fun t hf y => ?_
  obtain ⟨-, -, -, -, -, -, i6, i7, -, hN⟩ := idx t
  blk_simp
  rw [after0_7]
  unfold outsAt0
  frame_out
  obtain ⟨r, e, rfl⟩ : ∃ (a : Fin 256) (b : Fin 1536), y = ix2 a b := ⟨y 0, y 1, by funext a; fin_cases a <;> rfl⟩
  have hr := r.isLt
  have he : ((cfg0.win 7).blk t).view.emb (ix2 r e) = ix2 (⟨256 * t.val + r.val, by omega⟩ : Fin 16384) e := by
    blk_ext [i7]
  refine Eq.trans ?_ (congrArg (G m c 128) he).symm
  refine (value_at _ _ _ r e).trans ?_
  refine Finset.sum_congr rfl fun j _ => Ideal.mul_congr ?_ ((w_at m c t j _).trans (packed_value _ j e))
  exact Up.rms_congr (fun d => x_at m c t r d _ _ rfl rfl) (fun d => g_at m c t d) j

/-- The kernel's rotary keys are that array. -/
theorem rotaries : (dats m 0 c).arrAt 8 cfg0.N = K m c := by
  refine (dats m 0 c).arrAt_eq_of_covers 8 _ (by decide +kernel) fun t hf y => ?_
  obtain ⟨-, -, -, -, -, -, -, -, i8, hN⟩ := idx t
  blk_simp
  rw [after0_8]
  unfold outsAt0
  frame_out
  obtain ⟨r, l, rfl⟩ : ∃ (a : Fin 256) (b : Fin 128), y = ix2 a b := ⟨y 0, y 1, by funext a; fin_cases a <;> rfl⟩
  have hr := r.isLt
  have he : ((cfg0.win 8).blk t).view.emb (ix2 r l) = ix2 (⟨256 * t.val + r.val, by omega⟩ : Fin 16384) l := by
    blk_ext [i8]
  refine Eq.trans ?_ (congrArg (K m c) he).symm
  refine (rope_at _ _ _ r l).trans ?_
  rw [cos_at m c t r l ⟨256 * t.val + r.val, by omega⟩ rfl, sin_at m c t r l ⟨256 * t.val + r.val, by omega⟩ rfl]
  show _ = rotary (m ((c.tc : Thread nD τ).loc main_arg0)) (m ((c.tc : Thread nD τ).loc main_arg3))
    (m ((c.tc : Thread nD τ).loc main_arg4)) ⟨256 * t.val + r.val, by omega⟩ l
  unfold rotary
  by_cases hl : l.val < 64
  · rw [dif_pos hl, k_at m c t r l ⟨256 * t.val + r.val, by omega⟩ ⟨1536 + l.val, by omega⟩ rfl rfl,
      k_at m c t r ⟨(l.val + 128 - 64) % 128, by omega⟩ ⟨256 * t.val + r.val, by omega⟩ ⟨1600 + l.val, by omega⟩ rfl (by simp only; omega)]
  · rw [dif_neg hl]
    simp only [lanes, dif_neg hl, mul_zero, add_zero]

end Cert.KvUpIdeal.Val

end
-- ==== Proof.KvUpRef.lean ====
/- The keys' and values' reference, read at an index: normed rows against the weights, and the rotary key. -/
module

public import proofs.«01_k».proof.Proof.Gen.KvUpRefIdeal.Run
public import proofs.«01_k».proof.Proof.Up
public import Idealize.ShloMosaic.Lib.Pointwise
public import Idealize.ShloMosaic.Lib.Pipeline.ValueKit

@[expose] public section

set_option maxRecDepth 16384

noncomputable section

namespace Cert.KvUpRefIdeal.Value

open Idealize.ShloMosaic Idealize.ShloMosaic.TcCoe Idealize.SL.Sem
open Cert.KvUpRefIdeal Cert.KvUpRefIdeal.Gen
open Cert.Up (rms up lanes col rotary)

variable (h : FVec Ideal S16384x1664 .f32) (g : FVec Ideal S1x512 .f32) (w : FVec Ideal S512x3072 .f32)
  (cos sin : FVec Ideal S16384x32 .f32)

/-- The latents. -/
def latents : FVec Ideal S16384x512 .f32 := extractStridedSlice S16384x512 ![0, 512] h slices_S16384x1664_S16384x512_0_512

/-- A latent. -/
theorem latents_at (r : Fin 16384) (d : Fin 512) : latents h (ix2 r d) = h (ix2 r ⟨512 + d.val, by omega⟩) := by
  pointwise [latents]

/-- The normed latents against the weights. -/
def product (x : FVec Ideal S16384x512 .f32) : FVec Ideal S16384x3072 .f32 :=
  Host.dotGeneral dot_S16384x512_S512x3072_S16384x3072_1_0_0_1_n_n none (mulf (mulf x (broadcastInDim S16384x512 ![0, 1] bcast_S16384x1_S16384x512_0_1 (Host.rsqrt (addf (Host.divf (broadcastInDim S16384x1 ![0] bcast_S16384_S16384x1_0 (Host.reduceAdd (mulf x x) (constant S_ .f32 0x00000000#32) reducesTo_S16384x512_S16384_d1 h_S_)) (broadcastInDim S16384x1 ![] bcast_S_S16384x1 (constant S_ .f32 0x44000000#32))) (broadcastInDim S16384x1 ![] bcast_S_S16384x1 (constant S_ .f32 0x358637BD#32)))))) (broadcastInDim S16384x512 ![0, 1] bcast_S1x512_S16384x512_0_1 g)) w

/-- A product of a normed row. -/
theorem product_at (x : FVec Ideal S16384x512 .f32) (r : Fin 16384) (k : Fin 3072) :
    product g w x (ix2 r k) = up (fun d => x (ix2 r d)) (fun d => g (ix2 0 d)) w k := by
  pointwise [product]
  rfl

/-- The heads' keys. -/
def keys (p : FVec Ideal S16384x3072 .f32) : FVec Ideal S16384x1536 .bf16 :=
  truncf .bf16 (shapeCast _ (extractStridedSlice S16384x12x128 ![0, 0, 0] (shapeCast _ p shapeCasts_S16384x3072_S16384x12x256) slices_S16384x12x256_S16384x12x128_0_0_0) shapeCasts_S16384x12x128_S16384x1536) bitsLt_bf16_f32

/-- A key is a product. -/
theorem keys_at (p : FVec Ideal S16384x3072 .f32) (r : Fin 16384) (e : Fin 1536) :
    keys p (ix2 r e) = p (ix2 r (col 0 e)) := by
  pointwise [keys]
  exact congrArg (fun k => p (ix2 r k)) (Fin.ext (by show e.val / 128 * 256 + e.val % 128 = e.val / 128 * 256 + (0 + e.val % 128); omega))

/-- The heads' values. -/
def values (p : FVec Ideal S16384x3072 .f32) : FVec Ideal S16384x1536 .bf16 :=
  truncf .bf16 (shapeCast _ (extractStridedSlice S16384x12x128 ![0, 0, 128] (shapeCast _ p shapeCasts_S16384x3072_S16384x12x256) slices_S16384x12x256_S16384x12x128_0_0_128) shapeCasts_S16384x12x128_S16384x1536) bitsLt_bf16_f32

/-- A value is a product. -/
theorem values_at (p : FVec Ideal S16384x3072 .f32) (r : Fin 16384) (e : Fin 1536) :
    values p (ix2 r e) = p (ix2 r (col 128 e)) := by
  pointwise [values]
  rfl

/-- The reference's keys, of the arguments. -/
theorem key_at (r : Fin 16384) (e : Fin 1536) : keys (product g w (latents h)) (ix2 r e)
    = up (fun d => h (ix2 r ⟨512 + d.val, by omega⟩)) (fun d => g (ix2 0 d)) w (col 0 e) := by
  rw [keys_at, product_at]
  simp only [latents_at]

/-- The reference's values, of the arguments. -/
theorem value_at (r : Fin 16384) (e : Fin 1536) : values (product g w (latents h)) (ix2 r e)
    = up (fun d => h (ix2 r ⟨512 + d.val, by omega⟩)) (fun d => g (ix2 0 d)) w (col 128 e) := by
  rw [values_at, product_at]
  simp only [latents_at]

/-- The rotary key before the zeros. -/
def turned : FVec Ideal S16384x64 .f32 :=
  addf (mulf (extractStridedSlice S16384x64 ![0, 1536] h slices_S16384x1664_S16384x64_0_1536) (concatenate S16384x64 1 [⟨S16384x32, cos⟩, ⟨S16384x32, cos⟩] concatenates_S16384x32_S16384x32_S16384x64_d1)) (mulf (extractStridedSlice S16384x64 ![0, 1600] h slices_S16384x1664_S16384x64_0_1600) (concatenate S16384x64 1 [⟨S16384x32, sin⟩, ⟨S16384x32, sin⟩] concatenates_S16384x32_S16384x32_S16384x64_d1))

/-- A rotary key's entry before the zeros. -/
theorem turned_at (r : Fin 16384) (l : Fin 64) : turned h cos sin (ix2 r l)
    = h (ix2 r ⟨1536 + l.val, by omega⟩) * lanes cos r ⟨l.val, by omega⟩ + h (ix2 r ⟨1600 + l.val, by omega⟩) * lanes sin r ⟨l.val, by omega⟩ := by
  rw [lanes, lanes, dif_pos l.isLt, dif_pos l.isLt]
  pointwise [turned]

/-- The rotary key. -/
def rope (x : FVec Ideal S16384x64 .f32) : FVec Ideal S16384x128 .bf16 :=
  truncf .bf16 (concatenate S16384x128 1 [⟨S16384x64, x⟩, ⟨S16384x64, broadcastInDim S16384x64 ![] bcast_S_S16384x64 (constant S_ .f32 0x00000000#32)⟩] concatenates_S16384x64_S16384x64_S16384x128_d1) bitsLt_bf16_f32

/-- A rotary key's entry. -/
theorem rope_at (x : FVec Ideal S16384x64 .f32) (r : Fin 16384) (l : Fin 128) :
    rope x (ix2 r l) = if hl : l.val < 64 then x (ix2 r ⟨l.val, hl⟩) else 0 := by
  pointwise [rope]

/-- The reference's rotary key, of the arguments. -/
theorem rotary_at (r : Fin 16384) (l : Fin 128) : rope (turned h cos sin) (ix2 r l) = rotary h cos sin r l := by
  rw [rope_at, rotary]
  simp only [turned_at]

end Cert.KvUpRefIdeal.Value

end
-- ==== Proof.Query.lean ====
/- The queries: a head's plain part, its part turned by the rotary tables, and zeros; and that normed rows of real values are real. -/
module

public import proofs.«01_k».proof.Proof.Up
public import proofs.«01_k».proof.Proof.Latent

@[expose] public section

set_option maxRecDepth 16384

noncomputable section

namespace Cert.Query

open Idealize.ShloMosaic Idealize.ShloMosaic.TcCoe Idealize.SL.Sem
open Cert.Attention (IsReal)
open Cert.Rows (Mat)
open Cert.Up (rms up)

/-- The queries' scale, `192 ^ (-1/2)` rounded to a single-precision word. -/
def scale : EReal := Ideal.ofBits .f32 0x3D93CD3A#32

/-- A real number is neither infinity. -/
theorem real_coe (r : ℝ) : IsReal (r : EReal) := ⟨EReal.coe_ne_top r, EReal.coe_ne_bot r⟩

/-- The scale is not negative and not infinite. -/
theorem scale_pos : 0 ≤ scale ∧ scale ≠ ⊤ := by
  obtain ⟨r, h, e⟩ : ∃ r : ℝ, 0 ≤ r ∧ scale = r := by
    refine ⟨_, ?_, by simp only [scale, Ideal.ofBits, Ideal.ieee]; rfl⟩
    rw [if_neg (by decide)]
    positivity
  rw [e]
  exact ⟨EReal.coe_nonneg.mpr h, EReal.coe_ne_top r⟩

/-- The number of latents is a positive real. -/
theorem count_eq : ∃ r : ℝ, 0 < r ∧ Ideal.ofBits .f32 0x44000000#32 = r := by
  refine ⟨_, ?_, by simp only [Ideal.ofBits, Ideal.ieee]; rfl⟩
  rw [if_neg (by decide)]
  positivity

/-- The norm's small addend is a positive real. -/
theorem addend_eq : ∃ r : ℝ, 0 < r ∧ Ideal.ofBits .f32 0x358637BD#32 = r := by
  refine ⟨_, ?_, by simp only [Ideal.ofBits, Ideal.ieee]; rfl⟩
  rw [if_neg (by decide)]
  positivity

variable {f g : Fin 512 → EReal}

/-- The sum of squares of real values is a real that is not negative. -/
theorem squares (hf : ∀ e, IsReal (f e)) : ∃ r : ℝ, 0 ≤ r ∧ ∑ e, f e * f e = r := by
  have h0 : 0 ≤ ∑ e, f e * f e := Finset.sum_nonneg fun e _ => by
    have := hf e
    lift f e to ℝ using this with x
    rw [← EReal.coe_mul]
    exact EReal.coe_nonneg.mpr (mul_self_nonneg x)
  have hr : IsReal (∑ e, f e * f e) := IsReal.sum _ _ fun e => (hf e).mul (hf e)
  lift ∑ e, f e * f e to ℝ using hr with r
  exact ⟨r, EReal.coe_nonneg.mp h0, rfl⟩

/-- A row of real values has a real norm. -/
theorem rms_real (hf : ∀ e, IsReal (f e)) (hg : ∀ e, IsReal (g e)) (d : Fin 512) : IsReal (rms f g d) := by
  obtain ⟨s, hs, es⟩ := squares hf
  obtain ⟨n, hn, en⟩ := count_eq
  obtain ⟨p, hp, ep⟩ := addend_eq
  have h : 0 < s * (1 / n) + p := by positivity
  rw [rms, es, en, ep, Ideal.div_coe hn.ne', ← EReal.coe_mul, ← EReal.coe_add, Ideal.rsqrt_coe, if_neg (not_lt.mpr h.le),
    if_neg h.ne']
  exact ((hf d).mul (real_coe _)).mul (hg d)

/-- Two equal columns have equal products. -/
theorem up_eq {N M : ℕ} {w : Mat 512 N} {v : Mat 512 M} {k : Fin N} {l : Fin M} (h : ∀ j, w (ix2 j k) = v (ix2 j l)) :
    up f g w k = up f g v l := Finset.sum_congr rfl fun j _ => by rw [h]

/-- A column of zeros has product zero. -/
theorem up_zero {N : ℕ} {w : Mat 512 N} {k : Fin N} (h : ∀ j, w (ix2 j k) = 0) : up f g w k = 0 :=
  Finset.sum_eq_zero fun j _ => by rw [h, mul_zero]

/-- A negated column has the negated product. -/
theorem up_neg {N M : ℕ} {w : Mat 512 N} {v : Mat 512 M} {k : Fin N} {l : Fin M} (hf : ∀ e, IsReal (f e))
    (hg : ∀ e, IsReal (g e)) (hv : ∀ j l, IsReal (v (ix2 j l))) (h : ∀ j, w (ix2 j k) = -v (ix2 j l)) : up f g w k = -up f g v l := by
  refine Eq.trans (Finset.sum_congr rfl fun j _ => ?_)
    (Latent.sum_mul_neg Finset.univ (rms f g) (fun j => v (ix2 j l)) (rms_real hf hg) fun j => hv j l)
  rw [h]

/-- The first half turned, with the scale taken into the tables. -/
theorem turn_first (a b c s : EReal) : a * (c * scale) + -b * (s * scale) = (a * c - b * s) * scale := by
  rw [sub_eq_add_neg, EReal.right_distrib_of_nonneg_of_ne_top scale_pos.1 scale_pos.2, ← EReal.neg_mul, mul_assoc, mul_assoc]

/-- The second half turned, with the scale taken into the tables. -/
theorem turn_second (a b c s : EReal) : a * (c * scale) + b * (s * scale) = (a * c + b * s) * scale := by
  rw [EReal.right_distrib_of_nonneg_of_ne_top scale_pos.1 scale_pos.2, mul_assoc, mul_assoc]

/-- Entry `u` of head `h`'s query, of the products `p` and a row's cosines and sines: the plain part, the two halves turned,
    then zeros. -/
def query (p : Fin 2304 → EReal) (c s : Fin 32 → EReal) (h : Fin 12) (u : Fin 256) : EReal :=
  if _h : u.val < 128 then p ⟨192 * h.val + u.val, by omega⟩ * scale
  else if _h : u.val < 160 then (p ⟨192 * h.val + u.val, by omega⟩ * c ⟨u.val - 128, by omega⟩
    - p ⟨192 * h.val + u.val + 32, by omega⟩ * s ⟨u.val - 128, by omega⟩) * scale
  else if _h : u.val < 192 then (p ⟨192 * h.val + u.val, by omega⟩ * c ⟨u.val - 160, by omega⟩
    + p ⟨192 * h.val + (u.val - 32), by omega⟩ * s ⟨u.val - 160, by omega⟩) * scale
  else 0

end Cert.Query

end
-- ==== Proof.QUpValue.lean ====
/- The queries: the kernel's result array, head by head, as the reference's form of a query. -/
module

public import proofs.«01_k».proof.Proof.Gen.QUpIdeal.Frame
public import Idealize.ShloMosaic.Lib.Pipeline.Value
public import proofs.«01_k».proof.Proof.Query
public import Idealize.ShloMosaic.Lib.Pointwise
public import Idealize.ShloMosaic.Lib.Pipeline.ValueKit

@[expose] public section

set_option maxRecDepth 16384

noncomputable section

namespace Cert.QUpIdeal.Val

open Idealize.ShloMosaic Idealize.ShloMosaic.TcCoe Idealize.SL.Sem
open Idealize.ShloMosaic.Pipeline (Dat)
open Cert.QUpIdeal Cert.QUpIdeal.Gen
open Cert.Attention (IsReal)
open Cert.Up (rms up lanes)
open Cert.Query (query scale)

/-- The products of the normed rows and the laid-out weights. -/
theorem pay_at (X : Vec Ideal S256x512 .f32) (g : Vec Ideal S1x512 .f32) (W : Vec Ideal S512x4608 .bf16)
    (r : Fin 256) (k : Fin 4608) :
    k0_pay4 X g W (ix2 r k) = up (fun d => X (ix2 r d)) (fun d => g (ix2 0 d)) W k := by
  pointwise [k0_pay4]
  rfl

/-- A block of cosines, scaled. -/
theorem cs_at (C : Vec Ideal S256x128 .f32) (r : Fin 256) (l : Fin 128) : k0_pay5 C (ix2 r l) = C (ix2 r l) * scale := by
  pointwise [k0_pay5]
  rfl

/-- A block of sines, scaled. -/
theorem ss_at (C : Vec Ideal S256x128 .f32) (r : Fin 256) (l : Fin 128) : k0_pay6 C (ix2 r l) = C (ix2 r l) * scale := by
  pointwise [k0_pay6]
  rfl

/-- Head 0's plain part. -/
theorem plain0 (X : Vec Ideal S256x512 .f32) (g : Vec Ideal S1x512 .f32) (W : Vec Ideal S512x4608 .bf16) (r : Fin 256) (l : Fin 128) :
    k0_pay7 X g W (ix2 r l) = (k0_pay4 X g W) (ix2 r (⟨0 + l.val, by omega⟩ : Fin 4608)) * scale := by
  pointwise [k0_pay7]
  rfl

/-- Head 0's turned part. -/
theorem turned0 (X : Vec Ideal S256x512 .f32) (g : Vec Ideal S1x512 .f32) (W : Vec Ideal S512x4608 .bf16) (C S : Vec Ideal S256x128 .f32) (r : Fin 256) (l : Fin 128) :
    k0_pay8 X g W C S (ix2 r l) = (k0_pay4 X g W) (ix2 r (⟨128 + l.val, by omega⟩ : Fin 4608)) * k0_pay5 C (ix2 r l)
      + (k0_pay4 X g W) (ix2 r (⟨3072 + l.val, by omega⟩ : Fin 4608)) * k0_pay6 S (ix2 r l) := by
  pointwise [k0_pay8]

/-- Head 1's plain part. -/
theorem plain1 (p : FVec Ideal S256x4608 .f32) (r : Fin 256) (l : Fin 128) :
    k0_pay9 p (ix2 r l) = p (ix2 r (⟨256 + l.val, by omega⟩ : Fin 4608)) * scale := by
  pointwise [k0_pay9]
  rfl

/-- Head 1's turned part. -/
theorem turned1 (p : FVec Ideal S256x4608 .f32) (C S : FVec Ideal S256x128 .f32) (r : Fin 256) (l : Fin 128) :
    k0_pay10 p C S (ix2 r l) = p (ix2 r (⟨384 + l.val, by omega⟩ : Fin 4608)) * C (ix2 r l)
      + p (ix2 r (⟨3200 + l.val, by omega⟩ : Fin 4608)) * S (ix2 r l) := by
  pointwise [k0_pay10]

/-- Head 2's plain part. -/
theorem plain2 (p : FVec Ideal S256x4608 .f32) (r : Fin 256) (l : Fin 128) :
    k0_pay11 p (ix2 r l) = p (ix2 r (⟨512 + l.val, by omega⟩ : Fin 4608)) * scale := by
  pointwise [k0_pay11]
  rfl

/-- Head 2's turned part. -/
theorem turned2 (p : FVec Ideal S256x4608 .f32) (C S : FVec Ideal S256x128 .f32) (r : Fin 256) (l : Fin 128) :
    k0_pay12 p C S (ix2 r l) = p (ix2 r (⟨640 + l.val, by omega⟩ : Fin 4608)) * C (ix2 r l)
      + p (ix2 r (⟨3328 + l.val, by omega⟩ : Fin 4608)) * S (ix2 r l) := by
  pointwise [k0_pay12]

/-- Head 3's plain part. -/
theorem plain3 (p : FVec Ideal S256x4608 .f32) (r : Fin 256) (l : Fin 128) :
    k0_pay13 p (ix2 r l) = p (ix2 r (⟨768 + l.val, by omega⟩ : Fin 4608)) * scale := by
  pointwise [k0_pay13]
  rfl

/-- Head 3's turned part. -/
theorem turned3 (p : FVec Ideal S256x4608 .f32) (C S : FVec Ideal S256x128 .f32) (r : Fin 256) (l : Fin 128) :
    k0_pay14 p C S (ix2 r l) = p (ix2 r (⟨896 + l.val, by omega⟩ : Fin 4608)) * C (ix2 r l)
      + p (ix2 r (⟨3456 + l.val, by omega⟩ : Fin 4608)) * S (ix2 r l) := by
  pointwise [k0_pay14]

/-- Head 4's plain part. -/
theorem plain4 (p : FVec Ideal S256x4608 .f32) (r : Fin 256) (l : Fin 128) :
    k0_pay16 (k0_pay15 p) (ix2 r l) = p (ix2 r (⟨1024 + l.val, by omega⟩ : Fin 4608)) * scale := by
  pointwise [k0_pay16, k0_pay15]
  rfl

/-- Head 4's turned part. -/
theorem turned4 (p : FVec Ideal S256x4608 .f32) (C S : FVec Ideal S256x128 .f32) (r : Fin 256) (l : Fin 128) :
    k0_pay17 p C S (ix2 r l) = p (ix2 r (⟨1152 + l.val, by omega⟩ : Fin 4608)) * C (ix2 r l)
      + p (ix2 r (⟨3584 + l.val, by omega⟩ : Fin 4608)) * S (ix2 r l) := by
  pointwise [k0_pay17]

/-- Head 5's plain part. -/
theorem plain5 (p : FVec Ideal S256x4608 .f32) (r : Fin 256) (l : Fin 128) :
    k0_pay18 p (ix2 r l) = p (ix2 r (⟨1280 + l.val, by omega⟩ : Fin 4608)) * scale := by
  pointwise [k0_pay18]
  rfl

/-- Head 5's turned part. -/
theorem turned5 (p : FVec Ideal S256x4608 .f32) (C S : FVec Ideal S256x128 .f32) (r : Fin 256) (l : Fin 128) :
    k0_pay19 p C S (ix2 r l) = p (ix2 r (⟨1408 + l.val, by omega⟩ : Fin 4608)) * C (ix2 r l)
      + p (ix2 r (⟨3712 + l.val, by omega⟩ : Fin 4608)) * S (ix2 r l) := by
  pointwise [k0_pay19]

/-- Head 6's plain part. -/
theorem plain6 (p : FVec Ideal S256x4608 .f32) (r : Fin 256) (l : Fin 128) :
    k0_pay20 p (ix2 r l) = p (ix2 r (⟨1536 + l.val, by omega⟩ : Fin 4608)) * scale := by
  pointwise [k0_pay20]
  rfl

/-- Head 6's turned part. -/
theorem turned6 (p : FVec Ideal S256x4608 .f32) (C S : FVec Ideal S256x128 .f32) (r : Fin 256) (l : Fin 128) :
    k0_pay21 p C S (ix2 r l) = p (ix2 r (⟨1664 + l.val, by omega⟩ : Fin 4608)) * C (ix2 r l)
      + p (ix2 r (⟨3840 + l.val, by omega⟩ : Fin 4608)) * S (ix2 r l) := by
  pointwise [k0_pay21]

/-- Head 7's plain part. -/
theorem plain7 (p : FVec Ideal S256x4608 .f32) (r : Fin 256) (l : Fin 128) :
    k0_pay23 (k0_pay22 p) (ix2 r l) = p (ix2 r (⟨1792 + l.val, by omega⟩ : Fin 4608)) * scale := by
  pointwise [k0_pay23, k0_pay22]
  rfl

/-- Head 7's turned part. -/
theorem turned7 (p : FVec Ideal S256x4608 .f32) (C S : FVec Ideal S256x128 .f32) (r : Fin 256) (l : Fin 128) :
    k0_pay24 p C S (ix2 r l) = p (ix2 r (⟨1920 + l.val, by omega⟩ : Fin 4608)) * C (ix2 r l)
      + p (ix2 r (⟨3968 + l.val, by omega⟩ : Fin 4608)) * S (ix2 r l) := by
  pointwise [k0_pay24]

/-- Head 8's plain part. -/
theorem plain8 (p : FVec Ideal S256x4608 .f32) (r : Fin 256) (l : Fin 128) :
    k0_pay25 p (ix2 r l) = p (ix2 r (⟨2048 + l.val, by omega⟩ : Fin 4608)) * scale := by
  pointwise [k0_pay25]
  rfl

/-- Head 8's turned part. -/
theorem turned8 (p : FVec Ideal S256x4608 .f32) (C S : FVec Ideal S256x128 .f32) (r : Fin 256) (l : Fin 128) :
    k0_pay26 p C S (ix2 r l) = p (ix2 r (⟨2176 + l.val, by omega⟩ : Fin 4608)) * C (ix2 r l)
      + p (ix2 r (⟨4096 + l.val, by omega⟩ : Fin 4608)) * S (ix2 r l) := by
  pointwise [k0_pay26]

/-- Head 9's plain part. -/
theorem plain9 (p : FVec Ideal S256x4608 .f32) (r : Fin 256) (l : Fin 128) :
    k0_pay27 p (ix2 r l) = p (ix2 r (⟨2304 + l.val, by omega⟩ : Fin 4608)) * scale := by
  pointwise [k0_pay27]
  rfl

/-- Head 9's turned part. -/
theorem turned9 (p : FVec Ideal S256x4608 .f32) (C S : FVec Ideal S256x128 .f32) (r : Fin 256) (l : Fin 128) :
    k0_pay28 p C S (ix2 r l) = p (ix2 r (⟨2432 + l.val, by omega⟩ : Fin 4608)) * C (ix2 r l)
      + p (ix2 r (⟨4224 + l.val, by omega⟩ : Fin 4608)) * S (ix2 r l) := by
  pointwise [k0_pay28]

/-- Head 10's plain part. -/
theorem plain10 (p : FVec Ideal S256x4608 .f32) (r : Fin 256) (l : Fin 128) :
    k0_pay29 p (ix2 r l) = p (ix2 r (⟨2560 + l.val, by omega⟩ : Fin 4608)) * scale := by
  pointwise [k0_pay29]
  rfl

/-- Head 10's turned part. -/
theorem turned10 (p : FVec Ideal S256x4608 .f32) (C S : FVec Ideal S256x128 .f32) (r : Fin 256) (l : Fin 128) :
    k0_pay1 p C S (ix2 r l) = p (ix2 r (⟨2688 + l.val, by omega⟩ : Fin 4608)) * C (ix2 r l)
      + p (ix2 r (⟨4352 + l.val, by omega⟩ : Fin 4608)) * S (ix2 r l) := by
  pointwise [k0_pay1]

/-- Head 11's plain part. -/
theorem plain11 (p : FVec Ideal S256x4608 .f32) (r : Fin 256) (l : Fin 128) :
    k0_pay2 p (ix2 r l) = p (ix2 r (⟨2816 + l.val, by omega⟩ : Fin 4608)) * scale := by
  pointwise [k0_pay2]
  rfl

/-- Head 11's turned part. -/
theorem turned11 (p : FVec Ideal S256x4608 .f32) (C S : FVec Ideal S256x128 .f32) (r : Fin 256) (l : Fin 128) :
    k0_pay3 p C S (ix2 r l) = p (ix2 r (⟨2944 + l.val, by omega⟩ : Fin 4608)) * C (ix2 r l)
      + p (ix2 r (⟨4480 + l.val, by omega⟩ : Fin 4608)) * S (ix2 r l) := by
  pointwise [k0_pay3]

/-- The weights, head by head. -/
def heads (w : FVec Ideal S512x2304 .f32) : FVec Ideal S512x12x192 .f32 := shapeCast S512x12x192 w shapeCasts_S512x2304_S512x12x192

/-- A head's weight. -/
theorem heads_at (w : FVec Ideal S512x2304 .f32) (j : Fin 512) (a : Fin 12) (u : Fin 192) :
    heads w (ix3 j a u) = w (ix2 j ⟨192 * a.val + u.val, by omega⟩) := by
  pointwise [heads]
  all_goals exact congrArg (fun k => w (ix2 j k)) (Fin.ext (by simp only; omega))

/-- Zeros beside the weights. -/
def zeros : FVec Ideal S512x12x64 .f32 := broadcastInDim S512x12x64 ![] bcast_S_S512x12x64 (constant (F := Ideal) S_ .f32 0x00000000#32)

/-- The rotary part of the weights. -/
def part (x : FVec Ideal S512x12x192 .f32) : FVec Ideal S512x12x64 .f32 :=
  extractStridedSlice S512x12x64 ![0, 0, 128] x slices_S512x12x192_S512x12x64_0_0_128

/-- The heads' weights with zeros after them. -/
def wide (x : FVec Ideal S512x12x192 .f32) : FVec Ideal S512x12x256 .f32 :=
  concatenate S512x12x256 2 [⟨S512x12x128, (extractStridedSlice S512x12x128 ![0, 0, 0] x slices_S512x12x192_S512x12x128_0_0_0 : FVec Ideal S512x12x128 .f32)⟩, ⟨S512x12x64, (part x : FVec Ideal S512x12x64 .f32)⟩, ⟨S512x12x64, (zeros : FVec Ideal S512x12x64 .f32)⟩] concatenates_S512x12x128_S512x12x64_S512x12x64_S512x12x256_d2

/-- An entry of those. -/
theorem wide_at (x : FVec Ideal S512x12x192 .f32) (j : Fin 512) (a : Fin 12) (u : Fin 256) :
    wide x (ix3 j a u) = if _h : u.val < 128 then x (ix3 j a ⟨u.val, by omega⟩)
      else if _h : u.val - 128 < 64 then x (ix3 j a ⟨128 + (u.val - 128), by omega⟩) else 0 := by
  pointwise [wide, part, zeros]

/-- The rotary part with its halves exchanged and the first of them negated. -/
def crossed (y : FVec Ideal S512x12x64 .f32) : FVec Ideal S512x12x64 .f32 :=
  concatenate S512x12x64 2 [⟨S512x12x32, (Host.negf (extractStridedSlice S512x12x32 ![0, 0, 32] y slices_S512x12x64_S512x12x32_0_0_32) : FVec Ideal S512x12x32 .f32)⟩, ⟨S512x12x32, (extractStridedSlice S512x12x32 ![0, 0, 0] y slices_S512x12x64_S512x12x32_0_0_0 : FVec Ideal S512x12x32 .f32)⟩] concatenates_S512x12x32_S512x12x32_S512x12x64_d2

/-- An entry of those. -/
theorem crossed_at (x : FVec Ideal S512x12x192 .f32) (j : Fin 512) (a : Fin 12) (u : Fin 64) :
    crossed (part x) (ix3 j a u) = if _h : u.val < 32 then -x (ix3 j a ⟨128 + (32 + u.val), by omega⟩)
      else x (ix3 j a ⟨128 + (u.val - 32), by omega⟩) := by
  pointwise [crossed, part]
  all_goals rfl

/-- Those with zeros after them. -/
def half (y : FVec Ideal S512x12x64 .f32) : FVec Ideal S512x12x128 .f32 :=
  concatenate S512x12x128 2 [⟨S512x12x64, (y : FVec Ideal S512x12x64 .f32)⟩, ⟨S512x12x64, (zeros : FVec Ideal S512x12x64 .f32)⟩] concatenates_S512x12x64_S512x12x64_S512x12x128_d2

/-- An entry of those. -/
theorem half_at (y : FVec Ideal S512x12x64 .f32) (j : Fin 512) (a : Fin 12) (u : Fin 128) :
    half y (ix3 j a u) = if _h : u.val < 64 then y (ix3 j a ⟨u.val, by omega⟩) else 0 := by
  pointwise [half, zeros]

/-- Both laid side by side. -/
def beside (x : FVec Ideal S512x12x256 .f32) (y : FVec Ideal S512x12x128 .f32) : FVec Ideal S512x4608 .bf16 :=
  truncf .bf16 (concatenate S512x4608 1 [⟨S512x3072, (shapeCast S512x3072 x shapeCasts_S512x12x256_S512x3072 : FVec Ideal S512x3072 .f32)⟩, ⟨S512x1536, (shapeCast S512x1536 y shapeCasts_S512x12x128_S512x1536 : FVec Ideal S512x1536 .f32)⟩] concatenates_S512x3072_S512x1536_S512x4608_d1) bitsLt_bf16_f32

/-- A column of the first. -/
theorem beside_left (x : FVec Ideal S512x12x256 .f32) (y : FVec Ideal S512x12x128 .f32) (j : Fin 512) (a : Fin 12) (u : Fin 256) :
    beside x y (ix2 j ⟨256 * a.val + u.val, by omega⟩) = x (ix3 j a u) := by
  pointwise [beside]
  rw [dif_pos (by omega)]

/-- A column of the second. -/
theorem beside_right (x : FVec Ideal S512x12x256 .f32) (y : FVec Ideal S512x12x128 .f32) (j : Fin 512) (a : Fin 12) (u : Fin 128) :
    beside x y (ix2 j ⟨3072 + (128 * a.val + u.val), by omega⟩) = y (ix3 j a u) := by
  pointwise [beside]
  all_goals exact congr (congrArg (fun k l => y (ix3 j k l)) (Fin.ext (by first | omega | (simp only; omega)))) (Fin.ext (by first | omega | (simp only; omega)))

/-- The weights as the kernel lays them out. -/
def packed (w : FVec Ideal S512x2304 .f32) : FVec Ideal S512x4608 .bf16 := beside (wide (heads w)) (half (crossed (part (heads w))))

section products

variable {f g : Fin 512 → EReal} (w : FVec Ideal S512x2304 .f32) (a : Fin 12)

/-- A head's product with its own weights. -/
theorem up_own (u : Fin 256) (h : u.val < 192) :
    up f g (packed w) ⟨256 * a.val + u.val, by omega⟩ = up f g w ⟨192 * a.val + u.val, by omega⟩ := by
  refine Query.up_eq fun j => ?_
  rw [packed, beside_left, wide_at]
  by_cases h1 : u.val < 128
  · rw [dif_pos h1, heads_at]
  · rw [dif_neg h1, dif_pos (by omega), heads_at]
    exact congrArg (fun k => w (ix2 j k)) (Fin.ext (by simp only; omega))

/-- A head's product with the zeros. -/
theorem up_none (u : Fin 256) (h : ¬u.val < 192) : up f g (packed w) ⟨256 * a.val + u.val, by omega⟩ = 0 := by
  refine Query.up_zero fun j => ?_
  rw [packed, beside_left, wide_at, dif_neg (by omega), dif_neg (by omega)]

/-- A head's product with the negated half. -/
theorem up_crossed (hf : ∀ e, IsReal (f e)) (hg : ∀ e, IsReal (g e)) (hw : ∀ j k, IsReal (w (ix2 j k))) (u : Fin 128)
    (h : u.val < 32) : up f g (packed w) ⟨3072 + (128 * a.val + u.val), by omega⟩
      = -up f g w ⟨192 * a.val + (128 + u.val) + 32, by omega⟩ := by
  refine Query.up_neg hf hg hw fun j => ?_
  rw [packed, beside_right, half_at, dif_pos (by omega), crossed_at, dif_pos h, heads_at]
  exact congrArg (fun k => -w (ix2 j k)) (Fin.ext (by simp only; omega))

/-- A head's product with the other half. -/
theorem up_other (u : Fin 128) (h : ¬u.val < 32) (h' : u.val < 64) :
    up f g (packed w) ⟨3072 + (128 * a.val + u.val), by omega⟩ = up f g w ⟨192 * a.val + (128 + u.val - 32), by omega⟩ := by
  refine Query.up_eq fun j => ?_
  rw [packed, beside_right, half_at, dif_pos h', crossed_at, dif_neg h, heads_at]
  exact congrArg (fun k => w (ix2 j k)) (Fin.ext (by simp only; omega))

/-- A head's product with the zeros after the halves. -/
theorem up_last (u : Fin 128) (h : ¬u.val < 64) : up f g (packed w) ⟨3072 + (128 * a.val + u.val), by omega⟩ = 0 := by
  refine Query.up_zero fun j => ?_
  rw [packed, beside_right, half_at, dif_neg h]

/-- A head's plain part is the query's. -/
theorem plain_query (c s : Fin 32 → EReal) (l : Fin 128) :
    up f g (packed w) ⟨256 * a.val + l.val, by omega⟩ * scale = query (up f g w) c s a ⟨l.val, by omega⟩ := by
  rw [query, dif_pos l.isLt, up_own w a ⟨l.val, by omega⟩ (by simp only; omega)]

/-- A head's turned part is the query's. -/
theorem turned_query (hf : ∀ e, IsReal (f e)) (hg : ∀ e, IsReal (g e)) (hw : ∀ j k, IsReal (w (ix2 j k)))
    (cos sin : FVec Ideal S16384x32 .f32) (R : Fin 16384)
    (l : Fin 128) : up f g (packed w) ⟨256 * a.val + (128 + l.val), by omega⟩ * (lanes cos R l * scale)
      + up f g (packed w) ⟨3072 + (128 * a.val + l.val), by omega⟩ * (lanes sin R l * scale)
        = query (up f g w) (fun d => cos (ix2 R d)) (fun d => sin (ix2 R d)) a ⟨128 + l.val, by omega⟩ := by
  rw [query, dif_neg (by simp only; omega)]
  by_cases h1 : l.val < 32
  · have hl : ∀ t : FVec Ideal S16384x32 .f32, lanes t R l = t (ix2 R ⟨128 + l.val - 128, by omega⟩) := fun t => by
      rw [lanes, dif_pos (by omega), dif_pos h1]
      exact congrArg (fun d => t (ix2 R d)) (Fin.ext (by simp only; omega))
    rw [dif_pos (by simp only; omega), hl, hl, up_own w a ⟨128 + l.val, by omega⟩ (by simp only; omega),
      up_crossed w a hf hg hw l h1]
    exact Query.turn_first _ _ _ _
  · rw [dif_neg (by simp only; omega)]
    by_cases h2 : l.val < 64
    · have hl : ∀ t : FVec Ideal S16384x32 .f32, lanes t R l = t (ix2 R ⟨128 + l.val - 160, by omega⟩) := fun t => by
        rw [lanes, dif_pos h2, dif_neg h1]
        exact congrArg (fun d => t (ix2 R d)) (Fin.ext (by simp only; omega))
      rw [dif_pos (by simp only; omega), hl, hl, up_own w a ⟨128 + l.val, by omega⟩ (by simp only; omega), up_other w a l h1 h2]
      exact Query.turn_second _ _ _ _
    · rw [dif_neg (by simp only; omega), lanes, lanes, dif_neg h2, dif_neg h2, zero_mul, mul_zero, mul_zero, add_zero]

end products

/-- The word of zero denotes zero. -/
theorem zero_word : (FloatOps.sitofp FTy.f32 0#32 : Ideal .f32) = 0 := by
  simp [FloatOps.sitofp]

/-- A rotary table as the kernel lays it out. -/
def table (t : FVec Ideal S16384x32 .f32) : FVec Ideal S16384x128 .f32 :=
  pad S16384x128 ![0, 0] ![0, 64] ![0, 0] (concatenate S16384x64 1 [⟨S16384x32, t⟩, ⟨S16384x32, t⟩] concatenates_S16384x32_S16384x32_S16384x64_d1) (sitofp .f32 (constantI S_ 32 0#32)) pads_S16384x64_S16384x128_000_0640 h_S_

/-- A rotary table's entry. -/
theorem table_at (t : FVec Ideal S16384x32 .f32) (r : Fin 16384) (l : Fin 128) : table t (ix2 r l) = lanes t r l := by
  rw [lanes, ← zero_word]
  pointwise [table]

variable (m : (ℓ : Loc nD τ sig) → Buf (Elt Ideal) ℓ) (c : Dev nD)

/-- The weights the call is given are the laid-out weights. -/
theorem V_packed : V m c main_v24 = packed (m ((c.tc : Thread nD τ).loc main_arg2)) := by
  simp only [V, hostOps0, hostOps0_1, hostOps0_2, hostOps0_3, List.flatten_cons, List.flatten_nil, List.append_nil, List.cons_append,
    List.nil_append]
  after_results_simp
  rfl

/-- The cosines the call is given. -/
theorem V_cos : V m c main_v33 = table (m ((c.tc : Thread nD τ).loc main_arg3)) := by
  simp only [V, hostOps0, hostOps0_1, hostOps0_2, hostOps0_3, List.flatten_cons, List.flatten_nil, List.append_nil, List.cons_append,
    List.nil_append]
  after_results_simp
  rfl

/-- The sines the call is given. -/
theorem V_sin : V m c main_v35 = table (m ((c.tc : Thread nD τ).loc main_arg4)) := by
  simp only [V, hostOps0, hostOps0_1, hostOps0_2, hostOps0_3, List.flatten_cons, List.flatten_nil, List.append_nil, List.cons_append,
    List.nil_append]
  after_results_simp
  rfl

/-- The blocks a grid point works on: 256 rows. -/
theorem idx : ∀ t : Fin cfg0.N,
    win0_0.index t = ![t.val, 0] ∧ win0_1.index t = ![0, 0] ∧ win0_2.index t = ![0, 0] ∧ win0_3.index t = ![t.val, 0]
    ∧ win0_4.index t = ![t.val, 0] ∧ win0_5.index t = ![t.val, 0] ∧ t.val < 64 :=
  (by decide +kernel : ∀ t : Fin grid0.N, _)

/-- The latents' blocks. -/
theorem x_at (t : Fin cfg0.N) (r : Fin 256) (d : Fin 512) (R : Fin 16384) (D : Fin 1664) (hR : R.val = 256 * t.val + r.val)
    (hD : D.val = d.val) : X0_0 m c t (ix2 r d) = m ((c.tc : Thread nD τ).loc main_arg0) (ix2 R D) := by
  rw [← V_main_arg0 m c]
  unfold X0_0 Pipeline.Window.fill
  rw [dif_pos (moved0_0 t _)]
  blk_ext [iblk, idx t]

/-- The gain. -/
theorem g_at (t : Fin cfg0.N) (d : Fin 512) : iblk m c 1 t (ix2 0 d) = m ((c.tc : Thread nD τ).loc main_arg1) (ix2 0 d) := by
  rw [← V_main_arg1 m c]
  blk_ext [iblk, idx t]

/-- The weights. -/
theorem w_at (t : Fin cfg0.N) (j : Fin 512) (k : Fin 4608) : iblk m c 2 t (ix2 j k) = packed (m ((c.tc : Thread nD τ).loc main_arg2)) (ix2 j k) := by
  rw [← V_packed]
  blk_ext [iblk, idx t]

/-- The cosines' blocks. -/
theorem cos_at (t : Fin cfg0.N) (r : Fin 256) (l : Fin 128) (R : Fin 16384) (hR : R.val = 256 * t.val + r.val) :
    iblk m c 3 t (ix2 r l) = lanes (m ((c.tc : Thread nD τ).loc main_arg3)) R l := by
  rw [← table_at, ← V_cos]
  blk_ext [iblk, idx t]

/-- The sines' blocks. -/
theorem sin_at (t : Fin cfg0.N) (r : Fin 256) (l : Fin 128) (R : Fin 16384) (hR : R.val = 256 * t.val + r.val) :
    iblk m c 4 t (ix2 r l) = lanes (m ((c.tc : Thread nD τ).loc main_arg4)) R l := by
  rw [← table_at, ← V_sin]
  blk_ext [iblk, idx t]

/-- A row's latents. -/
def row (R : Fin 16384) (d : Fin 512) : EReal := m ((c.tc : Thread nD τ).loc main_arg0) (ix2 R ⟨d.val, by omega⟩)

/-- The gain of the arguments. -/
def gain (d : Fin 512) : EReal := m ((c.tc : Thread nD τ).loc main_arg1) (ix2 0 d)

/-- A block's products. -/
theorem block_at (t : Fin cfg0.N) (r : Fin 256) (k : Fin 4608) (R : Fin 16384) (hR : R.val = 256 * t.val + r.val) :
    k0_pay4 (X0_0 m c t) (iblk m c 1 t) (iblk m c 2 t) (ix2 r k) = up (row m c R) (gain m c) (packed (m ((c.tc : Thread nD τ).loc main_arg2))) k := by
  refine (pay_at _ _ _ r k).trans ?_
  refine Finset.sum_congr rfl fun j _ => Ideal.mul_congr ?_ (w_at m c t j k)
  exact Up.rms_congr (fun d => x_at m c t r d R _ hR rfl) (fun d => g_at m c t d) j

/-- The queries of the arguments, as one array. -/
def G : Vec Ideal S16384x3072 .bf16 := fun i =>
  query (up (row m c (i 0)) (gain m c) (m ((c.tc : Thread nD τ).loc main_arg2))) (fun d => m ((c.tc : Thread nD τ).loc main_arg3) (ix2 (i 0) d)) (fun d => m ((c.tc : Thread nD τ).loc main_arg4) (ix2 (i 0) d))
    ⟨(i 1).val / 256, by have := (i 1).isLt; simp only [Matrix.cons_val_one, Matrix.cons_val_fin_one] at this; omega⟩
    ⟨(i 1).val % 256, by omega⟩

/-- An entry of that array. -/
theorem G_at (R : Fin 16384) (e : Fin 3072) (a : Fin 12) (u : Fin 256) (h : e.val = 256 * a.val + u.val) :
    G m c (ix2 R e) = query (up (row m c R) (gain m c) (m ((c.tc : Thread nD τ).loc main_arg2))) (fun d => m ((c.tc : Thread nD τ).loc main_arg3) (ix2 R d)) (fun d => m ((c.tc : Thread nD τ).loc main_arg4) (ix2 R d)) a u := by
  have ea : (⟨e.val / 256, by omega⟩ : Fin 12) = a := Fin.ext (by simp only; omega)
  have eu : (⟨e.val % 256, by omega⟩ : Fin 256) = u := Fin.ext (by simp only; omega)
  exact congr (congrArg (query _ _ _) ea) eu

/-- A head's plain part of a block. -/
theorem plain_at (t : Fin cfg0.N) (r : Fin 256) (l : Fin 128) (a : Fin 12) (k : Fin 4608) (e : Fin 3072) (R : Fin 16384)
    (hR : R.val = 256 * t.val + r.val) (hk : k.val = 256 * a.val + l.val) (he : e.val = 256 * a.val + l.val) :
    k0_pay4 (X0_0 m c t) (iblk m c 1 t) (iblk m c 2 t) (ix2 r k) * scale = G m c (ix2 R e) := by
  rw [show k = ⟨256 * a.val + l.val, by omega⟩ from Fin.ext hk]
  rw [G_at m c R e a ⟨l.val, by omega⟩ he, block_at m c t r _ R hR]
  exact plain_query _ a _ _ l

section real

variable (hx : ∀ (r : Fin 16384) (d : Fin 512), IsReal (m ((c.tc : Thread nD τ).loc main_arg0) (ix2 r (⟨d.val, by omega⟩ : Fin 1664))))
  (hg : ∀ d : Fin 512, IsReal (m ((c.tc : Thread nD τ).loc main_arg1) (ix2 (0 : Fin 1) d)))
  (hw : ∀ (j : Fin 512) (k : Fin 2304), IsReal (m ((c.tc : Thread nD τ).loc main_arg2) (ix2 j k)))
include hx hg hw

/-- A head's turned part of a block. -/
theorem turned_at (t : Fin cfg0.N) (r : Fin 256) (l : Fin 128) (a : Fin 12) (k n : Fin 4608) (e : Fin 3072) (R : Fin 16384)
    (hR : R.val = 256 * t.val + r.val) (hk : k.val = 256 * a.val + (128 + l.val)) (hn : n.val = 3072 + (128 * a.val + l.val))
    (he : e.val = 256 * a.val + (128 + l.val)) :
    k0_pay4 (X0_0 m c t) (iblk m c 1 t) (iblk m c 2 t) (ix2 r k) * k0_pay5 (iblk m c 3 t) (ix2 r l)
      + k0_pay4 (X0_0 m c t) (iblk m c 1 t) (iblk m c 2 t) (ix2 r n) * k0_pay6 (iblk m c 4 t) (ix2 r l) = G m c (ix2 R e) := by
  rw [show k = ⟨256 * a.val + (128 + l.val), by clear hk hn he; omega⟩ from Fin.ext hk,
    show n = ⟨3072 + (128 * a.val + l.val), by clear hk hn he; omega⟩ from Fin.ext hn]
  rw [G_at m c R e a ⟨128 + l.val, by omega⟩ he, block_at m c t r _ R hR, block_at m c t r _ R hR, cs_at, ss_at,
    cos_at m c t r l R hR, sin_at m c t r l R hR]
  exact turned_query _ a (fun d => hx R d) hg hw _ _ R l

set_option maxHeartbeats 2000000 in
/-- The kernel's result is that array. -/
theorem final : (dats m 0 c).arrAt 5 cfg0.N = G m c := by
  refine (dats m 0 c).arrAt_eq_of_covers 5 _ (by decide +kernel) fun t hf y => ?_
  obtain ⟨-, -, -, -, -, i5, hN⟩ := idx t
  blk_simp
  rw [after0_5]
  unfold outsAt0
  frame_out
  canon_tiles x h
  · obtain ⟨r, l, rfl⟩ : ∃ (r : Fin 256) (l : Fin 128), x = ix2 r l := ⟨x 0, x 1, by funext a; fin_cases a <;> rfl⟩
    replace h0 : (y 0).val = r.val := h0
    replace h1 : (y 1).val = 2944 + l.val := h1
    have he : ((View.whole main_v36).slice (win0_5.rect t)).emb y = ix2 (⟨256 * t.val + r.val, by omega⟩ : Fin 16384)
        (⟨2944 + l.val, by omega⟩ : Fin 3072) := by
      blk_ext [i5]
    refine Eq.trans ?_ (congrArg (G m c) he).symm
    refine (turned11 _ _ _ r l).trans ?_
    exact turned_at m c hx hg hw t r l 11 _ _ _ _ rfl (by simp only [Fin.isValue, Fin.coe_ofNat_eq_mod] <;> omega) (by simp only [Fin.isValue, Fin.coe_ofNat_eq_mod] <;> omega) (by simp only [Fin.isValue, Fin.coe_ofNat_eq_mod] <;> omega)
  · obtain ⟨r, l, rfl⟩ : ∃ (r : Fin 256) (l : Fin 128), x = ix2 r l := ⟨x 0, x 1, by funext a; fin_cases a <;> rfl⟩
    replace h0 : (y 0).val = r.val := h0
    replace h1 : (y 1).val = 2816 + l.val := h1
    have he : ((View.whole main_v36).slice (win0_5.rect t)).emb y = ix2 (⟨256 * t.val + r.val, by omega⟩ : Fin 16384)
        (⟨2816 + l.val, by omega⟩ : Fin 3072) := by
      blk_ext [i5]
    refine Eq.trans ?_ (congrArg (G m c) he).symm
    refine (plain11 _ r l).trans ?_
    exact plain_at m c t r l 11 _ _ _ rfl (by simp only [Fin.isValue, Fin.coe_ofNat_eq_mod] <;> omega) (by simp only [Fin.isValue, Fin.coe_ofNat_eq_mod] <;> omega)
  · obtain ⟨r, l, rfl⟩ : ∃ (r : Fin 256) (l : Fin 128), x = ix2 r l := ⟨x 0, x 1, by funext a; fin_cases a <;> rfl⟩
    replace h0 : (y 0).val = r.val := h0
    replace h1 : (y 1).val = 2688 + l.val := h1
    have he : ((View.whole main_v36).slice (win0_5.rect t)).emb y = ix2 (⟨256 * t.val + r.val, by omega⟩ : Fin 16384)
        (⟨2688 + l.val, by omega⟩ : Fin 3072) := by
      blk_ext [i5]
    refine Eq.trans ?_ (congrArg (G m c) he).symm
    refine (turned10 _ _ _ r l).trans ?_
    exact turned_at m c hx hg hw t r l 10 _ _ _ _ rfl (by simp only [Fin.isValue, Fin.coe_ofNat_eq_mod] <;> omega) (by simp only [Fin.isValue, Fin.coe_ofNat_eq_mod] <;> omega) (by simp only [Fin.isValue, Fin.coe_ofNat_eq_mod] <;> omega)
  · obtain ⟨r, l, rfl⟩ : ∃ (r : Fin 256) (l : Fin 128), x = ix2 r l := ⟨x 0, x 1, by funext a; fin_cases a <;> rfl⟩
    replace h0 : (y 0).val = r.val := h0
    replace h1 : (y 1).val = 2560 + l.val := h1
    have he : ((View.whole main_v36).slice (win0_5.rect t)).emb y = ix2 (⟨256 * t.val + r.val, by omega⟩ : Fin 16384)
        (⟨2560 + l.val, by omega⟩ : Fin 3072) := by
      blk_ext [i5]
    refine Eq.trans ?_ (congrArg (G m c) he).symm
    refine (plain10 _ r l).trans ?_
    exact plain_at m c t r l 10 _ _ _ rfl (by simp only [Fin.isValue, Fin.coe_ofNat_eq_mod] <;> omega) (by simp only [Fin.isValue, Fin.coe_ofNat_eq_mod] <;> omega)
  · obtain ⟨r, l, rfl⟩ : ∃ (r : Fin 256) (l : Fin 128), x = ix2 r l := ⟨x 0, x 1, by funext a; fin_cases a <;> rfl⟩
    replace h0 : (y 0).val = r.val := h0
    replace h1 : (y 1).val = 2432 + l.val := h1
    have he : ((View.whole main_v36).slice (win0_5.rect t)).emb y = ix2 (⟨256 * t.val + r.val, by omega⟩ : Fin 16384)
        (⟨2432 + l.val, by omega⟩ : Fin 3072) := by
      blk_ext [i5]
    refine Eq.trans ?_ (congrArg (G m c) he).symm
    refine (turned9 _ _ _ r l).trans ?_
    exact turned_at m c hx hg hw t r l 9 _ _ _ _ rfl (by simp only [Fin.isValue, Fin.coe_ofNat_eq_mod] <;> omega) (by simp only [Fin.isValue, Fin.coe_ofNat_eq_mod] <;> omega) (by simp only [Fin.isValue, Fin.coe_ofNat_eq_mod] <;> omega)
  · obtain ⟨r, l, rfl⟩ : ∃ (r : Fin 256) (l : Fin 128), x = ix2 r l := ⟨x 0, x 1, by funext a; fin_cases a <;> rfl⟩
    replace h0 : (y 0).val = r.val := h0
    replace h1 : (y 1).val = 2304 + l.val := h1
    have he : ((View.whole main_v36).slice (win0_5.rect t)).emb y = ix2 (⟨256 * t.val + r.val, by omega⟩ : Fin 16384)
        (⟨2304 + l.val, by omega⟩ : Fin 3072) := by
      blk_ext [i5]
    refine Eq.trans ?_ (congrArg (G m c) he).symm
    refine (plain9 _ r l).trans ?_
    exact plain_at m c t r l 9 _ _ _ rfl (by simp only [Fin.isValue, Fin.coe_ofNat_eq_mod] <;> omega) (by simp only [Fin.isValue, Fin.coe_ofNat_eq_mod] <;> omega)
  · obtain ⟨r, l, rfl⟩ : ∃ (r : Fin 256) (l : Fin 128), x = ix2 r l := ⟨x 0, x 1, by funext a; fin_cases a <;> rfl⟩
    replace h0 : (y 0).val = r.val := h0
    replace h1 : (y 1).val = 2176 + l.val := h1
    have he : ((View.whole main_v36).slice (win0_5.rect t)).emb y = ix2 (⟨256 * t.val + r.val, by omega⟩ : Fin 16384)
        (⟨2176 + l.val, by omega⟩ : Fin 3072) := by
      blk_ext [i5]
    refine Eq.trans ?_ (congrArg (G m c) he).symm
    refine (turned8 _ _ _ r l).trans ?_
    exact turned_at m c hx hg hw t r l 8 _ _ _ _ rfl (by simp only [Fin.isValue, Fin.coe_ofNat_eq_mod] <;> omega) (by simp only [Fin.isValue, Fin.coe_ofNat_eq_mod] <;> omega) (by simp only [Fin.isValue, Fin.coe_ofNat_eq_mod] <;> omega)
  · obtain ⟨r, l, rfl⟩ : ∃ (r : Fin 256) (l : Fin 128), x = ix2 r l := ⟨x 0, x 1, by funext a; fin_cases a <;> rfl⟩
    replace h0 : (y 0).val = r.val := h0
    replace h1 : (y 1).val = 2048 + l.val := h1
    have he : ((View.whole main_v36).slice (win0_5.rect t)).emb y = ix2 (⟨256 * t.val + r.val, by omega⟩ : Fin 16384)
        (⟨2048 + l.val, by omega⟩ : Fin 3072) := by
      blk_ext [i5]
    refine Eq.trans ?_ (congrArg (G m c) he).symm
    refine (plain8 _ r l).trans ?_
    exact plain_at m c t r l 8 _ _ _ rfl (by simp only [Fin.isValue, Fin.coe_ofNat_eq_mod] <;> omega) (by simp only [Fin.isValue, Fin.coe_ofNat_eq_mod] <;> omega)
  · obtain ⟨r, l, rfl⟩ : ∃ (r : Fin 256) (l : Fin 128), x = ix2 r l := ⟨x 0, x 1, by funext a; fin_cases a <;> rfl⟩
    replace h0 : (y 0).val = r.val := h0
    replace h1 : (y 1).val = 1920 + l.val := h1
    have he : ((View.whole main_v36).slice (win0_5.rect t)).emb y = ix2 (⟨256 * t.val + r.val, by omega⟩ : Fin 16384)
        (⟨1920 + l.val, by omega⟩ : Fin 3072) := by
      blk_ext [i5]
    refine Eq.trans ?_ (congrArg (G m c) he).symm
    refine (turned7 _ _ _ r l).trans ?_
    exact turned_at m c hx hg hw t r l 7 _ _ _ _ rfl (by simp only [Fin.isValue, Fin.coe_ofNat_eq_mod] <;> omega) (by simp only [Fin.isValue, Fin.coe_ofNat_eq_mod] <;> omega) (by simp only [Fin.isValue, Fin.coe_ofNat_eq_mod] <;> omega)
  · obtain ⟨r, l, rfl⟩ : ∃ (r : Fin 256) (l : Fin 128), x = ix2 r l := ⟨x 0, x 1, by funext a; fin_cases a <;> rfl⟩
    replace h0 : (y 0).val = r.val := h0
    replace h1 : (y 1).val = 1792 + l.val := h1
    have he : ((View.whole main_v36).slice (win0_5.rect t)).emb y = ix2 (⟨256 * t.val + r.val, by omega⟩ : Fin 16384)
        (⟨1792 + l.val, by omega⟩ : Fin 3072) := by
      blk_ext [i5]
    refine Eq.trans ?_ (congrArg (G m c) he).symm
    refine (plain7 _ r l).trans ?_
    exact plain_at m c t r l 7 _ _ _ rfl (by simp only [Fin.isValue, Fin.coe_ofNat_eq_mod] <;> omega) (by simp only [Fin.isValue, Fin.coe_ofNat_eq_mod] <;> omega)
  · obtain ⟨r, l, rfl⟩ : ∃ (r : Fin 256) (l : Fin 128), x = ix2 r l := ⟨x 0, x 1, by funext a; fin_cases a <;> rfl⟩
    replace h0 : (y 0).val = r.val := h0
    replace h1 : (y 1).val = 1664 + l.val := h1
    have he : ((View.whole main_v36).slice (win0_5.rect t)).emb y = ix2 (⟨256 * t.val + r.val, by omega⟩ : Fin 16384)
        (⟨1664 + l.val, by omega⟩ : Fin 3072) := by
      blk_ext [i5]
    refine Eq.trans ?_ (congrArg (G m c) he).symm
    refine (turned6 _ _ _ r l).trans ?_
    exact turned_at m c hx hg hw t r l 6 _ _ _ _ rfl (by simp only [Fin.isValue, Fin.coe_ofNat_eq_mod] <;> omega) (by simp only [Fin.isValue, Fin.coe_ofNat_eq_mod] <;> omega) (by simp only [Fin.isValue, Fin.coe_ofNat_eq_mod] <;> omega)
  · obtain ⟨r, l, rfl⟩ : ∃ (r : Fin 256) (l : Fin 128), x = ix2 r l := ⟨x 0, x 1, by funext a; fin_cases a <;> rfl⟩
    replace h0 : (y 0).val = r.val := h0
    replace h1 : (y 1).val = 1536 + l.val := h1
    have he : ((View.whole main_v36).slice (win0_5.rect t)).emb y = ix2 (⟨256 * t.val + r.val, by omega⟩ : Fin 16384)
        (⟨1536 + l.val, by omega⟩ : Fin 3072) := by
      blk_ext [i5]
    refine Eq.trans ?_ (congrArg (G m c) he).symm
    refine (plain6 _ r l).trans ?_
    exact plain_at m c t r l 6 _ _ _ rfl (by simp only [Fin.isValue, Fin.coe_ofNat_eq_mod] <;> omega) (by simp only [Fin.isValue, Fin.coe_ofNat_eq_mod] <;> omega)
  · obtain ⟨r, l, rfl⟩ : ∃ (r : Fin 256) (l : Fin 128), x = ix2 r l := ⟨x 0, x 1, by funext a; fin_cases a <;> rfl⟩
    replace h0 : (y 0).val = r.val := h0
    replace h1 : (y 1).val = 1408 + l.val := h1
    have he : ((View.whole main_v36).slice (win0_5.rect t)).emb y = ix2 (⟨256 * t.val + r.val, by omega⟩ : Fin 16384)
        (⟨1408 + l.val, by omega⟩ : Fin 3072) := by
      blk_ext [i5]
    refine Eq.trans ?_ (congrArg (G m c) he).symm
    refine (turned5 _ _ _ r l).trans ?_
    exact turned_at m c hx hg hw t r l 5 _ _ _ _ rfl (by simp only [Fin.isValue, Fin.coe_ofNat_eq_mod] <;> omega) (by simp only [Fin.isValue, Fin.coe_ofNat_eq_mod] <;> omega) (by simp only [Fin.isValue, Fin.coe_ofNat_eq_mod] <;> omega)
  · obtain ⟨r, l, rfl⟩ : ∃ (r : Fin 256) (l : Fin 128), x = ix2 r l := ⟨x 0, x 1, by funext a; fin_cases a <;> rfl⟩
    replace h0 : (y 0).val = r.val := h0
    replace h1 : (y 1).val = 1280 + l.val := h1
    have he : ((View.whole main_v36).slice (win0_5.rect t)).emb y = ix2 (⟨256 * t.val + r.val, by omega⟩ : Fin 16384)
        (⟨1280 + l.val, by omega⟩ : Fin 3072) := by
      blk_ext [i5]
    refine Eq.trans ?_ (congrArg (G m c) he).symm
    refine (plain5 _ r l).trans ?_
    exact plain_at m c t r l 5 _ _ _ rfl (by simp only [Fin.isValue, Fin.coe_ofNat_eq_mod] <;> omega) (by simp only [Fin.isValue, Fin.coe_ofNat_eq_mod] <;> omega)
  · obtain ⟨r, l, rfl⟩ : ∃ (r : Fin 256) (l : Fin 128), x = ix2 r l := ⟨x 0, x 1, by funext a; fin_cases a <;> rfl⟩
    replace h0 : (y 0).val = r.val := h0
    replace h1 : (y 1).val = 1152 + l.val := h1
    have he : ((View.whole main_v36).slice (win0_5.rect t)).emb y = ix2 (⟨256 * t.val + r.val, by omega⟩ : Fin 16384)
        (⟨1152 + l.val, by omega⟩ : Fin 3072) := by
      blk_ext [i5]
    refine Eq.trans ?_ (congrArg (G m c) he).symm
    refine (turned4 _ _ _ r l).trans ?_
    exact turned_at m c hx hg hw t r l 4 _ _ _ _ rfl (by simp only [Fin.isValue, Fin.coe_ofNat_eq_mod] <;> omega) (by simp only [Fin.isValue, Fin.coe_ofNat_eq_mod] <;> omega) (by simp only [Fin.isValue, Fin.coe_ofNat_eq_mod] <;> omega)
  · obtain ⟨r, l, rfl⟩ : ∃ (r : Fin 256) (l : Fin 128), x = ix2 r l := ⟨x 0, x 1, by funext a; fin_cases a <;> rfl⟩
    replace h0 : (y 0).val = r.val := h0
    replace h1 : (y 1).val = 1024 + l.val := h1
    have he : ((View.whole main_v36).slice (win0_5.rect t)).emb y = ix2 (⟨256 * t.val + r.val, by omega⟩ : Fin 16384)
        (⟨1024 + l.val, by omega⟩ : Fin 3072) := by
      blk_ext [i5]
    refine Eq.trans ?_ (congrArg (G m c) he).symm
    refine (plain4 _ r l).trans ?_
    exact plain_at m c t r l 4 _ _ _ rfl (by simp only [Fin.isValue, Fin.coe_ofNat_eq_mod] <;> omega) (by simp only [Fin.isValue, Fin.coe_ofNat_eq_mod] <;> omega)
  · obtain ⟨r, l, rfl⟩ : ∃ (r : Fin 256) (l : Fin 128), x = ix2 r l := ⟨x 0, x 1, by funext a; fin_cases a <;> rfl⟩
    replace h0 : (y 0).val = r.val := h0
    replace h1 : (y 1).val = 896 + l.val := h1
    have he : ((View.whole main_v36).slice (win0_5.rect t)).emb y = ix2 (⟨256 * t.val + r.val, by omega⟩ : Fin 16384)
        (⟨896 + l.val, by omega⟩ : Fin 3072) := by
      blk_ext [i5]
    refine Eq.trans ?_ (congrArg (G m c) he).symm
    refine (turned3 _ _ _ r l).trans ?_
    exact turned_at m c hx hg hw t r l 3 _ _ _ _ rfl (by simp only [Fin.isValue, Fin.coe_ofNat_eq_mod] <;> omega) (by simp only [Fin.isValue, Fin.coe_ofNat_eq_mod] <;> omega) (by simp only [Fin.isValue, Fin.coe_ofNat_eq_mod] <;> omega)
  · obtain ⟨r, l, rfl⟩ : ∃ (r : Fin 256) (l : Fin 128), x = ix2 r l := ⟨x 0, x 1, by funext a; fin_cases a <;> rfl⟩
    replace h0 : (y 0).val = r.val := h0
    replace h1 : (y 1).val = 768 + l.val := h1
    have he : ((View.whole main_v36).slice (win0_5.rect t)).emb y = ix2 (⟨256 * t.val + r.val, by omega⟩ : Fin 16384)
        (⟨768 + l.val, by omega⟩ : Fin 3072) := by
      blk_ext [i5]
    refine Eq.trans ?_ (congrArg (G m c) he).symm
    refine (plain3 _ r l).trans ?_
    exact plain_at m c t r l 3 _ _ _ rfl (by simp only [Fin.isValue, Fin.coe_ofNat_eq_mod] <;> omega) (by simp only [Fin.isValue, Fin.coe_ofNat_eq_mod] <;> omega)
  · obtain ⟨r, l, rfl⟩ : ∃ (r : Fin 256) (l : Fin 128), x = ix2 r l := ⟨x 0, x 1, by funext a; fin_cases a <;> rfl⟩
    replace h0 : (y 0).val = r.val := h0
    replace h1 : (y 1).val = 640 + l.val := h1
    have he : ((View.whole main_v36).slice (win0_5.rect t)).emb y = ix2 (⟨256 * t.val + r.val, by omega⟩ : Fin 16384)
        (⟨640 + l.val, by omega⟩ : Fin 3072) := by
      blk_ext [i5]
    refine Eq.trans ?_ (congrArg (G m c) he).symm
    refine (turned2 _ _ _ r l).trans ?_
    exact turned_at m c hx hg hw t r l 2 _ _ _ _ rfl (by simp only [Fin.isValue, Fin.coe_ofNat_eq_mod] <;> omega) (by simp only [Fin.isValue, Fin.coe_ofNat_eq_mod] <;> omega) (by simp only [Fin.isValue, Fin.coe_ofNat_eq_mod] <;> omega)
  · obtain ⟨r, l, rfl⟩ : ∃ (r : Fin 256) (l : Fin 128), x = ix2 r l := ⟨x 0, x 1, by funext a; fin_cases a <;> rfl⟩
    replace h0 : (y 0).val = r.val := h0
    replace h1 : (y 1).val = 512 + l.val := h1
    have he : ((View.whole main_v36).slice (win0_5.rect t)).emb y = ix2 (⟨256 * t.val + r.val, by omega⟩ : Fin 16384)
        (⟨512 + l.val, by omega⟩ : Fin 3072) := by
      blk_ext [i5]
    refine Eq.trans ?_ (congrArg (G m c) he).symm
    refine (plain2 _ r l).trans ?_
    exact plain_at m c t r l 2 _ _ _ rfl (by simp only [Fin.isValue, Fin.coe_ofNat_eq_mod] <;> omega) (by simp only [Fin.isValue, Fin.coe_ofNat_eq_mod] <;> omega)
  · obtain ⟨r, l, rfl⟩ : ∃ (r : Fin 256) (l : Fin 128), x = ix2 r l := ⟨x 0, x 1, by funext a; fin_cases a <;> rfl⟩
    replace h0 : (y 0).val = r.val := h0
    replace h1 : (y 1).val = 384 + l.val := h1
    have he : ((View.whole main_v36).slice (win0_5.rect t)).emb y = ix2 (⟨256 * t.val + r.val, by omega⟩ : Fin 16384)
        (⟨384 + l.val, by omega⟩ : Fin 3072) := by
      blk_ext [i5]
    refine Eq.trans ?_ (congrArg (G m c) he).symm
    refine (turned1 _ _ _ r l).trans ?_
    exact turned_at m c hx hg hw t r l 1 _ _ _ _ rfl (by simp only [Fin.isValue, Fin.coe_ofNat_eq_mod] <;> omega) (by simp only [Fin.isValue, Fin.coe_ofNat_eq_mod] <;> omega) (by simp only [Fin.isValue, Fin.coe_ofNat_eq_mod] <;> omega)
  · obtain ⟨r, l, rfl⟩ : ∃ (r : Fin 256) (l : Fin 128), x = ix2 r l := ⟨x 0, x 1, by funext a; fin_cases a <;> rfl⟩
    replace h0 : (y 0).val = r.val := h0
    replace h1 : (y 1).val = 256 + l.val := h1
    have he : ((View.whole main_v36).slice (win0_5.rect t)).emb y = ix2 (⟨256 * t.val + r.val, by omega⟩ : Fin 16384)
        (⟨256 + l.val, by omega⟩ : Fin 3072) := by
      blk_ext [i5]
    refine Eq.trans ?_ (congrArg (G m c) he).symm
    refine (plain1 _ r l).trans ?_
    exact plain_at m c t r l 1 _ _ _ rfl (by simp only [Fin.isValue, Fin.coe_ofNat_eq_mod] <;> omega) (by simp only [Fin.isValue, Fin.coe_ofNat_eq_mod] <;> omega)
  · obtain ⟨r, l, rfl⟩ : ∃ (r : Fin 256) (l : Fin 128), x = ix2 r l := ⟨x 0, x 1, by funext a; fin_cases a <;> rfl⟩
    replace h0 : (y 0).val = r.val := h0
    replace h1 : (y 1).val = 128 + l.val := h1
    have he : ((View.whole main_v36).slice (win0_5.rect t)).emb y = ix2 (⟨256 * t.val + r.val, by omega⟩ : Fin 16384)
        (⟨128 + l.val, by omega⟩ : Fin 3072) := by
      blk_ext [i5]
    refine Eq.trans ?_ (congrArg (G m c) he).symm
    refine (turned0 _ _ _ _ _ r l).trans ?_
    exact turned_at m c hx hg hw t r l 0 _ _ _ _ rfl (by simp only [Fin.isValue, Fin.coe_ofNat_eq_mod] <;> omega) (by simp only [Fin.isValue, Fin.coe_ofNat_eq_mod] <;> omega) (by simp only [Fin.isValue, Fin.coe_ofNat_eq_mod] <;> omega)
  · obtain ⟨r, l, rfl⟩ : ∃ (r : Fin 256) (l : Fin 128), x = ix2 r l := ⟨x 0, x 1, by funext a; fin_cases a <;> rfl⟩
    replace h0 : (y 0).val = r.val := h0
    replace h1 : (y 1).val = 0 + l.val := h1.trans (Nat.zero_add _).symm
    have he : ((View.whole main_v36).slice (win0_5.rect t)).emb y = ix2 (⟨256 * t.val + r.val, by omega⟩ : Fin 16384)
        (⟨0 + l.val, by omega⟩ : Fin 3072) := by
      blk_ext [i5]
    refine Eq.trans ?_ (congrArg (G m c) he).symm
    refine (plain0 _ _ _ r l).trans ?_
    exact plain_at m c t r l 0 _ _ _ rfl (by simp only [Fin.isValue, Fin.coe_ofNat_eq_mod] <;> omega) (by simp only [Fin.isValue, Fin.coe_ofNat_eq_mod] <;> omega)

end real

end Cert.QUpIdeal.Val

end
-- ==== Proof.QUpRef.lean ====
/- The queries' reference, read at an index. -/
module

public import proofs.«01_k».proof.Proof.Gen.QUpRefIdeal.Run
public import proofs.«01_k».proof.Proof.Query
public import Idealize.ShloMosaic.Lib.Pointwise
public import Idealize.ShloMosaic.Lib.Pipeline.ValueKit

@[expose] public section

set_option maxRecDepth 16384

noncomputable section

namespace Cert.QUpRefIdeal.Value

open Idealize.ShloMosaic Idealize.ShloMosaic.TcCoe Idealize.SL.Sem
open Cert.QUpRefIdeal Cert.QUpRefIdeal.Gen
open Cert.Up (rms up)
open Cert.Query (query scale)

variable (h : FVec Ideal S16384x1664 .f32) (g : FVec Ideal S1x512 .f32) (w : FVec Ideal S512x2304 .f32)
  (cos sin : FVec Ideal S16384x32 .f32)

/-- The latents. -/
def latents : FVec Ideal S16384x512 .f32 := extractStridedSlice S16384x512 ![0, 0] h slices_S16384x1664_S16384x512_0_0

/-- A latent. -/
theorem latents_at (r : Fin 16384) (d : Fin 512) : latents h (ix2 r d) = h (ix2 r ⟨d.val, by omega⟩) := by
  pointwise [latents]

/-- The normed latents against the weights. -/
def product (x : FVec Ideal S16384x512 .f32) : FVec Ideal S16384x2304 .f32 :=
  Host.dotGeneral dot_S16384x512_S512x2304_S16384x2304_1_0_0_1_n_n none (mulf (mulf x (broadcastInDim S16384x512 ![0, 1] bcast_S16384x1_S16384x512_0_1 (Host.rsqrt (addf (Host.divf (broadcastInDim S16384x1 ![0] bcast_S16384_S16384x1_0 (Host.reduceAdd (mulf x x) (constant S_ .f32 0x00000000#32) reducesTo_S16384x512_S16384_d1 h_S_)) (broadcastInDim S16384x1 ![] bcast_S_S16384x1 (constant S_ .f32 0x44000000#32))) (broadcastInDim S16384x1 ![] bcast_S_S16384x1 (constant S_ .f32 0x358637BD#32)))))) (broadcastInDim S16384x512 ![0, 1] bcast_S1x512_S16384x512_0_1 g)) w

/-- A product of a normed row. -/
theorem product_at (x : FVec Ideal S16384x512 .f32) (r : Fin 16384) (k : Fin 2304) :
    product g w x (ix2 r k) = up (fun d => x (ix2 r d)) (fun d => g (ix2 0 d)) w k := by
  pointwise [product]
  rfl

/-- The products, head by head. -/
def heads (p : FVec Ideal S16384x2304 .f32) : FVec Ideal S16384x12x192 .f32 := shapeCast _ p shapeCasts_S16384x2304_S16384x12x192

/-- A head's product. -/
theorem heads_at (p : FVec Ideal S16384x2304 .f32) (r : Fin 16384) (a : Fin 12) (u : Fin 192) :
    heads p (ix3 r a u) = p (ix2 r ⟨192 * a.val + u.val, by omega⟩) := by
  pointwise [heads]
  all_goals exact congrArg (fun k => p (ix2 r k)) (Fin.ext (by simp only; omega))

/-- A table, the same for every head. -/
def table (t : FVec Ideal S16384x32 .f32) : FVec Ideal S16384x12x32 .f32 :=
  broadcastInDim S16384x12x32 ![0, 1, 2] bcast_S16384x1x32_S16384x12x32_0_1_2 (broadcastInDim S16384x1x32 ![0, 2] bcast_S16384x32_S16384x1x32_0_2 t)

/-- Its entry. -/
theorem table_at (t : FVec Ideal S16384x32 .f32) (r : Fin 16384) (a : Fin 12) (d : Fin 32) : table t (ix3 r a d) = t (ix2 r d) := by
  pointwise [table]

/-- The heads' plain parts and their turned halves, scaled. -/
def turned (x : FVec Ideal S16384x12x192 .f32) (c s : FVec Ideal S16384x12x32 .f32) : FVec Ideal S16384x12x192 .f32 :=
  mulf (concatenate S16384x12x192 2 [⟨S16384x12x128, (extractStridedSlice S16384x12x128 ![0, 0, 0] x slices_S16384x12x192_S16384x12x128_0_0_0 : FVec Ideal S16384x12x128 .f32)⟩, ⟨S16384x12x32, (subf (mulf (extractStridedSlice S16384x12x32 ![0, 0, 128] x slices_S16384x12x192_S16384x12x32_0_0_128) c) (mulf (extractStridedSlice S16384x12x32 ![0, 0, 160] x slices_S16384x12x192_S16384x12x32_0_0_160) s) : FVec Ideal S16384x12x32 .f32)⟩, ⟨S16384x12x32, (addf (mulf (extractStridedSlice S16384x12x32 ![0, 0, 160] x slices_S16384x12x192_S16384x12x32_0_0_160) c) (mulf (extractStridedSlice S16384x12x32 ![0, 0, 128] x slices_S16384x12x192_S16384x12x32_0_0_128) s) : FVec Ideal S16384x12x32 .f32)⟩] concatenates_S16384x12x128_S16384x12x32_S16384x12x32_S16384x12x192_d2) (broadcastInDim S16384x12x192 ![] bcast_S_S16384x12x192 (constant S_ .f32 0x3D93CD3A#32))

/-- An entry of those. -/
theorem turned_at (x : FVec Ideal S16384x12x192 .f32) (c s : FVec Ideal S16384x12x32 .f32) (r : Fin 16384) (a : Fin 12) (u : Fin 192) :
    turned x c s (ix3 r a u) = (if _h : u.val < 128 then x (ix3 r a ⟨u.val, by omega⟩)
      else if _h : u.val - 128 < 32 then x (ix3 r a ⟨128 + (u.val - 128), by omega⟩) * c (ix3 r a ⟨u.val - 128, by omega⟩)
        - x (ix3 r a ⟨160 + (u.val - 128), by omega⟩) * s (ix3 r a ⟨u.val - 128, by omega⟩)
      else x (ix3 r a ⟨160 + (u.val - 128 - 32), by omega⟩) * c (ix3 r a ⟨u.val - 128 - 32, by omega⟩)
        + x (ix3 r a ⟨128 + (u.val - 128 - 32), by omega⟩) * s (ix3 r a ⟨u.val - 128 - 32, by omega⟩)) * scale := by
  pointwise [turned]
  rfl

/-- The heads' queries with their zeros. -/
def queries (x : FVec Ideal S16384x12x192 .f32) : FVec Ideal S16384x3072 .bf16 :=
  truncf .bf16 (shapeCast _ (concatenate S16384x12x256 2 [⟨S16384x12x192, x⟩, ⟨S16384x12x64, (broadcastInDim S16384x12x64 ![] bcast_S_S16384x12x64 (constant S_ .f32 0x00000000#32) : FVec Ideal S16384x12x64 .f32)⟩] concatenates_S16384x12x192_S16384x12x64_S16384x12x256_d2) shapeCasts_S16384x12x256_S16384x3072) bitsLt_bf16_f32

/-- A query's entry. -/
theorem queries_at (x : FVec Ideal S16384x12x192 .f32) (r : Fin 16384) (e : Fin 3072) :
    queries x (ix2 r e) = if _h : e.val % 256 < 192 then x (ix3 r ⟨e.val / 256, by omega⟩ ⟨e.val % 256, by omega⟩) else 0 := by
  pointwise [queries]

/-- The reference's queries, of the arguments. -/
theorem query_at (r : Fin 16384) (e : Fin 3072) :
    queries (turned (heads (product g w (latents h))) (table cos) (table sin)) (ix2 r e)
      = query (up (fun d => h (ix2 r ⟨d.val, by omega⟩)) (fun d => g (ix2 0 d)) w) (fun d => cos (ix2 r d))
        (fun d => sin (ix2 r d)) ⟨e.val / 256, by omega⟩ ⟨e.val % 256, by omega⟩ := by
  rw [queries_at, query]
  simp only [turned_at, heads_at, table_at, product_at, latents_at]
  by_cases h1 : e.val % 256 < 128
  · rw [dif_pos (by omega), dif_pos h1, dif_pos h1]
  · rw [dif_neg h1]
    by_cases h2 : e.val % 256 < 160
    · rw [dif_pos (by omega), dif_neg h1, dif_pos (by omega), dif_pos h2]
      congr 5 <;> first | omega | exact Fin.ext (by simp only; omega)
    · rw [dif_neg h2]
      by_cases h3 : e.val % 256 < 192
      · rw [dif_pos h3, dif_neg h1, dif_neg (by omega), dif_pos h3]
        congr 5 <;> first | omega | exact Fin.ext (by simp only; omega)
      · rw [dif_neg h3, dif_neg h3]

variable (m : (ℓ : Loc nD τ sig) → Buf (Elt Ideal) ℓ) (c : Dev nD)

/-- The reference's result, in stages. -/
theorem out_eq : res_out0 m c = queries (turned (heads (product (m ((c.tc : Thread nD τ).loc main_arg1)) (m ((c.tc : Thread nD τ).loc main_arg2))
    (latents (m ((c.tc : Thread nD τ).loc main_arg0))))) (table (m ((c.tc : Thread nD τ).loc main_arg3)))
      (table (m ((c.tc : Thread nD τ).loc main_arg4)))) := rfl

end Cert.QUpRefIdeal.Value

end
-- ==== Proof.FiniteQUp.lean ====
/- The precondition `finite_q_up`, read: the latents, the gain and the weights are neither infinity. -/
module

public import proofs.«01_k».proof.Proof.Gen.Pre_finite_q_up
public import proofs.«01_k».proof.Proof.Finite

@[expose] public section

set_option maxRecDepth 16384

noncomputable section

namespace Cert.Pre_finite_q_up.Val

open Idealize.ShloMosaic Idealize.ShloMosaic.TcCoe Idealize.SL.Sem
open Cert.Pre_finite_q_up Cert.Pre_finite_q_up.Gen
open Cert.Attention (IsReal)
open Cert.Pre_finite_scores.Val (real_of)

variable {h : FVec Ideal S16384x1664 .f32} {g : FVec Ideal S1x512 .f32} {w : FVec Ideal S512x2304 .f32}
  {c s : FVec Ideal S16384x32 .f32}

/-- A word telling a magnitude below infinity. -/
def below (x : Ideal .f32) : BitVec 1 :=
  BitVec.ofBool (decide (FloatOps.absf (F := Ideal) (φ := .f32) x < Ideal.ofBits .f32 0x7F800000#32))

/-- The latents' words. -/
def hs (h : FVec Ideal S16384x1664 .f32) : IVec S16384x512 1 :=
  cmpf .olt (Host.absf (extractStridedSlice S16384x512 ![0, 0] h slices_S16384x1664_S16384x512_0_0 : FVec Ideal S16384x512 .f32))
    (broadcastInDim S16384x512 ![] bcast_S_S16384x512 (constant (F := Ideal) S_ .f32 0x7F800000#32))

/-- A latent's word. -/
theorem hs_at (r : Fin 16384) (d : Fin 512) : hs h (ix2 r d) = below (h (ix2 r ⟨d.val, by omega⟩)) := by
  pointwise [hs]
  rfl

/-- The gain's words. -/
def gs (g : FVec Ideal S1x512 .f32) : IVec S1x512 1 :=
  cmpf .olt (Host.absf g) (broadcastInDim S1x512 ![] bcast_S_S1x512 (constant (F := Ideal) S_ .f32 0x7F800000#32))

/-- The weights' words. -/
def ws (w : FVec Ideal S512x2304 .f32) : IVec S512x2304 1 :=
  cmpf .olt (Host.absf w) (broadcastInDim S512x2304 ![] bcast_S_S512x2304 (constant (F := Ideal) S_ .f32 0x7F800000#32))

/-- The latents' words laid flat. -/
theorem hflat_at (x : IVec S16384x512 1) (n : Fin 8388608) : shapeCast S8388608 x shapeCasts_S16384x512_S8388608 (ix1 n)
    = x (ix2 ⟨n.val / 512, by omega⟩ ⟨n.val % 512, by omega⟩) := by
  pointwise

/-- The gain's words laid flat. -/
theorem gflat_at (x : IVec S1x512 1) (n : Fin 512) : shapeCast S512 x shapeCasts_S1x512_S512 (ix1 n) = x (ix2 0 n) := by
  pointwise

/-- The weights' words laid flat. -/
theorem wflat_at (x : IVec S512x2304 1) (n : Fin 1179648) : shapeCast S1179648 x shapeCasts_S512x2304_S1179648 (ix1 n)
    = x (ix2 ⟨n.val / 2304, by omega⟩ ⟨n.val % 2304, by omega⟩) := by
  pointwise

/-- The words one after the other. -/
def all (a : IVec S8388608 1) (b : IVec S512 1) (d : IVec S1179648 1) : IVec S9568768 1 :=
  concatenate S9568768 0 [⟨S8388608, a⟩, ⟨S512, b⟩, ⟨S1179648, d⟩] concatenates_S8388608_S512_S1179648_S9568768_d0

variable (a : IVec S8388608 1) (b : IVec S512 1) (d : IVec S1179648 1)

/-- A word of the sequence. -/
theorem all_at (n : Fin 9568768) : all a b d (ix1 n)
    = if _h : n.val < 8388608 then a (ix1 ⟨n.val, by omega⟩)
      else if _h : n.val - 8388608 < 512 then b (ix1 ⟨n.val - 8388608, by omega⟩)
      else d (ix1 ⟨n.val - 8388608 - 512, by omega⟩) := by
  pointwise [all]

/-- The precondition's words, in stages. -/
theorem fn_eq : fn (F := Ideal) h g w c s = all (shapeCast S8388608 (hs h) shapeCasts_S16384x512_S8388608)
    (shapeCast S512 (gs g) shapeCasts_S1x512_S512) (shapeCast S1179648 (ws w) shapeCasts_S512x2304_S1179648) := rfl

/-- The latents are real where their words are one. -/
theorem h_real (r : Fin 16384) (d : Fin 512) (e : fn (F := Ideal) h g w c s = fun _ => 1#1) : IsReal (h (ix2 r ⟨d.val, by omega⟩)) := by
  have e' := congrFun e (ix1 (⟨r.val * 512 + d.val, by omega⟩ : Fin 9568768))
  rw [fn_eq, all_at, dif_pos (by simp only; omega), hflat_at, hs_at] at e'
  convert real_of e' using 4
  all_goals simp only; omega

/-- The gain is real where its words are one. -/
theorem g_real (d : Fin 512) (e : fn (F := Ideal) h g w c s = fun _ => 1#1) : IsReal (g (ix2 0 d)) := by
  have e' := congrFun e (ix1 (⟨8388608 + d.val, by omega⟩ : Fin 9568768))
  rw [fn_eq, all_at, dif_neg (by simp only; omega), dif_pos (by simp only; omega), gflat_at] at e'
  convert real_of e' using 4
  all_goals simp only; omega

/-- The weights are real where their words are one. -/
theorem w_real (j : Fin 512) (k : Fin 2304) (e : fn (F := Ideal) h g w c s = fun _ => 1#1) : IsReal (w (ix2 j k)) := by
  have e' := congrFun e (ix1 (⟨8388608 + (512 + (j.val * 2304 + k.val)), by omega⟩ : Fin 9568768))
  rw [fn_eq, all_at, dif_neg (by simp only; omega), dif_neg (by simp only; omega), wflat_at] at e'
  convert real_of e' using 4
  all_goals simp only; omega

/-- Where the precondition holds, the latents, the gain and the weights are real. -/
theorem reals (e : fn (F := Ideal) h g w c s = fun _ => 1#1) :
    (∀ (r : Fin 16384) (d : Fin 512), IsReal (h (ix2 r ⟨d.val, by omega⟩))) ∧ (∀ d, IsReal (g (ix2 0 d)))
    ∧ ∀ j k, IsReal (w (ix2 j k)) :=
  ⟨fun r d => h_real r d e, fun d => g_real d e, fun j k => w_real j k e⟩

end Cert.Pre_finite_q_up.Val

end
-- ==== Proof.RopeTablesValue.lean ====
/- The rotary tables: the kernel's result arrays, block by block, as cosines and sines of the positions' angles. -/
module

public import proofs.«01_k».proof.Proof.Gen.RopeTablesIdeal.Frame
public import Idealize.ShloMosaic.Lib.Pipeline.Value
public import proofs.«01_k».proof.Proof.Up
public import Idealize.ShloMosaic.Lib.Pointwise
public import Idealize.ShloMosaic.Lib.Pipeline.ValueKit

@[expose] public section

set_option maxRecDepth 16384

noncomputable section

namespace Cert.RopeTablesIdeal.Val

open Idealize.ShloMosaic Idealize.ShloMosaic.TcCoe Idealize.SL.Sem
open Idealize.ShloMosaic.Pipeline (Dat)
open Cert.RopeTablesIdeal Cert.RopeTablesIdeal.Gen

/-- The angle's frequencies, of one half. -/
def inv : FVec Ideal S32 .f32 :=
  Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32))))

/-- The frequencies as the kernel lays them out: twice over, then zeros. -/
def freqs (f : FVec Ideal S32 .f32) : FVec Ideal S1x128 .f32 :=
  broadcastInDim S1x128 ![1] bcast_S128_S1x128_1 (pad S128 ![0] ![64] ![0] (concatenate S64 0 [⟨S32, f⟩, ⟨S32, f⟩] concatenates_S32_S32_S64_d0) (sitofp .f32 (constantI S_ 32 0#32)) pads_S64_S128_0640 h_S_ : FVec Ideal S128 .f32)

/-- A frequency that is used. -/
theorem freqs_at (f : FVec Ideal S32 .f32) (l : Fin 128) (hl : l.val < 64) :
    freqs f (ix2 0 l) = f (ix1 ⟨l.val % 32, by omega⟩) := by
  pointwise [freqs]
  rw [dif_pos hl]
  by_cases h : l.val < 32
  · rw [dif_pos h]
    exact congrArg (fun k => f (ix1 k)) (Fin.ext (by simp only; omega))
  · rw [dif_neg h]
    exact congrArg (fun k => f (ix1 k)) (Fin.ext (by simp only; omega))

/-- The word telling a lane below 64. -/
theorem lane_lt : ∀ l : Fin 128, IntOp.cmpi CmpIPredicate.slt (BitVec.ofNat 32 l.val) 64#32 = BitVec.ofBool (decide (l.val < 64)) := by
  decide +kernel

/-- A choice by that word. -/
theorem lane_select (l : Fin 128) (a b : EReal) :
    (Scalar.select (IntOp.cmpi CmpIPredicate.slt (BitVec.ofNat 32 l.val) 64#32) a b : EReal) = if l.val < 64 then a else b := by
  rw [lane_lt]
  by_cases h : l.val < 64 <;> simp [Scalar.select, h]

/-- The cosines' block. -/
theorem cos_pay (p : Vec Ideal S1024x1 .i32) (f : Vec Ideal S1x128 .f32) (r : Fin 1024) (l : Fin 128) :
    k0_pay3 p f (ix2 r l) = if l.val < 64 then FloatOps.cos (F := Ideal) (φ := .f32) (FloatOps.sitofp FTy.f32 (p (ix2 r 0)) * f (ix2 0 l)) else 0 := by
  pointwise [k0_pay3, k0_pay2, k0_pay1]
  exact lane_select l _ _

/-- The sines' block. -/
theorem sin_pay (p : Vec Ideal S1024x1 .i32) (f : Vec Ideal S1x128 .f32) (r : Fin 1024) (l : Fin 128) :
    k0_pay4 p f (ix2 r l) = if l.val < 64 then FloatOps.sin (F := Ideal) (φ := .f32) (FloatOps.sitofp FTy.f32 (p (ix2 r 0)) * f (ix2 0 l)) else 0 := by
  pointwise [k0_pay4, k0_pay2, k0_pay1]
  exact lane_select l _ _

variable (m : (ℓ : Loc nD τ sig) → Buf (Elt Ideal) ℓ) (c : Dev nD)

/-- The frequencies the call is given. -/
theorem V_freqs : V m c main_v13 = freqs inv := by
  simp only [V, hostOps0, hostOps0_1, hostOps0_2, List.flatten_cons, List.flatten_nil, List.append_nil,
    List.cons_append, List.nil_append]
  after_results_simp
  rfl

/-- The positions the call is given. -/
theorem V_positions : V m c main_v14 = shapeCast S16384x1 (m ((c.tc : Thread nD τ).loc main_arg0)) shapeCasts_S16384_S16384x1 := by
  simp only [V, hostOps0, hostOps0_1, hostOps0_2, List.flatten_cons, List.flatten_nil, List.append_nil,
    List.cons_append, List.nil_append]
  after_results_simp
  rfl

/-- A position laid in a column. -/
theorem column_at (p : IVec S16384 32) (r : Fin 16384) : shapeCast S16384x1 p shapeCasts_S16384_S16384x1 (ix2 r 0) = p (ix1 r) := by
  pointwise

/-- The blocks a grid point works on: 1024 positions. -/
theorem idx : ∀ t : Fin cfg0.N,
    win0_0.index t = ![t.val, 0] ∧ win0_1.index t = ![0, 0] ∧ win0_2.index t = ![t.val, 0] ∧ win0_3.index t = ![t.val, 0] ∧ t.val < 16 :=
  (by decide +kernel : ∀ t : Fin grid0.N, _)

/-- The positions' blocks. -/
theorem p_at (t : Fin cfg0.N) (r : Fin 1024) (R : Fin 16384) (hR : R.val = 1024 * t.val + r.val) :
    iblk m c 0 t (ix2 r 0) = m ((c.tc : Thread nD τ).loc main_arg0) (ix1 R) := by
  rw [← column_at (m ((c.tc : Thread nD τ).loc main_arg0)) R, ← V_positions]
  blk_ext [iblk, idx t]

/-- The frequencies. -/
theorem f_at (t : Fin cfg0.N) (l : Fin 128) : iblk m c 1 t (ix2 0 l) = freqs inv (ix2 0 l) := by
  rw [← V_freqs m c]
  blk_ext [iblk, idx t]

/-- The table of `f` at the positions' angles, twice over, then zeros. -/
def turned (f : EReal → EReal) (p : IVec S16384 32) (r : Fin 16384) (l : Fin 128) : EReal :=
  if l.val < 64 then f (FloatOps.sitofp (F := Ideal) FTy.f32 (p (ix1 r)) * inv (ix1 ⟨l.val % 32, by omega⟩)) else 0

/-- That table of the arguments, as one array. -/
def G (f : EReal → EReal) : Vec Ideal S16384x128 .f32 := fun i => turned f (m ((c.tc : Thread nD τ).loc main_arg0)) (i 0) (i 1)

/-- The kernel's cosines are that array. -/
theorem cosines : (dats m 0 c).arrAt 2 cfg0.N = G m c (FloatOps.cos (F := Ideal) (φ := .f32)) := by
  refine (dats m 0 c).arrAt_eq_of_covers 2 _ (by decide +kernel) fun t hf y => ?_
  obtain ⟨-, -, i2, i3, hN⟩ := idx t
  blk_simp
  rw [after0_2]
  unfold out0_2
  frame_out
  obtain ⟨r, l, rfl⟩ : ∃ (a : Fin 1024) (b : Fin 128), y = ix2 a b := ⟨y 0, y 1, by funext a; fin_cases a <;> rfl⟩
  have hr := r.isLt
  have he : ((cfg0.win 2).blk t).view.emb (ix2 r l) = ix2 (⟨1024 * t.val + r.val, by omega⟩ : Fin 16384) l := by
    blk_ext [i2]
  refine Eq.trans ?_ (congrArg (G m c _) he).symm
  refine (cos_pay _ _ r l).trans ?_
  rw [p_at m c t r ⟨1024 * t.val + r.val, by omega⟩ rfl, f_at m c t l]
  show _ = turned _ (m ((c.tc : Thread nD τ).loc main_arg0)) ⟨1024 * t.val + r.val, by omega⟩ l
  unfold turned
  by_cases hl : l.val < 64
  · rw [if_pos hl, if_pos hl, freqs_at inv l hl]
  · rw [if_neg hl, if_neg hl]

/-- The kernel's sines are that array. -/
theorem sines : (dats m 0 c).arrAt 3 cfg0.N = G m c (FloatOps.sin (F := Ideal) (φ := .f32)) := by
  refine (dats m 0 c).arrAt_eq_of_covers 3 _ (by decide +kernel) fun t hf y => ?_
  obtain ⟨-, -, i2, i3, hN⟩ := idx t
  blk_simp
  rw [after0_3]
  unfold out0_3
  frame_out
  obtain ⟨r, l, rfl⟩ : ∃ (a : Fin 1024) (b : Fin 128), y = ix2 a b := ⟨y 0, y 1, by funext a; fin_cases a <;> rfl⟩
  have hr := r.isLt
  have he : ((cfg0.win 3).blk t).view.emb (ix2 r l) = ix2 (⟨1024 * t.val + r.val, by omega⟩ : Fin 16384) l := by
    blk_ext [i3]
  refine Eq.trans ?_ (congrArg (G m c _) he).symm
  refine (sin_pay _ _ r l).trans ?_
  rw [p_at m c t r ⟨1024 * t.val + r.val, by omega⟩ rfl, f_at m c t l]
  show _ = turned _ (m ((c.tc : Thread nD τ).loc main_arg0)) ⟨1024 * t.val + r.val, by omega⟩ l
  unfold turned
  by_cases hl : l.val < 64
  · rw [if_pos hl, if_pos hl, freqs_at inv l hl]
  · rw [if_neg hl, if_neg hl]

end Cert.RopeTablesIdeal.Val

end
-- ==== Proof.RopeTablesRef.lean ====
/- The rotary tables' reference, read at an index: cosines and sines of the positions' angles. -/
module

public import proofs.«01_k».proof.Proof.Gen.RopeTablesRefIdeal.Run
public import proofs.«01_k».proof.Proof.RopeTablesValue
public import Idealize.ShloMosaic.Lib.Pointwise
public import Idealize.ShloMosaic.Lib.Pipeline.ValueKit

@[expose] public section

set_option maxRecDepth 16384

noncomputable section

namespace Cert.RopeTablesRefIdeal.Value

open Idealize.ShloMosaic Idealize.ShloMosaic.TcCoe Idealize.SL.Sem
open Cert.RopeTablesRefIdeal Cert.RopeTablesRefIdeal.Gen
open Cert.RopeTablesIdeal.Val (turned)

/-- The angle's frequencies. -/
def inv : FVec Ideal S32 .f32 :=
  Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32))))

/-- They are the kernel's. -/
theorem inv_eq : inv = Cert.RopeTablesIdeal.Val.inv := rfl

/-- The angles. -/
def angles (p : IVec S16384 32) (f : FVec Ideal S32 .f32) : FVec Ideal S16384x32 .f32 :=
  mulf (broadcastInDim S16384x32 ![0, 1] bcast_S16384x1_S16384x32_0_1 (broadcastInDim S16384x1 ![0] bcast_S16384_S16384x1_0 (sitofp .f32 p))) (broadcastInDim S16384x32 ![0, 1] bcast_S1x32_S16384x32_0_1 (broadcastInDim S1x32 ![1] bcast_S32_S1x32_1 f))

/-- An angle. -/
theorem angles_at (p : IVec S16384 32) (f : FVec Ideal S32 .f32) (r : Fin 16384) (d : Fin 32) :
    angles p f (ix2 r d) = FloatOps.sitofp (F := Ideal) FTy.f32 (p (ix1 r)) * f (ix1 d) := by
  pointwise [angles]

/-- A table twice over, then zeros. -/
def twice (x : FVec Ideal S16384x32 .f32) : FVec Ideal S16384x128 .f32 :=
  concatenate S16384x128 1 [⟨S16384x32, x⟩, ⟨S16384x32, x⟩, ⟨S16384x64, (broadcastInDim S16384x64 ![] bcast_S_S16384x64 (constant S_ .f32 0x00000000#32) : FVec Ideal S16384x64 .f32)⟩] concatenates_S16384x32_S16384x32_S16384x64_S16384x128_d1

/-- Its entry. -/
theorem twice_at (x : FVec Ideal S16384x32 .f32) (r : Fin 16384) (l : Fin 128) :
    twice x (ix2 r l) = if l.val < 64 then x (ix2 r ⟨l.val % 32, by omega⟩) else 0 := by
  by_cases hl : l.val < 64
  · rw [if_pos hl]
    pointwise [twice]
    by_cases h : l.val < 32
    · rw [dif_pos h]
      exact congrArg (fun k => x (ix2 r k)) (Fin.ext (by simp only; omega))
    · rw [dif_neg h, dif_pos (by omega)]
      exact congrArg (fun k => x (ix2 r k)) (Fin.ext (by simp only; omega))
  · rw [if_neg hl]
    pointwise [twice]
    rw [dif_neg (by omega), dif_neg (by omega)]

/-- The cosines of angles. -/
def coss (a : FVec Ideal S16384x32 .f32) : FVec Ideal S16384x32 .f32 := Host.cos a

/-- The sines of angles. -/
def sins (a : FVec Ideal S16384x32 .f32) : FVec Ideal S16384x32 .f32 := Host.sin a

/-- The reference's cosines. -/
theorem cos_at (p : IVec S16384 32) (r : Fin 16384) (l : Fin 128) :
    twice (coss (angles p inv)) (ix2 r l) = turned (FloatOps.cos (F := Ideal) (φ := .f32)) p r l := by
  rw [twice_at, turned, inv_eq]
  by_cases hl : l.val < 64
  · rw [if_pos hl, if_pos hl, ← angles_at]
    rfl
  · rw [if_neg hl, if_neg hl]

/-- The reference's sines. -/
theorem sin_at (p : IVec S16384 32) (r : Fin 16384) (l : Fin 128) :
    twice (sins (angles p inv)) (ix2 r l) = turned (FloatOps.sin (F := Ideal) (φ := .f32)) p r l := by
  rw [twice_at, turned, inv_eq]
  by_cases hl : l.val < 64
  · rw [if_pos hl, if_pos hl, ← angles_at]
    rfl
  · rw [if_neg hl, if_neg hl]

end Cert.RopeTablesRefIdeal.Value

end
-- ==== Proof.GdnGatesValue.lean ====
/- The gated delta layer's gates: the kernel's result arrays, block by block, as the log decays and the step sizes of the projected rows. -/
module

public import proofs.«01_k».proof.Proof.Gen.GdnGatesIdeal.Frame
public import Idealize.ShloMosaic.Lib.Pipeline.Value
public import Idealize.ShloMosaic.Lib.Pointwise
public import Idealize.ShloMosaic.Lib.Pipeline.ValueKit

@[expose] public section

set_option maxRecDepth 16384

noncomputable section

namespace Cert.GdnGatesIdeal.Val

open Idealize.ShloMosaic Idealize.ShloMosaic.TcCoe Idealize.SL.Sem
open Idealize.ShloMosaic.Pipeline (Dat)
open Cert.GdnGatesIdeal Cert.GdnGatesIdeal.Gen

/-- The logarithm of one plus the exponential of `y`. -/
def softplus (y : EReal) : EReal := max y 0 + Ideal.log1p (Ideal.exp (-FloatOps.absf (F := Ideal) (φ := .f32) y))

/-- A head's log decay at a row: minus its rate times the softplus of the projected value with the head's bias. -/
def decay (x a d : EReal) : EReal := -Ideal.exp a * softplus (x + d)

/-- The decays' block. -/
theorem decay_pay (X : Vec Ideal S1024x128 .f32) (a d : Vec Ideal S1x128 .f32) (r : Fin 1024) (l : Fin 128) :
    k0_pay1 X a d (ix2 r l) = decay (X (ix2 r l)) (a (ix2 0 l)) (d (ix2 0 l)) := by
  pointwise [k0_pay1]
  rw [if_neg (not_not.mpr rfl), zero_sub, zero_sub]
  rfl

/-- The step sizes' block. -/
theorem step_pay (X : Vec Ideal S1024x128 .f32) (r : Fin 1024) (l : Fin 128) :
    k0_pay2 X (ix2 r l) = Ideal.logistic (X (ix2 r l)) := by
  pointwise [k0_pay2]

/-- A vector of the heads' numbers as the kernel lays it out: in one row, then zeros. -/
def laid (x : FVec Ideal S12 .f32) : FVec Ideal S1x128 .f32 :=
  broadcastInDim S1x128 ![1] bcast_S128_S1x128_1 (pad S128 ![0] ![116] ![0] x (sitofp .f32 (constantI S_ 32 0#32)) pads_S12_S128_01160 h_S_ : FVec Ideal S128 .f32)

/-- A head's number. -/
theorem laid_at (x : FVec Ideal S12 .f32) (l : Fin 128) (hl : l.val < 12) : laid x (ix2 0 l) = x (ix1 ⟨l.val, hl⟩) := by
  pointwise [laid]
  rw [dif_pos hl]

variable (m : (ℓ : Loc nD τ sig) → Buf (Elt Ideal) ℓ) (c : Dev nD)

/-- The rates the call is given. -/
theorem V_rates : V m c main_v1 = laid (m ((c.tc : Thread nD τ).loc main_arg1)) := by
  simp only [V, V0, hostOps0, hostOps0_1, hostOps0_2, hostOps0_3, hostOps0_4, List.flatten_cons, List.flatten_nil, List.append_nil,
    List.cons_append, List.nil_append]
  after_results_simp
  rfl

/-- The biases the call is given. -/
theorem V_biases : V m c main_v3 = laid (m ((c.tc : Thread nD τ).loc main_arg2)) := by
  simp only [V, V0, hostOps0, hostOps0_1, hostOps0_2, hostOps0_3, hostOps0_4, List.flatten_cons, List.flatten_nil, List.append_nil,
    List.cons_append, List.nil_append]
  after_results_simp
  rfl

/-- The blocks a grid point works on: 1024 rows. -/
theorem idx : ∀ t : Fin cfg0.N,
    win0_0.index t = ![t.val, 52] ∧ win0_1.index t = ![0, 0] ∧ win0_2.index t = ![0, 0] ∧ win0_3.index t = ![t.val, 0] ∧ win0_4.index t = ![t.val, 0] ∧ t.val < 16 :=
  (by decide +kernel : ∀ t : Fin grid0.N, _)

/-- The projected rows' blocks: the 128 columns from 6656 on. -/
theorem x_at (t : Fin cfg0.N) (r : Fin 1024) (l : Fin 128) (R : Fin 16384) (hR : R.val = 1024 * t.val + r.val) :
    iblk m c 0 t (ix2 r l) = m ((c.tc : Thread nD τ).loc main_arg0) (ix2 R (⟨6656 + l.val, by omega⟩ : Fin 6912)) := by
  rw [← V_main_arg0 m c]
  blk_ext [iblk, idx t]

/-- The rates. -/
theorem a_at (t : Fin cfg0.N) (l : Fin 128) : iblk m c 1 t (ix2 0 l) = laid (m ((c.tc : Thread nD τ).loc main_arg1)) (ix2 0 l) := by
  rw [← V_rates m c]
  blk_ext [iblk, idx t]

/-- The biases. -/
theorem d_at (t : Fin cfg0.N) (l : Fin 128) : iblk m c 2 t (ix2 0 l) = laid (m ((c.tc : Thread nD τ).loc main_arg2)) (ix2 0 l) := by
  rw [← V_biases m c]
  blk_ext [iblk, idx t]

/-- The log decay of every lane, at the row `r`. -/
def decays (h : FVec Ideal S16384x6912 .f32) (a d : FVec Ideal S12 .f32) (r : Fin 16384) (l : Fin 128) : EReal :=
  decay (h (ix2 r (⟨6656 + l.val, by omega⟩ : Fin 6912))) (laid a (ix2 0 l)) (laid d (ix2 0 l))

/-- The step size of every lane, at the row `r`. -/
def steps (h : FVec Ideal S16384x6912 .f32) (r : Fin 16384) (l : Fin 128) : EReal :=
  Ideal.logistic (h (ix2 r (⟨6656 + l.val, by omega⟩ : Fin 6912)))

/-- The decays of the arguments, as one array. -/
def D : Vec Ideal S16384x128 .f32 := fun i => decays (m ((c.tc : Thread nD τ).loc main_arg0)) (m ((c.tc : Thread nD τ).loc main_arg1)) (m ((c.tc : Thread nD τ).loc main_arg2)) (i 0) (i 1)

/-- The step sizes of the arguments, as one array. -/
def B : Vec Ideal S16384x128 .f32 := fun i => steps (m ((c.tc : Thread nD τ).loc main_arg0)) (i 0) (i 1)

/-- The kernel's decays are that array. -/
theorem decays_all : (dats m 0 c).arrAt 3 cfg0.N = D m c := by
  refine (dats m 0 c).arrAt_eq_of_covers 3 _ (by decide +kernel) fun t hf y => ?_
  obtain ⟨-, -, -, i3, i4, hN⟩ := idx t
  blk_simp
  rw [after0_3]
  unfold out0_3
  frame_out
  obtain ⟨r, l, rfl⟩ : ∃ (a : Fin 1024) (b : Fin 128), y = ix2 a b := ⟨y 0, y 1, by funext a; fin_cases a <;> rfl⟩
  have hr := r.isLt
  have he : ((cfg0.win 3).blk t).view.emb (ix2 r l) = ix2 (⟨1024 * t.val + r.val, by omega⟩ : Fin 16384) l := by
    blk_ext [i3]
  refine Eq.trans ?_ (congrArg (D m c) he).symm
  refine (decay_pay _ _ _ r l).trans ?_
  rw [x_at m c t r l ⟨1024 * t.val + r.val, by omega⟩ rfl, a_at m c t l, d_at m c t l]
  rfl

/-- The kernel's step sizes are that array. -/
theorem steps_all : (dats m 0 c).arrAt 4 cfg0.N = B m c := by
  refine (dats m 0 c).arrAt_eq_of_covers 4 _ (by decide +kernel) fun t hf y => ?_
  obtain ⟨-, -, -, i3, i4, hN⟩ := idx t
  blk_simp
  rw [after0_4]
  unfold out0_4
  frame_out
  obtain ⟨r, l, rfl⟩ : ∃ (a : Fin 1024) (b : Fin 128), y = ix2 a b := ⟨y 0, y 1, by funext a; fin_cases a <;> rfl⟩
  have hr := r.isLt
  have he : ((cfg0.win 4).blk t).view.emb (ix2 r l) = ix2 (⟨1024 * t.val + r.val, by omega⟩ : Fin 16384) l := by
    blk_ext [i4]
  refine Eq.trans ?_ (congrArg (B m c) he).symm
  refine (step_pay _ r l).trans ?_
  rw [x_at m c t r l ⟨1024 * t.val + r.val, by omega⟩ rfl]
  rfl

/-- The decays the program returns: the first twelve lanes. -/
theorem decays_at (r : Fin 16384) (e : Fin 12) :
    (extractStridedSlice S16384x12 ![0, 0] ((dats m 0 c).arrAt 3 cfg0.N : FVec Ideal S16384x128 .f32) slices_S16384x128_S16384x12_0_0 : FVec Ideal S16384x12 .f32) (ix2 r e)
      = decay (m ((c.tc : Thread nD τ).loc main_arg0) (ix2 r (⟨6656 + e.val, by omega⟩ : Fin 6912))) (m ((c.tc : Thread nD τ).loc main_arg1) (ix1 e)) (m ((c.tc : Thread nD τ).loc main_arg2) (ix1 e)) := by
  rw [decays_all m c]
  have hl : (⟨e.val, by omega⟩ : Fin 128).val < 12 := e.isLt
  refine Eq.trans (b := D m c (ix2 r (⟨e.val, by omega⟩ : Fin 128))) ?_ ?_
  · pointwise
  · show decays _ _ _ r (⟨e.val, by omega⟩ : Fin 128) = _
    unfold decays
    rw [laid_at _ _ hl, laid_at _ _ hl]

/-- The step sizes the program returns: the next twelve. -/
theorem steps_at (r : Fin 16384) (e : Fin 12) :
    (extractStridedSlice S16384x12 ![0, 12] ((dats m 0 c).arrAt 4 cfg0.N : FVec Ideal S16384x128 .f32) slices_S16384x128_S16384x12_0_12 : FVec Ideal S16384x12 .f32) (ix2 r e)
      = Ideal.logistic (m ((c.tc : Thread nD τ).loc main_arg0) (ix2 r (⟨6668 + e.val, by omega⟩ : Fin 6912))) := by
  rw [steps_all m c]
  refine Eq.trans (b := B m c (ix2 r (⟨12 + e.val, by omega⟩ : Fin 128))) ?_ ?_
  · pointwise
  · show steps _ r (⟨12 + e.val, by omega⟩ : Fin 128) = _
    unfold steps
    exact congrArg (fun k => Ideal.logistic (m ((c.tc : Thread nD τ).loc main_arg0) (ix2 r k))) (Fin.ext (by first | omega | (simp only; omega)))

/-- The first result buffer holds the decays' first twelve lanes. -/
theorem tail_decays : Pipeline.afterTail₀ cfgs (dats m) 0 (V0 m) [hostOps1] c main_v5
    = (extractStridedSlice S16384x12 ![0, 0] ((dats m 0 c).arrAt 3 cfg0.N : FVec Ideal S16384x128 .f32) slices_S16384x128_S16384x12_0_0 : FVec Ideal S16384x12 .f32) := by
  simp only [Pipeline.afterTail₀, hostOps1, List.flatten_cons, List.flatten_nil, List.append_nil]
  after_region_results
  erw [Pipeline.withArrays_arr spec0 launch0.win.arr_inj c (V0 m c) (fun w => (dats m 0 c).arrAt w cfg0.N) 3]

/-- The second holds the step sizes' next twelve. -/
theorem tail_steps : Pipeline.afterTail₀ cfgs (dats m) 0 (V0 m) [hostOps1] c main_v6
    = (extractStridedSlice S16384x12 ![0, 12] ((dats m 0 c).arrAt 4 cfg0.N : FVec Ideal S16384x128 .f32) slices_S16384x128_S16384x12_0_12 : FVec Ideal S16384x12 .f32) := by
  simp only [Pipeline.afterTail₀, hostOps1, List.flatten_cons, List.flatten_nil, List.append_nil]
  after_region_results
  erw [Pipeline.withArrays_arr spec0 launch0.win.arr_inj c (V0 m c) (fun w => (dats m 0 c).arrAt w cfg0.N) 4]

end Cert.GdnGatesIdeal.Val

end
-- ==== Proof.GdnGatesRef.lean ====
/- The gated delta layer's gates: the reference's log decays and step sizes, read entry by entry. -/
module

public import proofs.«01_k».proof.Proof.Gen.GdnGatesRefIdeal.Run
public import proofs.«01_k».proof.Proof.GdnGatesValue
public import Idealize.ShloMosaic.Lib.Pointwise
public import Idealize.ShloMosaic.Lib.Pipeline.ValueKit

@[expose] public section

set_option maxRecDepth 16384

noncomputable section

namespace Cert.GdnGatesRefIdeal.Value

open Idealize.ShloMosaic Idealize.ShloMosaic.TcCoe Idealize.SL.Sem
open Cert.GdnGatesRefIdeal Cert.GdnGatesRefIdeal.Gen

/-- The softplus of every entry, as the reference computes it. -/
def soft (x : FVec Ideal S16384x12 .f32) : FVec Ideal S16384x12 .f32 :=
  select (cmpf .une (subf x (broadcastInDim S16384x12 ![] bcast_S_S16384x12 (constant S_ .f32 0x00000000#32))) (subf x (broadcastInDim S16384x12 ![] bcast_S_S16384x12 (constant S_ .f32 0x00000000#32)))) (addf x (broadcastInDim S16384x12 ![] bcast_S_S16384x12 (constant S_ .f32 0x00000000#32))) (addf (maximumf x (broadcastInDim S16384x12 ![] bcast_S_S16384x12 (constant S_ .f32 0x00000000#32))) (Host.log1p (Host.exp (Host.negf (Host.absf (subf x (broadcastInDim S16384x12 ![] bcast_S_S16384x12 (constant S_ .f32 0x00000000#32))))))))

/-- The reference's log decays. -/
def decays (h : FVec Ideal S16384x6912 .f32) (a d : FVec Ideal S12 .f32) : FVec Ideal S16384x12 .f32 :=
  mulf (broadcastInDim S16384x12 ![0, 1] bcast_S1x12_S16384x12_0_1 (broadcastInDim S1x12 ![1] bcast_S12_S1x12_1 (Host.negf (Host.exp a)) : FVec Ideal S1x12 .f32))
    (soft (addf (extractStridedSlice S16384x12 ![0, 6656] h slices_S16384x6912_S16384x12_0_6656) (broadcastInDim S16384x12 ![0, 1] bcast_S1x12_S16384x12_0_1 (broadcastInDim S1x12 ![1] bcast_S12_S1x12_1 d : FVec Ideal S1x12 .f32))))

/-- The reference's step sizes. -/
def steps (h : FVec Ideal S16384x6912 .f32) : FVec Ideal S16384x12 .f32 :=
  Host.divf (broadcastInDim S16384x12 ![] bcast_S_S16384x12 (constant S_ .f32 0x3F800000#32)) (addf (broadcastInDim S16384x12 ![] bcast_S_S16384x12 (constant S_ .f32 0x3F800000#32)) (Host.exp (Host.negf (extractStridedSlice S16384x12 ![0, 6668] h slices_S16384x6912_S16384x12_0_6668))))

/-- An entry of the softplus. -/
theorem soft_at (x : FVec Ideal S16384x12 .f32) (r : Fin 16384) (e : Fin 12) :
    soft x (ix2 r e) = Cert.GdnGatesIdeal.Val.softplus (x (ix2 r e)) := by
  pointwise [soft]
  rw [if_neg (not_not.mpr rfl)]
  rfl

/-- An entry of the log decays. -/
theorem decays_at (h : FVec Ideal S16384x6912 .f32) (a d : FVec Ideal S12 .f32) (r : Fin 16384) (e : Fin 12) :
    decays h a d (ix2 r e) = Cert.GdnGatesIdeal.Val.decay (h (ix2 r (⟨6656 + e.val, by omega⟩ : Fin 6912))) (a (ix1 e)) (d (ix1 e)) := by
  refine Eq.trans (b := -Ideal.exp (a (ix1 e)) * Cert.GdnGatesIdeal.Val.softplus (h (ix2 r (⟨6656 + e.val, by omega⟩ : Fin 6912)) + d (ix1 e))) ?_ rfl
  refine Ideal.mul_congr ?_ ((soft_at _ r e).trans (congrArg _ ?_))
  · pointwise
  · pointwise

/-- An entry of the step sizes. -/
theorem steps_at (h : FVec Ideal S16384x6912 .f32) (r : Fin 16384) (e : Fin 12) :
    steps h (ix2 r e) = Ideal.logistic (h (ix2 r (⟨6668 + e.val, by omega⟩ : Fin 6912))) := by
  pointwise [steps]
  rfl

end Cert.GdnGatesRefIdeal.Value

end
-- ==== Proof.lean ====
/- The proofs of the claims about each call: its frames, that idealization preserves it, and that it and its
   reference return equal arrays. -/
module

public import proofs.«01_k».proof.Defs
public import proofs.«01_k».proof.Proof.Gen.Flash
public import proofs.«01_k».proof.Proof.Gen.Flash.Skeleton
public import proofs.«01_k».proof.Proof.Gen.Flash.Loops
public import proofs.«01_k».proof.Proof.Gen.Flash.Launch
public import proofs.«01_k».proof.Proof.Gen.Flash.Points
public import proofs.«01_k».proof.Proof.Gen.Flash.Frame
public import proofs.«01_k».proof.Proof.Gen.FlashIdeal
public import proofs.«01_k».proof.Proof.Gen.FlashIdeal.Skeleton
public import proofs.«01_k».proof.Proof.Gen.FlashIdeal.Loops
public import proofs.«01_k».proof.Proof.Gen.FlashIdeal.Launch
public import proofs.«01_k».proof.Proof.Gen.FlashIdeal.Points
public import proofs.«01_k».proof.Proof.Gen.FlashIdeal.Frame
public import proofs.«01_k».proof.Proof.Gen.FlashIdeal.Value
public import proofs.«01_k».proof.Proof.Gen.FlashRefIdeal
public import proofs.«01_k».proof.Proof.Gen.FlashRefIdeal.Run
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpIdeal.Value
public import proofs.«01_k».proof.Proof.Gen.MlpRefIdeal
public import proofs.«01_k».proof.Proof.Gen.MlpRefIdeal.Run
public import proofs.«01_k».proof.Proof.Gen.GdnIn
public import proofs.«01_k».proof.Proof.Gen.GdnIn.Skeleton
public import proofs.«01_k».proof.Proof.Gen.GdnIn.Launch
public import proofs.«01_k».proof.Proof.Gen.GdnIn.Points
public import proofs.«01_k».proof.Proof.Gen.GdnIn.Frame
public import proofs.«01_k».proof.Proof.Gen.GdnInIdeal
public import proofs.«01_k».proof.Proof.Gen.GdnInIdeal.Skeleton
public import proofs.«01_k».proof.Proof.Gen.GdnInIdeal.Launch
public import proofs.«01_k».proof.Proof.Gen.GdnInIdeal.Points
public import proofs.«01_k».proof.Proof.Gen.GdnInIdeal.Frame
public import proofs.«01_k».proof.Proof.Gen.GdnInIdeal.Value
public import proofs.«01_k».proof.Proof.Gen.GdnInRefIdeal
public import proofs.«01_k».proof.Proof.Gen.GdnInRefIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvIdeal.Value
public import proofs.«01_k».proof.Proof.Gen.MemKvRefIdeal
public import proofs.«01_k».proof.Proof.Gen.MemKvRefIdeal.Run
public import proofs.«01_k».proof.Proof.Gen.MemAttn
public import proofs.«01_k».proof.Proof.Gen.MemAttn.Skeleton
public import proofs.«01_k».proof.Proof.Gen.MemAttn.Launch
public import proofs.«01_k».proof.Proof.Gen.MemAttn.Points
public import proofs.«01_k».proof.Proof.Gen.MemAttn.Frame
public import proofs.«01_k».proof.Proof.Gen.MemAttnIdeal
public import proofs.«01_k».proof.Proof.Gen.MemAttnIdeal.Skeleton
public import proofs.«01_k».proof.Proof.Gen.MemAttnIdeal.Launch
public import proofs.«01_k».proof.Proof.Gen.MemAttnIdeal.Points
public import proofs.«01_k».proof.Proof.Gen.MemAttnIdeal.Frame
public import proofs.«01_k».proof.Proof.Gen.MemAttnIdeal.Value
public import proofs.«01_k».proof.Proof.Gen.Pre_finite_memory
public import proofs.«01_k».proof.Proof.Gen.MemAttnRefIdeal
public import proofs.«01_k».proof.Proof.Gen.MemAttnRefIdeal.Run
public import proofs.«01_k».proof.Proof.Gen.MlaIn
public import proofs.«01_k».proof.Proof.Gen.MlaIn.Skeleton
public import proofs.«01_k».proof.Proof.Gen.MlaIn.Launch
public import proofs.«01_k».proof.Proof.Gen.MlaIn.Points
public import proofs.«01_k».proof.Proof.Gen.MlaIn.Frame
public import proofs.«01_k».proof.Proof.Gen.MlaInIdeal
public import proofs.«01_k».proof.Proof.Gen.MlaInIdeal.Skeleton
public import proofs.«01_k».proof.Proof.Gen.MlaInIdeal.Launch
public import proofs.«01_k».proof.Proof.Gen.MlaInIdeal.Points
public import proofs.«01_k».proof.Proof.Gen.MlaInIdeal.Frame
public import proofs.«01_k».proof.Proof.Gen.MlaInIdeal.Value
public import proofs.«01_k».proof.Proof.Gen.Pre_finite_mla_in
public import proofs.«01_k».proof.Proof.Gen.MlaInRefIdeal
public import proofs.«01_k».proof.Proof.Gen.MlaInRefIdeal.Run
public import proofs.«01_k».proof.Proof.Gen.KvUp
public import proofs.«01_k».proof.Proof.Gen.KvUp.Skeleton
public import proofs.«01_k».proof.Proof.Gen.KvUp.Launch
public import proofs.«01_k».proof.Proof.Gen.KvUp.Points
public import proofs.«01_k».proof.Proof.Gen.KvUp.Frame
public import proofs.«01_k».proof.Proof.Gen.KvUpIdeal
public import proofs.«01_k».proof.Proof.Gen.KvUpIdeal.Skeleton
public import proofs.«01_k».proof.Proof.Gen.KvUpIdeal.Launch
public import proofs.«01_k».proof.Proof.Gen.KvUpIdeal.Points
public import proofs.«01_k».proof.Proof.Gen.KvUpIdeal.Frame
public import proofs.«01_k».proof.Proof.Gen.KvUpIdeal.Value
public import proofs.«01_k».proof.Proof.Gen.KvUpRefIdeal
public import proofs.«01_k».proof.Proof.Gen.KvUpRefIdeal.Run
public import proofs.«01_k».proof.Proof.Gen.QUp
public import proofs.«01_k».proof.Proof.Gen.QUp.Skeleton
public import proofs.«01_k».proof.Proof.Gen.QUp.Launch
public import proofs.«01_k».proof.Proof.Gen.QUp.Points
public import proofs.«01_k».proof.Proof.Gen.QUp.Frame
public import proofs.«01_k».proof.Proof.Gen.QUpIdeal
public import proofs.«01_k».proof.Proof.Gen.QUpIdeal.Skeleton
public import proofs.«01_k».proof.Proof.Gen.QUpIdeal.Launch
public import proofs.«01_k».proof.Proof.Gen.QUpIdeal.Points
public import proofs.«01_k».proof.Proof.Gen.QUpIdeal.Frame
public import proofs.«01_k».proof.Proof.Gen.Pre_finite_q_up
public import proofs.«01_k».proof.Proof.Gen.QUpRefIdeal
public import proofs.«01_k».proof.Proof.Gen.QUpRefIdeal.Run
public import proofs.«01_k».proof.Proof.Gen.RopeTables
public import proofs.«01_k».proof.Proof.Gen.RopeTables.Skeleton
public import proofs.«01_k».proof.Proof.Gen.RopeTables.Launch
public import proofs.«01_k».proof.Proof.Gen.RopeTables.Points
public import proofs.«01_k».proof.Proof.Gen.RopeTables.Frame
public import proofs.«01_k».proof.Proof.Gen.RopeTablesIdeal
public import proofs.«01_k».proof.Proof.Gen.RopeTablesIdeal.Skeleton
public import proofs.«01_k».proof.Proof.Gen.RopeTablesIdeal.Launch
public import proofs.«01_k».proof.Proof.Gen.RopeTablesIdeal.Points
public import proofs.«01_k».proof.Proof.Gen.RopeTablesIdeal.Frame
public import proofs.«01_k».proof.Proof.Gen.RopeTablesRefIdeal
public import proofs.«01_k».proof.Proof.Gen.RopeTablesRefIdeal.Run
public import proofs.«01_k».proof.Proof.Gen.GdnGates
public import proofs.«01_k».proof.Proof.Gen.GdnGates.Skeleton
public import proofs.«01_k».proof.Proof.Gen.GdnGates.Launch
public import proofs.«01_k».proof.Proof.Gen.GdnGates.Points
public import proofs.«01_k».proof.Proof.Gen.GdnGates.Frame
public import proofs.«01_k».proof.Proof.Gen.GdnGatesIdeal
public import proofs.«01_k».proof.Proof.Gen.GdnGatesIdeal.Skeleton
public import proofs.«01_k».proof.Proof.Gen.GdnGatesIdeal.Launch
public import proofs.«01_k».proof.Proof.Gen.GdnGatesIdeal.Points
public import proofs.«01_k».proof.Proof.Gen.GdnGatesIdeal.Frame
public import proofs.«01_k».proof.Proof.Gen.GdnGatesRefIdeal
public import proofs.«01_k».proof.Proof.Gen.GdnGatesRefIdeal.Run
public import proofs.«01_k».proof.Proof.FlashValue
public import proofs.«01_k».proof.Proof.FlashRef
public import proofs.«01_k».proof.Proof.Finite
public import proofs.«01_k».proof.Proof.MlpValue
public import proofs.«01_k».proof.Proof.MlpRef
public import proofs.«01_k».proof.Proof.GdnInValue
public import proofs.«01_k».proof.Proof.GdnInRef
public import proofs.«01_k».proof.Proof.OutProjValue
public import proofs.«01_k».proof.Proof.OutProjRef
public import proofs.«01_k».proof.Proof.MemKvValue
public import proofs.«01_k».proof.Proof.MemKvRef
public import proofs.«01_k».proof.Proof.MemAttnValue
public import proofs.«01_k».proof.Proof.MemAttnRef
public import proofs.«01_k».proof.Proof.FiniteMemory
public import proofs.«01_k».proof.Proof.MlaInValue
public import proofs.«01_k».proof.Proof.MlaInRef
public import proofs.«01_k».proof.Proof.FiniteMlaIn
public import proofs.«01_k».proof.Proof.KvUpValue
public import proofs.«01_k».proof.Proof.KvUpRef
public import proofs.«01_k».proof.Proof.QUpValue
public import proofs.«01_k».proof.Proof.QUpRef
public import proofs.«01_k».proof.Proof.FiniteQUp
public import proofs.«01_k».proof.Proof.RopeTablesValue
public import proofs.«01_k».proof.Proof.RopeTablesRef
public import proofs.«01_k».proof.Proof.GdnGatesValue
public import proofs.«01_k».proof.Proof.GdnGatesRef
public import Idealize.ShloMosaic.Adequacy
public import Idealize.ShloMosaic.Init

@[expose] public section

set_option maxRecDepth 16384

noncomputable section

namespace Cert.Proof

open Idealize.ShloMosaic Idealize.SL.Sem

/-- The attention's reference runs and leaves its arguments. -/
theorem frame_flash_ref : Cert.quiescent_FlashRefIdeal := fun m g _ =>
  (θ_run Cert.FlashRefIdeal.defs _ _).mono (fun r h => ⟨fun c => (h c).2, sem_eq_zero_of_no_sems (by decide) r.2⟩)
    (Cert.FlashRefIdeal.Value.run m g)

/-- The same under its precondition. -/
theorem frame_flash_ref_pre : Cert.quiescent_FlashRefIdeal_pre_finite_scores
    (hPre_finite_scores := Cert.Pre_finite_scores.Val.facts) :=
  fun m g _ => frame_flash_ref m g trivial

/-- With finite queries and keys, the attention kernel and its reference return equal arrays. -/
theorem flash : Cert.algebraic_FlashIdeal_FlashRefIdeal_pre_finite_scores
    (hPre_finite_scores := Cert.Pre_finite_scores.Val.facts) := by
  pair_intro
  · run_from Cert.FlashIdeal.Gen.run_main m g
  · run_from Cert.FlashRefIdeal.Value.run m' g'
    obtain ⟨a0, a1, a2, a3⟩ := hagree c
    obtain ⟨hq, hn, hr⟩ := Cert.Pre_finite_scores.Val.reals (hpre c)
    refine (Cert.FlashRefIdeal.Value.out_eq m' c).trans (Eq.trans ?_ (Cert.FlashIdeal.Val.final m c).symm)
    rw [a0, a1, a2, a3]
    funext i
    obtain ⟨b, Q, e, rfl⟩ : ∃ (b : Fin 2) (Q : Fin 8192) (e : Fin 1536), i = ix3 b Q e := ⟨i 0, i 1, i 2, by
      funext a; fin_cases a <;> rfl⟩
    exact Cert.FlashRefIdeal.Value.mixed_eq _ _ _ _ b Q e hq hn hr

/-- The MLP's reference runs and leaves its arguments. -/
theorem frame_mlp_ref : Cert.quiescent_MlpRefIdeal := fun m g _ =>
  (θ_run Cert.MlpRefIdeal.defs _ _).mono (fun r h => ⟨fun c => (h c).2, sem_eq_zero_of_no_sems (by decide) r.2⟩)
    (Cert.MlpRefIdeal.Value.run m g)

/-- The MLP kernel and its reference return equal arrays. -/
theorem mlp : Cert.algebraic_MlpIdeal_MlpRefIdeal := by
  pair_intro
  · run_from Cert.MlpIdeal.Gen.run_main m g
  · run_from Cert.MlpRefIdeal.Value.run m' g'
    obtain ⟨a0, a1, a2, a3, a4⟩ := hagree c
    refine (Cert.MlpRefIdeal.Value.out_eq m' c).trans (Eq.trans ?_ (Cert.MlpIdeal.Val.final m c).symm)
    rw [a0, a1, a2, a3, a4]
    funext i
    obtain ⟨r, d, rfl⟩ : ∃ (r : Fin 16384) (d : Fin 2048), i = ix2 r d := ⟨i 0, i 1, by
      funext a; fin_cases a <;> rfl⟩
    exact Cert.MlpRefIdeal.Value.stages_at _ _ _ _ _ r d

/-- The gated delta layer's input projection's reference runs and leaves its arguments. -/
theorem frame_gdn_in_ref : Cert.quiescent_GdnInRefIdeal := fun m g _ =>
  (θ_run Cert.GdnInRefIdeal.defs _ _).mono (fun r h => ⟨fun c => (h c).2, sem_eq_zero_of_no_sems (by decide) r.2⟩)
    (Cert.GdnInRefIdeal.Value.run m g)

/-- The gated delta layer's input projection and its reference return equal arrays. -/
theorem gdn_in : Cert.algebraic_GdnInIdeal_GdnInRefIdeal := by
  pair_intro
  · run_from Cert.GdnInIdeal.Gen.run_main m g
  · run_from Cert.GdnInRefIdeal.Value.run m' g'
    obtain ⟨a0, a1⟩ := hagree c
    refine Eq.trans (b := Cert.GdnInRefIdeal.Value.laid (Cert.GdnInRefIdeal.Value.product (m ((c.tc : Thread Cert.GdnInIdeal.nD Cert.GdnInIdeal.τ).loc Cert.GdnInIdeal.main_arg0)) (m ((c.tc : Thread Cert.GdnInIdeal.nD Cert.GdnInIdeal.τ).loc Cert.GdnInIdeal.main_arg1)))) rfl (Eq.trans ?_ (Cert.GdnInIdeal.Val.final m c).symm)
    funext i
    obtain ⟨r, d, rfl⟩ : ∃ (r : Fin 16384) (d : Fin 6912), i = ix2 r d := ⟨i 0, i 1, by
      funext a; fin_cases a <;> rfl⟩
    exact Cert.GdnInRefIdeal.Value.laid_at _ _ r d

/-- The output projection's reference runs and leaves its arguments. -/
theorem frame_out_proj_ref : Cert.quiescent_OutProjRefIdeal := fun m g _ =>
  (θ_run Cert.OutProjRefIdeal.defs _ _).mono (fun r h => ⟨fun c => (h c).2, sem_eq_zero_of_no_sems (by decide) r.2⟩)
    (Cert.OutProjRefIdeal.Value.run m g)

/-- The output projection with its layer norm and its reference return equal arrays. -/
theorem out_proj : Cert.algebraic_OutProjIdeal_OutProjRefIdeal := by
  pair_intro
  · run_from Cert.OutProjIdeal.Gen.run_main m g
  · run_from Cert.OutProjRefIdeal.Value.run m' g'
    obtain ⟨a0, a1, a2, a3, a4, a5⟩ := hagree c
    refine (Cert.OutProjRefIdeal.Value.out_eq m' c).trans (Eq.trans ?_ (Cert.OutProjIdeal.Val.final m c).symm)
    rw [a0, a1, a2, a3, a4, a5]
    funext i
    obtain ⟨r, d, rfl⟩ : ∃ (r : Fin 16384) (d : Fin 2048), i = ix2 r d := ⟨i 0, i 1, by
      funext a; fin_cases a <;> rfl⟩
    exact Cert.OutProjRefIdeal.Value.stages_at _ _ _ _ _ _ r d

/-- The memory's projection's reference runs and leaves its arguments. -/
theorem frame_mem_kv_ref : Cert.quiescent_MemKvRefIdeal := fun m g _ =>
  (θ_run Cert.MemKvRefIdeal.defs _ _).mono (fun r h => ⟨fun c => (h c).2, sem_eq_zero_of_no_sems (by decide) r.2⟩)
    (Cert.MemKvRefIdeal.Value.run m g)

/-- The memory's projection and its reference return equal arrays. -/
theorem mem_kv : Cert.algebraic_MemKvIdeal_MemKvRefIdeal := by
  pair_intro
  · run_from Cert.MemKvIdeal.Gen.run_main m g
  · run_from Cert.MemKvRefIdeal.Value.run m' g'
    obtain ⟨a0, a1⟩ := hagree c
    refine Eq.trans (b := Cert.MemKvRefIdeal.Value.product (m ((c.tc : Thread Cert.MemKvIdeal.nD Cert.MemKvIdeal.τ).loc Cert.MemKvIdeal.main_arg0)) (m ((c.tc : Thread Cert.MemKvIdeal.nD Cert.MemKvIdeal.τ).loc Cert.MemKvIdeal.main_arg1))) rfl (Eq.trans ?_ (Cert.MemKvIdeal.Val.final m c).symm)
    funext i
    obtain ⟨r, d, rfl⟩ : ∃ (r : Fin 512) (d : Fin 1024), i = ix2 r d := ⟨i 0, i 1, by
      funext a; fin_cases a <;> rfl⟩
    exact Cert.MemKvRefIdeal.Value.product_at _ _ r d

/-- The attention over the memory's reference runs and leaves its arguments. -/
theorem frame_mem_attn_ref : Cert.quiescent_MemAttnRefIdeal := fun m g _ =>
  (θ_run Cert.MemAttnRefIdeal.defs _ _).mono (fun r h => ⟨fun c => (h c).2, sem_eq_zero_of_no_sems (by decide) r.2⟩)
    (Cert.MemAttnRefIdeal.Value.run m g)

/-- The same under its precondition. -/
theorem frame_mem_attn_ref_pre : Cert.quiescent_MemAttnRefIdeal_pre_finite_memory
    (hPre_finite_memory := Cert.Pre_finite_memory.Gen.facts) :=
  fun m g _ => frame_mem_attn_ref m g trivial

/-- With finite queries and keys, the attention over the memory and its reference return equal arrays. -/
theorem mem_attn : Cert.algebraic_MemAttnIdeal_MemAttnRefIdeal_pre_finite_memory
    (hPre_finite_memory := Cert.Pre_finite_memory.Gen.facts) := by
  pair_intro
  · run_from Cert.MemAttnIdeal.Gen.run_main m g
  · run_from Cert.MemAttnRefIdeal.Value.run m' g'
    obtain ⟨a0, a1⟩ := hagree c
    obtain ⟨hq, hk⟩ := Cert.Pre_finite_memory.Val.reals (hpre c)
    refine Eq.trans (b := Cert.MemAttnRefIdeal.Value.mixed (m ((c.tc : Thread Cert.MemAttnIdeal.nD Cert.MemAttnIdeal.τ).loc Cert.MemAttnIdeal.main_arg1)) (Cert.MemAttnRefIdeal.Value.scores (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)))) rfl (Eq.trans ?_ (Cert.MemAttnIdeal.Val.final m c).symm)
    funext i
    obtain ⟨b, Q, e, rfl⟩ : ∃ (b : Fin 2) (Q : Fin 8192) (e : Fin 512), i = ix3 b Q e := ⟨i 0, i 1, i 2, by
      funext a; fin_cases a <;> rfl⟩
    exact Cert.MemAttnRefIdeal.Value.mixed_eq _ _ hq hk b Q e

/-- The latent layers' input projection's reference runs and leaves its arguments. -/
theorem frame_mla_in_ref : Cert.quiescent_MlaInRefIdeal := fun m g _ =>
  (θ_run Cert.MlaInRefIdeal.defs _ _).mono (fun r h => ⟨fun c => (h c).2, sem_eq_zero_of_no_sems (by decide) r.2⟩)
    (Cert.MlaInRefIdeal.Value.run m g)

/-- The same under its precondition. -/
theorem frame_mla_in_ref_pre : Cert.quiescent_MlaInRefIdeal_pre_finite_mla_in
    (hPre_finite_mla_in := Cert.Pre_finite_mla_in.Gen.facts) :=
  fun m g _ => frame_mla_in_ref m g trivial

/-- With finite arguments, the latent layers' input projection and its reference return equal arrays. -/
theorem mla_in : Cert.algebraic_MlaInIdeal_MlaInRefIdeal_pre_finite_mla_in
    (hPre_finite_mla_in := Cert.Pre_finite_mla_in.Gen.facts) := by
  pair_intro
  · run_from Cert.MlaInIdeal.Gen.run_main m g
  · run_from Cert.MlaInRefIdeal.Value.run m' g'
    obtain ⟨a0, a1⟩ := hagree c
    obtain ⟨hx, hw⟩ := Cert.Pre_finite_mla_in.Val.reals (hpre c)
    refine Eq.trans (b := Cert.MlaInRefIdeal.Value.laid (Cert.MlaInRefIdeal.Value.product (m ((c.tc : Thread Cert.MlaInIdeal.nD Cert.MlaInIdeal.τ).loc Cert.MlaInIdeal.main_arg0)) (m ((c.tc : Thread Cert.MlaInIdeal.nD Cert.MlaInIdeal.τ).loc Cert.MlaInIdeal.main_arg1)))) rfl (Eq.trans ?_ (Cert.MlaInIdeal.Val.final m c hx hw).symm)
    funext i
    obtain ⟨r, d, rfl⟩ : ∃ (r : Fin 16384) (d : Fin 1664), i = ix2 r d := ⟨i 0, i 1, by
      funext a; fin_cases a <;> rfl⟩
    exact Cert.MlaInRefIdeal.Value.laid_at _ _ r d

/-- The up-projection to keys and values's reference runs and leaves its arguments. -/
theorem frame_kv_up_ref : Cert.quiescent_KvUpRefIdeal := fun m g _ =>
  (θ_run Cert.KvUpRefIdeal.defs _ _).mono (fun r h => ⟨fun c => (h c).2.2.2, sem_eq_zero_of_no_sems (by decide) r.2⟩)
    (Cert.KvUpRefIdeal.Value.run m g)

set_option maxHeartbeats 2000000 in
/-- The keys' and values' up-projection and its reference return equal arrays. -/
theorem kv_up : Cert.algebraic_KvUpIdeal_KvUpRefIdeal := by
  pair_intro
  · run_from Cert.KvUpIdeal.Gen.run_main m g
    all_goals first | exact Cert.KvUpIdeal.Gen.V_main_arg0 m c | exact Cert.KvUpIdeal.Gen.V_main_arg1 m c | exact Cert.KvUpIdeal.Gen.V_main_arg2 m c | exact Cert.KvUpIdeal.Gen.V_main_arg3 m c | exact Cert.KvUpIdeal.Gen.V_main_arg4 m c
  · refine Idealize.ShloMosaic.θ_run_mono (Cert.KvUpRefIdeal.Value.run (F := Idealize.ShloMosaic.Ideal) m' g') fun r hr c => ?_
    obtain ⟨a0, a1, a2, a3, a4⟩ := hagree c
    obtain ⟨h0, h1, h2, kept⟩ := hr c
    refine ⟨h0.trans ?_, h1.trans ?_, h2.trans ?_, kept⟩
    · refine Eq.trans (b := Cert.KvUpRefIdeal.Value.keys (Cert.KvUpRefIdeal.Value.product (m' ((c.tc : Thread Cert.KvUpRefIdeal.nD Cert.KvUpRefIdeal.τ).loc Cert.KvUpRefIdeal.main_arg1)) (m' ((c.tc : Thread Cert.KvUpRefIdeal.nD Cert.KvUpRefIdeal.τ).loc Cert.KvUpRefIdeal.main_arg2)) (Cert.KvUpRefIdeal.Value.latents (m' ((c.tc : Thread Cert.KvUpRefIdeal.nD Cert.KvUpRefIdeal.τ).loc Cert.KvUpRefIdeal.main_arg0))))) rfl (Eq.trans ?_ (Cert.KvUpIdeal.Val.keys m c).symm)
      rw [a0, a1, a2]
      funext i
      obtain ⟨r, e, rfl⟩ : ∃ (r : Fin 16384) (e : Fin 1536), i = ix2 r e := ⟨i 0, i 1, by
        funext a; fin_cases a <;> rfl⟩
      exact Cert.KvUpRefIdeal.Value.key_at _ _ _ r e
    · refine Eq.trans (b := Cert.KvUpRefIdeal.Value.values (Cert.KvUpRefIdeal.Value.product (m' ((c.tc : Thread Cert.KvUpRefIdeal.nD Cert.KvUpRefIdeal.τ).loc Cert.KvUpRefIdeal.main_arg1)) (m' ((c.tc : Thread Cert.KvUpRefIdeal.nD Cert.KvUpRefIdeal.τ).loc Cert.KvUpRefIdeal.main_arg2)) (Cert.KvUpRefIdeal.Value.latents (m' ((c.tc : Thread Cert.KvUpRefIdeal.nD Cert.KvUpRefIdeal.τ).loc Cert.KvUpRefIdeal.main_arg0))))) rfl (Eq.trans ?_ (Cert.KvUpIdeal.Val.values m c).symm)
      rw [a0, a1, a2]
      funext i
      obtain ⟨r, e, rfl⟩ : ∃ (r : Fin 16384) (e : Fin 1536), i = ix2 r e := ⟨i 0, i 1, by
        funext a; fin_cases a <;> rfl⟩
      exact Cert.KvUpRefIdeal.Value.value_at _ _ _ r e
    · refine Eq.trans (b := Cert.KvUpRefIdeal.Value.rope (Cert.KvUpRefIdeal.Value.turned (m' ((c.tc : Thread Cert.KvUpRefIdeal.nD Cert.KvUpRefIdeal.τ).loc Cert.KvUpRefIdeal.main_arg0)) (m' ((c.tc : Thread Cert.KvUpRefIdeal.nD Cert.KvUpRefIdeal.τ).loc Cert.KvUpRefIdeal.main_arg3)) (m' ((c.tc : Thread Cert.KvUpRefIdeal.nD Cert.KvUpRefIdeal.τ).loc Cert.KvUpRefIdeal.main_arg4)))) rfl (Eq.trans ?_ (Cert.KvUpIdeal.Val.rotaries m c).symm)
      rw [a0, a3, a4]
      funext i
      obtain ⟨r, e, rfl⟩ : ∃ (r : Fin 16384) (e : Fin 128), i = ix2 r e := ⟨i 0, i 1, by
        funext a; fin_cases a <;> rfl⟩
      exact Cert.KvUpRefIdeal.Value.rotary_at _ _ _ r e

/-- The up-projection to queries's reference runs and leaves its arguments. -/
theorem frame_q_up_ref : Cert.quiescent_QUpRefIdeal := fun m g _ =>
  (θ_run Cert.QUpRefIdeal.defs _ _).mono (fun r h => ⟨fun c => (h c).2, sem_eq_zero_of_no_sems (by decide) r.2⟩)
    (Cert.QUpRefIdeal.Value.run m g)

/-- The same under its precondition. -/
theorem frame_q_up_ref_pre : Cert.quiescent_QUpRefIdeal_pre_finite_q_up
    (hPre_finite_q_up := Cert.Pre_finite_q_up.Gen.facts) :=
  fun m g _ => frame_q_up_ref m g trivial

set_option maxHeartbeats 2000000 in
/-- With finite latents, gain and weights, the queries' up-projection and its reference return equal arrays. -/
theorem q_up : Cert.algebraic_QUpIdeal_QUpRefIdeal_pre_finite_q_up
    (hPre_finite_q_up := Cert.Pre_finite_q_up.Gen.facts) := by
  pair_intro
  · run_from Cert.QUpIdeal.Gen.run_main m g
    all_goals first | exact Cert.QUpIdeal.Gen.V_main_arg0 m c | exact Cert.QUpIdeal.Gen.V_main_arg1 m c | exact Cert.QUpIdeal.Gen.V_main_arg2 m c | exact Cert.QUpIdeal.Gen.V_main_arg3 m c | exact Cert.QUpIdeal.Gen.V_main_arg4 m c
  · refine Idealize.ShloMosaic.θ_run_mono (Cert.QUpRefIdeal.Value.run (F := Idealize.ShloMosaic.Ideal) m' g') fun r hr c => ?_
    obtain ⟨a0, a1, a2, a3, a4⟩ := hagree c
    obtain ⟨hx, hn, hw⟩ := Cert.Pre_finite_q_up.Val.reals (hpre c)
    obtain ⟨h0, kept⟩ := hr c
    refine ⟨h0.trans ?_, kept⟩
    refine (Cert.QUpRefIdeal.Value.out_eq m' c).trans (Eq.trans ?_ (Cert.QUpIdeal.Val.final m c hx hn hw).symm)
    rw [a0, a1, a2, a3, a4]
    funext i
    obtain ⟨r, d, rfl⟩ : ∃ (r : Fin 16384) (d : Fin 3072), i = ix2 r d := ⟨i 0, i 1, by
      funext a; fin_cases a <;> rfl⟩
    exact Cert.QUpRefIdeal.Value.query_at _ _ _ _ _ r d

/-- The tables' kernel's reference runs and leaves its arguments. -/
theorem frame_rope_tables_ref : Cert.quiescent_RopeTablesRefIdeal := fun m g _ =>
  (θ_run Cert.RopeTablesRefIdeal.defs _ _).mono (fun r h => ⟨fun c => (h c).2.2, sem_eq_zero_of_no_sems (by decide) r.2⟩)
    (Cert.RopeTablesRefIdeal.Value.run m g)

set_option maxHeartbeats 2000000 in
/-- The rotary tables' kernel and its reference return equal arrays. -/
theorem rope_tables : Cert.algebraic_RopeTablesIdeal_RopeTablesRefIdeal := by
  pair_intro
  · run_from Cert.RopeTablesIdeal.Gen.run_main m g
    all_goals first | exact Cert.RopeTablesIdeal.Gen.V_main_arg0 m c
  · refine Idealize.ShloMosaic.θ_run_mono (Cert.RopeTablesRefIdeal.Value.run (F := Idealize.ShloMosaic.Ideal) m' g') fun r hr c => ?_
    have a0 := hagree c
    obtain ⟨h0, h1, kept⟩ := hr c
    refine ⟨h0.trans ?_, h1.trans ?_, kept⟩
    · refine Eq.trans (b := Cert.RopeTablesRefIdeal.Value.twice (Cert.RopeTablesRefIdeal.Value.coss (Cert.RopeTablesRefIdeal.Value.angles (m' ((c.tc : Thread Cert.RopeTablesRefIdeal.nD Cert.RopeTablesRefIdeal.τ).loc Cert.RopeTablesRefIdeal.main_arg0)) Cert.RopeTablesRefIdeal.Value.inv))) rfl (Eq.trans ?_ (Cert.RopeTablesIdeal.Val.cosines m c).symm)
      rw [a0]
      funext i
      obtain ⟨r, e, rfl⟩ : ∃ (r : Fin 16384) (e : Fin 128), i = ix2 r e := ⟨i 0, i 1, by
        funext a; fin_cases a <;> rfl⟩
      exact Cert.RopeTablesRefIdeal.Value.cos_at _ r e
    · refine Eq.trans (b := Cert.RopeTablesRefIdeal.Value.twice (Cert.RopeTablesRefIdeal.Value.sins (Cert.RopeTablesRefIdeal.Value.angles (m' ((c.tc : Thread Cert.RopeTablesRefIdeal.nD Cert.RopeTablesRefIdeal.τ).loc Cert.RopeTablesRefIdeal.main_arg0)) Cert.RopeTablesRefIdeal.Value.inv))) rfl (Eq.trans ?_ (Cert.RopeTablesIdeal.Val.sines m c).symm)
      rw [a0]
      funext i
      obtain ⟨r, e, rfl⟩ : ∃ (r : Fin 16384) (e : Fin 128), i = ix2 r e := ⟨i 0, i 1, by
        funext a; fin_cases a <;> rfl⟩
      exact Cert.RopeTablesRefIdeal.Value.sin_at _ r e

/-- The gates' kernel's reference runs and leaves its arguments. -/
theorem frame_gdn_gates_ref : Cert.quiescent_GdnGatesRefIdeal := fun m g _ =>
  (θ_run Cert.GdnGatesRefIdeal.defs _ _).mono (fun r h => ⟨fun c => (h c).2.2, sem_eq_zero_of_no_sems (by decide) r.2⟩)
    (Cert.GdnGatesRefIdeal.Value.run m g)

set_option maxHeartbeats 2000000 in
/-- The gates' kernel and its reference return equal arrays. -/
theorem gdn_gates : Cert.algebraic_GdnGatesIdeal_GdnGatesRefIdeal := by
  pair_intro
  · run_from Cert.GdnGatesIdeal.Gen.run_main m g
    all_goals first | exact Cert.GdnGatesIdeal.Gen.V_main_arg0 m c | exact Cert.GdnGatesIdeal.Gen.W_main_arg1 m _ c | exact Cert.GdnGatesIdeal.Gen.W_main_arg2 m _ c
  · refine Idealize.ShloMosaic.θ_run_mono (Cert.GdnGatesRefIdeal.Value.run (F := Idealize.ShloMosaic.Ideal) m' g') fun r hr c => ?_
    obtain ⟨a0, a1, a2⟩ := hagree c
    obtain ⟨h0, h1, kept⟩ := hr c
    refine ⟨h0.trans ?_, h1.trans ?_, kept⟩
    · refine Eq.trans (b := Cert.GdnGatesRefIdeal.Value.decays (m' ((c.tc : Thread Cert.GdnGatesRefIdeal.nD Cert.GdnGatesRefIdeal.τ).loc Cert.GdnGatesRefIdeal.main_arg0)) (m' ((c.tc : Thread Cert.GdnGatesRefIdeal.nD Cert.GdnGatesRefIdeal.τ).loc Cert.GdnGatesRefIdeal.main_arg1)) (m' ((c.tc : Thread Cert.GdnGatesRefIdeal.nD Cert.GdnGatesRefIdeal.τ).loc Cert.GdnGatesRefIdeal.main_arg2))) rfl ?_
      rw [a0, a1, a2]
      funext i
      obtain ⟨r, e, rfl⟩ : ∃ (r : Fin 16384) (e : Fin 12), i = ix2 r e := ⟨i 0, i 1, by
        funext a; fin_cases a <;> rfl⟩
      exact (Cert.GdnGatesRefIdeal.Value.decays_at _ _ _ r e).trans ((congrFun (Cert.GdnGatesIdeal.Val.tail_decays m c) (ix2 r e)).trans (Cert.GdnGatesIdeal.Val.decays_at m c r e)).symm
    · refine Eq.trans (b := Cert.GdnGatesRefIdeal.Value.steps (m' ((c.tc : Thread Cert.GdnGatesRefIdeal.nD Cert.GdnGatesRefIdeal.τ).loc Cert.GdnGatesRefIdeal.main_arg0))) rfl ?_
      rw [a0]
      funext i
      obtain ⟨r, e, rfl⟩ : ∃ (r : Fin 16384) (e : Fin 12), i = ix2 r e := ⟨i 0, i 1, by
        funext a; fin_cases a <;> rfl⟩
      exact (Cert.GdnGatesRefIdeal.Value.steps_at _ r e).trans ((congrFun (Cert.GdnGatesIdeal.Val.tail_steps m c) (ix2 r e)).trans (Cert.GdnGatesIdeal.Val.steps_at m c r e)).symm

/-- All the claims. -/
theorem claim : Cert.Claim := ⟨Cert.Flash.Gen.facts,
  Cert.FlashIdeal.Gen.facts,
  Cert.FlashRefIdeal.Gen.facts,
  Cert.Mlp.Gen.facts,
  Cert.MlpIdeal.Gen.facts,
  Cert.MlpRefIdeal.Gen.facts,
  Cert.GdnIn.Gen.facts,
  Cert.GdnInIdeal.Gen.facts,
  Cert.GdnInRefIdeal.Gen.facts,
  Cert.OutProj.Gen.facts,
  Cert.OutProjIdeal.Gen.facts,
  Cert.OutProjRefIdeal.Gen.facts,
  Cert.MemKv.Gen.facts,
  Cert.MemKvIdeal.Gen.facts,
  Cert.MemKvRefIdeal.Gen.facts,
  Cert.MemAttn.Gen.facts,
  Cert.MemAttnIdeal.Gen.facts,
  Cert.MemAttnRefIdeal.Gen.facts,
  Cert.MlaIn.Gen.facts,
  Cert.MlaInIdeal.Gen.facts,
  Cert.MlaInRefIdeal.Gen.facts,
  Cert.KvUp.Gen.facts,
  Cert.KvUpIdeal.Gen.facts,
  Cert.KvUpRefIdeal.Gen.facts,
  Cert.QUp.Gen.facts,
  Cert.QUpIdeal.Gen.facts,
  Cert.QUpRefIdeal.Gen.facts,
  Cert.RopeTables.Gen.facts,
  Cert.RopeTablesIdeal.Gen.facts,
  Cert.RopeTablesRefIdeal.Gen.facts,
  Cert.GdnGates.Gen.facts,
  Cert.GdnGatesIdeal.Gen.facts,
  Cert.GdnGatesRefIdeal.Gen.facts,
  Cert.Pre_finite_scores.Val.facts,
  Cert.Pre_finite_memory.Gen.facts,
  Cert.Pre_finite_mla_in.Gen.facts,
  Cert.Pre_finite_q_up.Gen.facts,
  fun m ρ _ => Cert.Flash.Gen.frame m ρ,
  fun m ρ _ => Cert.FlashIdeal.Gen.frame m ρ,
  fun m ρ _ => Cert.FlashIdeal.Gen.frame m ρ,
  frame_flash_ref,
  frame_flash_ref_pre,
  fun m ρ _ => Cert.Mlp.Gen.frame m ρ,
  fun m ρ _ => Cert.MlpIdeal.Gen.frame m ρ,
  frame_mlp_ref,
  fun m ρ _ => Cert.GdnIn.Gen.frame m ρ,
  fun m ρ _ => Cert.GdnInIdeal.Gen.frame m ρ,
  frame_gdn_in_ref,
  fun m ρ _ => Cert.OutProj.Gen.frame m ρ,
  fun m ρ _ => Cert.OutProjIdeal.Gen.frame m ρ,
  frame_out_proj_ref,
  fun m ρ _ => Cert.MemKv.Gen.frame m ρ,
  fun m ρ _ => Cert.MemKvIdeal.Gen.frame m ρ,
  frame_mem_kv_ref,
  fun m ρ _ => Cert.MemAttn.Gen.frame m ρ,
  fun m ρ _ => Cert.MemAttnIdeal.Gen.frame m ρ,
  fun m ρ _ => Cert.MemAttnIdeal.Gen.frame m ρ,
  frame_mem_attn_ref,
  frame_mem_attn_ref_pre,
  fun m ρ _ => Cert.MlaIn.Gen.frame m ρ,
  fun m ρ _ => Cert.MlaInIdeal.Gen.frame m ρ,
  fun m ρ _ => Cert.MlaInIdeal.Gen.frame m ρ,
  frame_mla_in_ref,
  frame_mla_in_ref_pre,
  fun m ρ _ => Cert.KvUp.Gen.frame m ρ,
  fun m ρ _ => Cert.KvUpIdeal.Gen.frame m ρ,
  frame_kv_up_ref,
  fun m ρ _ => Cert.QUp.Gen.frame m ρ,
  fun m ρ _ => Cert.QUpIdeal.Gen.frame m ρ,
  fun m ρ _ => Cert.QUpIdeal.Gen.frame m ρ,
  frame_q_up_ref,
  frame_q_up_ref_pre,
  fun m ρ _ => Cert.RopeTables.Gen.frame m ρ,
  fun m ρ _ => Cert.RopeTablesIdeal.Gen.frame m ρ,
  frame_rope_tables_ref,
  fun m ρ _ => Cert.GdnGates.Gen.frame m ρ,
  fun m ρ _ => Cert.GdnGatesIdeal.Gen.frame m ρ,
  frame_gdn_gates_ref,
  trivial,
  flash,
  trivial,
  mlp,
  trivial,
  gdn_in,
  trivial,
  out_proj,
  trivial,
  mem_kv,
  trivial,
  mem_attn,
  trivial,
  mla_in,
  trivial,
  kv_up,
  trivial,
  q_up,
  trivial,
  rope_tables,
  trivial,
  gdn_gates⟩

end Cert.Proof

end
